-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_RetQkv (m : (ℓ : Loc Cert.RetQkv.nD Cert.RetQkv.τ Cert.RetQkv.sig) → Buf (Elt Bits) ℓ) : Prop :=
  True

def Pre_RetQkvIdeal (m : (ℓ : Loc Cert.RetQkvIdeal.nD Cert.RetQkvIdeal.τ Cert.RetQkvIdeal.sig) → Buf (Elt Ideal) ℓ) : Prop :=
  True

def Pre_RetQkvRefIdeal (m : (ℓ : Loc Cert.RetQkvRefIdeal.nD Cert.RetQkvRefIdeal.τ Cert.RetQkvRefIdeal.sig) → Buf (Elt Ideal) ℓ) : Prop :=
  True

def Pre_SwaQkv (m : (ℓ : Loc Cert.SwaQkv.nD Cert.SwaQkv.τ Cert.SwaQkv.sig) → Buf (Elt Bits) ℓ) : Prop :=
  True

def Pre_SwaQkvIdeal (m : (ℓ : Loc Cert.SwaQkvIdeal.nD Cert.SwaQkvIdeal.τ Cert.SwaQkvIdeal.sig) → Buf (Elt Ideal) ℓ) : Prop :=
  True

def Pre_SwaQkvRefIdeal (m : (ℓ : Loc Cert.SwaQkvRefIdeal.nD Cert.SwaQkvRefIdeal.τ Cert.SwaQkvRefIdeal.sig) → Buf (Elt Ideal) ℓ) : Prop :=
  True

def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionRefIdeal (m : (ℓ : Loc Cert.RetentionRefIdeal.nD Cert.RetentionRefIdeal.τ Cert.RetentionRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7)
      ∧ r.2.mem ((c.tc : Thread Cert.Gates.nD Cert.Gates.τ).loc Cert.Gates.main_arg8) = m ((c.tc : Thread Cert.Gates.nD Cert.Gates.τ).loc Cert.Gates.main_arg8))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
      ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7)
      ∧ r.2.mem ((c.tc : Thread Cert.GatesRefIdeal.nD Cert.GatesRefIdeal.τ).loc Cert.GatesRefIdeal.main_arg8) = m ((c.tc : Thread Cert.GatesRefIdeal.nD Cert.GatesRefIdeal.τ).loc Cert.GatesRefIdeal.main_arg8))
      ∧ r.2.sem = fun _ => 0)

def quiescent_RetQkv [hRetQkv : Cert.RetQkv.Facts] : Prop :=
  ∀ (m : (ℓ : Loc Cert.RetQkv.nD Cert.RetQkv.τ Cert.RetQkv.sig) → Buf (Elt Bits) ℓ) (g : Dev Cert.RetQkv.nD → PrngReg), Pre_RetQkv m →
    θ_run (Cert.RetQkv.defs (F := Bits)) (onTc (τ := Cert.RetQkv.τ) (Cert.RetQkv.main (F := Bits))) ⟨m, fun _ => 0, g⟩ (fun r => (∀ c : Dev Cert.RetQkv.nD,
      r.2.mem ((c.tc : Thread Cert.RetQkv.nD Cert.RetQkv.τ).loc Cert.RetQkv.main_arg0) = m ((c.tc : Thread Cert.RetQkv.nD Cert.RetQkv.τ).loc Cert.RetQkv.main_arg0)
      ∧ r.2.mem ((c.tc : Thread Cert.RetQkv.nD Cert.RetQkv.τ).loc Cert.RetQkv.main_arg1) = m ((c.tc : Thread Cert.RetQkv.nD Cert.RetQkv.τ).loc Cert.RetQkv.main_arg1)
      ∧ r.2.mem ((c.tc : Thread Cert.RetQkv.nD Cert.RetQkv.τ).loc Cert.RetQkv.main_arg2) = m ((c.tc : Thread Cert.RetQkv.nD Cert.RetQkv.τ).loc Cert.RetQkv.main_arg2)
      ∧ r.2.mem ((c.tc : Thread Cert.RetQkv.nD Cert.RetQkv.τ).loc Cert.RetQkv.main_arg3) = m ((c.tc : Thread Cert.RetQkv.nD Cert.RetQkv.τ).loc Cert.RetQkv.main_arg3)
      ∧ r.2.mem ((c.tc : Thread Cert.RetQkv.nD Cert.RetQkv.τ).loc Cert.RetQkv.main_arg4) = m ((c.tc : Thread Cert.RetQkv.nD Cert.RetQkv.τ).loc Cert.RetQkv.main_arg4)
      ∧ r.2.mem ((c.tc : Thread Cert.RetQkv.nD Cert.RetQkv.τ).loc Cert.RetQkv.main_arg5) = m ((c.tc : Thread Cert.RetQkv.nD Cert.RetQkv.τ).loc Cert.RetQkv.main_arg5)
      ∧ r.2.mem ((c.tc : Thread Cert.RetQkv.nD Cert.RetQkv.τ).loc Cert.RetQkv.main_arg6) = m ((c.tc : Thread Cert.RetQkv.nD Cert.RetQkv.τ).loc Cert.RetQkv.main_arg6)
      ∧ r.2.mem ((c.tc : Thread Cert.RetQkv.nD Cert.RetQkv.τ).loc Cert.RetQkv.main_arg7) = m ((c.tc : Thread Cert.RetQkv.nD Cert.RetQkv.τ).loc Cert.RetQkv.main_arg7)
      ∧ r.2.mem ((c.tc : Thread Cert.RetQkv.nD Cert.RetQkv.τ).loc Cert.RetQkv.main_arg8) = m ((c.tc : Thread Cert.RetQkv.nD Cert.RetQkv.τ).loc Cert.RetQkv.main_arg8))
      ∧ r.2.sem = fun _ => 0)

def quiescent_RetQkvIdeal [hRetQkvIdeal : Cert.RetQkvIdeal.Facts] : Prop :=
  ∀ (m : (ℓ : Loc Cert.RetQkvIdeal.nD Cert.RetQkvIdeal.τ Cert.RetQkvIdeal.sig) → Buf (Elt Ideal) ℓ) (g : Dev Cert.RetQkvIdeal.nD → PrngReg), Pre_RetQkvIdeal m →
    θ_run (Cert.RetQkvIdeal.defs (F := Ideal)) (onTc (τ := Cert.RetQkvIdeal.τ) (Cert.RetQkvIdeal.main (F := Ideal))) ⟨m, fun _ => 0, g⟩ (fun r => (∀ c : Dev Cert.RetQkvIdeal.nD,
      r.2.mem ((c.tc : Thread Cert.RetQkvIdeal.nD Cert.RetQkvIdeal.τ).loc Cert.RetQkvIdeal.main_arg0) = m ((c.tc : Thread Cert.RetQkvIdeal.nD Cert.RetQkvIdeal.τ).loc Cert.RetQkvIdeal.main_arg0)
      ∧ r.2.mem ((c.tc : Thread Cert.RetQkvIdeal.nD Cert.RetQkvIdeal.τ).loc Cert.RetQkvIdeal.main_arg1) = m ((c.tc : Thread Cert.RetQkvIdeal.nD Cert.RetQkvIdeal.τ).loc Cert.RetQkvIdeal.main_arg1)
      ∧ r.2.mem ((c.tc : Thread Cert.RetQkvIdeal.nD Cert.RetQkvIdeal.τ).loc Cert.RetQkvIdeal.main_arg2) = m ((c.tc : Thread Cert.RetQkvIdeal.nD Cert.RetQkvIdeal.τ).loc Cert.RetQkvIdeal.main_arg2)
      ∧ r.2.mem ((c.tc : Thread Cert.RetQkvIdeal.nD Cert.RetQkvIdeal.τ).loc Cert.RetQkvIdeal.main_arg3) = m ((c.tc : Thread Cert.RetQkvIdeal.nD Cert.RetQkvIdeal.τ).loc Cert.RetQkvIdeal.main_arg3)
      ∧ r.2.mem ((c.tc : Thread Cert.RetQkvIdeal.nD Cert.RetQkvIdeal.τ).loc Cert.RetQkvIdeal.main_arg4) = m ((c.tc : Thread Cert.RetQkvIdeal.nD Cert.RetQkvIdeal.τ).loc Cert.RetQkvIdeal.main_arg4)
      ∧ r.2.mem ((c.tc : Thread Cert.RetQkvIdeal.nD Cert.RetQkvIdeal.τ).loc Cert.RetQkvIdeal.main_arg5) = m ((c.tc : Thread Cert.RetQkvIdeal.nD Cert.RetQkvIdeal.τ).loc Cert.RetQkvIdeal.main_arg5)
      ∧ r.2.mem ((c.tc : Thread Cert.RetQkvIdeal.nD Cert.RetQkvIdeal.τ).loc Cert.RetQkvIdeal.main_arg6) = m ((c.tc : Thread Cert.RetQkvIdeal.nD Cert.RetQkvIdeal.τ).loc Cert.RetQkvIdeal.main_arg6)
      ∧ r.2.mem ((c.tc : Thread Cert.RetQkvIdeal.nD Cert.RetQkvIdeal.τ).loc Cert.RetQkvIdeal.main_arg7) = m ((c.tc : Thread Cert.RetQkvIdeal.nD Cert.RetQkvIdeal.τ).loc Cert.RetQkvIdeal.main_arg7)
      ∧ r.2.mem ((c.tc : Thread Cert.RetQkvIdeal.nD Cert.RetQkvIdeal.τ).loc Cert.RetQkvIdeal.main_arg8) = m ((c.tc : Thread Cert.RetQkvIdeal.nD Cert.RetQkvIdeal.τ).loc Cert.RetQkvIdeal.main_arg8))
      ∧ r.2.sem = fun _ => 0)

def quiescent_RetQkvRefIdeal [hRetQkvRefIdeal : Cert.RetQkvRefIdeal.Facts] : Prop :=
  ∀ (m : (ℓ : Loc Cert.RetQkvRefIdeal.nD Cert.RetQkvRefIdeal.τ Cert.RetQkvRefIdeal.sig) → Buf (Elt Ideal) ℓ) (g : Dev Cert.RetQkvRefIdeal.nD → PrngReg), Pre_RetQkvRefIdeal m →
    θ_run (Cert.RetQkvRefIdeal.defs (F := Ideal)) (onTc (τ := Cert.RetQkvRefIdeal.τ) (Cert.RetQkvRefIdeal.main (F := Ideal))) ⟨m, fun _ => 0, g⟩ (fun r => (∀ c : Dev Cert.RetQkvRefIdeal.nD,
      r.2.mem ((c.tc : Thread Cert.RetQkvRefIdeal.nD Cert.RetQkvRefIdeal.τ).loc Cert.RetQkvRefIdeal.main_arg0) = m ((c.tc : Thread Cert.RetQkvRefIdeal.nD Cert.RetQkvRefIdeal.τ).loc Cert.RetQkvRefIdeal.main_arg0)
      ∧ r.2.mem ((c.tc : Thread Cert.RetQkvRefIdeal.nD Cert.RetQkvRefIdeal.τ).loc Cert.RetQkvRefIdeal.main_arg1) = m ((c.tc : Thread Cert.RetQkvRefIdeal.nD Cert.RetQkvRefIdeal.τ).loc Cert.RetQkvRefIdeal.main_arg1)
      ∧ r.2.mem ((c.tc : Thread Cert.RetQkvRefIdeal.nD Cert.RetQkvRefIdeal.τ).loc Cert.RetQkvRefIdeal.main_arg2) = m ((c.tc : Thread Cert.RetQkvRefIdeal.nD Cert.RetQkvRefIdeal.τ).loc Cert.RetQkvRefIdeal.main_arg2)
      ∧ r.2.mem ((c.tc : Thread Cert.RetQkvRefIdeal.nD Cert.RetQkvRefIdeal.τ).loc Cert.RetQkvRefIdeal.main_arg3) = m ((c.tc : Thread Cert.RetQkvRefIdeal.nD Cert.RetQkvRefIdeal.τ).loc Cert.RetQkvRefIdeal.main_arg3)
      ∧ r.2.mem ((c.tc : Thread Cert.RetQkvRefIdeal.nD Cert.RetQkvRefIdeal.τ).loc Cert.RetQkvRefIdeal.main_arg4) = m ((c.tc : Thread Cert.RetQkvRefIdeal.nD Cert.RetQkvRefIdeal.τ).loc Cert.RetQkvRefIdeal.main_arg4)
      ∧ r.2.mem ((c.tc : Thread Cert.RetQkvRefIdeal.nD Cert.RetQkvRefIdeal.τ).loc Cert.RetQkvRefIdeal.main_arg5) = m ((c.tc : Thread Cert.RetQkvRefIdeal.nD Cert.RetQkvRefIdeal.τ).loc Cert.RetQkvRefIdeal.main_arg5)
      ∧ r.2.mem ((c.tc : Thread Cert.RetQkvRefIdeal.nD Cert.RetQkvRefIdeal.τ).loc Cert.RetQkvRefIdeal.main_arg6) = m ((c.tc : Thread Cert.RetQkvRefIdeal.nD Cert.RetQkvRefIdeal.τ).loc Cert.RetQkvRefIdeal.main_arg6)
      ∧ r.2.mem ((c.tc : Thread Cert.RetQkvRefIdeal.nD Cert.RetQkvRefIdeal.τ).loc Cert.RetQkvRefIdeal.main_arg7) = m ((c.tc : Thread Cert.RetQkvRefIdeal.nD Cert.RetQkvRefIdeal.τ).loc Cert.RetQkvRefIdeal.main_arg7)
      ∧ r.2.mem ((c.tc : Thread Cert.RetQkvRefIdeal.nD Cert.RetQkvRefIdeal.τ).loc Cert.RetQkvRefIdeal.main_arg8) = m ((c.tc : Thread Cert.RetQkvRefIdeal.nD Cert.RetQkvRefIdeal.τ).loc Cert.RetQkvRefIdeal.main_arg8))
      ∧ r.2.sem = fun _ => 0)

def quiescent_SwaQkv [hSwaQkv : Cert.SwaQkv.Facts] : Prop :=
  ∀ (m : (ℓ : Loc Cert.SwaQkv.nD Cert.SwaQkv.τ Cert.SwaQkv.sig) → Buf (Elt Bits) ℓ) (g : Dev Cert.SwaQkv.nD → PrngReg), Pre_SwaQkv m →
    θ_run (Cert.SwaQkv.defs (F := Bits)) (onTc (τ := Cert.SwaQkv.τ) (Cert.SwaQkv.main (F := Bits))) ⟨m, fun _ => 0, g⟩ (fun r => (∀ c : Dev Cert.SwaQkv.nD,
      r.2.mem ((c.tc : Thread Cert.SwaQkv.nD Cert.SwaQkv.τ).loc Cert.SwaQkv.main_arg0) = m ((c.tc : Thread Cert.SwaQkv.nD Cert.SwaQkv.τ).loc Cert.SwaQkv.main_arg0)
      ∧ r.2.mem ((c.tc : Thread Cert.SwaQkv.nD Cert.SwaQkv.τ).loc Cert.SwaQkv.main_arg1) = m ((c.tc : Thread Cert.SwaQkv.nD Cert.SwaQkv.τ).loc Cert.SwaQkv.main_arg1)
      ∧ r.2.mem ((c.tc : Thread Cert.SwaQkv.nD Cert.SwaQkv.τ).loc Cert.SwaQkv.main_arg2) = m ((c.tc : Thread Cert.SwaQkv.nD Cert.SwaQkv.τ).loc Cert.SwaQkv.main_arg2)
      ∧ r.2.mem ((c.tc : Thread Cert.SwaQkv.nD Cert.SwaQkv.τ).loc Cert.SwaQkv.main_arg3) = m ((c.tc : Thread Cert.SwaQkv.nD Cert.SwaQkv.τ).loc Cert.SwaQkv.main_arg3)
      ∧ r.2.mem ((c.tc : Thread Cert.SwaQkv.nD Cert.SwaQkv.τ).loc Cert.SwaQkv.main_arg4) = m ((c.tc : Thread Cert.SwaQkv.nD Cert.SwaQkv.τ).loc Cert.SwaQkv.main_arg4)
      ∧ r.2.mem ((c.tc : Thread Cert.SwaQkv.nD Cert.SwaQkv.τ).loc Cert.SwaQkv.main_arg5) = m ((c.tc : Thread Cert.SwaQkv.nD Cert.SwaQkv.τ).loc Cert.SwaQkv.main_arg5)
      ∧ r.2.mem ((c.tc : Thread Cert.SwaQkv.nD Cert.SwaQkv.τ).loc Cert.SwaQkv.main_arg6) = m ((c.tc : Thread Cert.SwaQkv.nD Cert.SwaQkv.τ).loc Cert.SwaQkv.main_arg6)
      ∧ r.2.mem ((c.tc : Thread Cert.SwaQkv.nD Cert.SwaQkv.τ).loc Cert.SwaQkv.main_arg7) = m ((c.tc : Thread Cert.SwaQkv.nD Cert.SwaQkv.τ).loc Cert.SwaQkv.main_arg7)
      ∧ r.2.mem ((c.tc : Thread Cert.SwaQkv.nD Cert.SwaQkv.τ).loc Cert.SwaQkv.main_arg8) = m ((c.tc : Thread Cert.SwaQkv.nD Cert.SwaQkv.τ).loc Cert.SwaQkv.main_arg8))
      ∧ r.2.sem = fun _ => 0)

def quiescent_SwaQkvIdeal [hSwaQkvIdeal : Cert.SwaQkvIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg), Pre_SwaQkvIdeal m →
    θ_run (Cert.SwaQkvIdeal.defs (F := Ideal)) (onTc (τ := Cert.SwaQkvIdeal.τ) (Cert.SwaQkvIdeal.main (F := Ideal))) ⟨m, fun _ => 0, g⟩ (fun r => (∀ c : Dev Cert.SwaQkvIdeal.nD,
      r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
      ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1)
      ∧ r.2.mem ((c.tc : Thread Cert.SwaQkvIdeal.nD Cert.SwaQkvIdeal.τ).loc Cert.SwaQkvIdeal.main_arg2) = m ((c.tc : Thread Cert.SwaQkvIdeal.nD Cert.SwaQkvIdeal.τ).loc Cert.SwaQkvIdeal.main_arg2)
      ∧ r.2.mem ((c.tc : Thread Cert.SwaQkvIdeal.nD Cert.SwaQkvIdeal.τ).loc Cert.SwaQkvIdeal.main_arg3) = m ((c.tc : Thread Cert.SwaQkvIdeal.nD Cert.SwaQkvIdeal.τ).loc Cert.SwaQkvIdeal.main_arg3)
      ∧ r.2.mem ((c.tc : Thread Cert.SwaQkvIdeal.nD Cert.SwaQkvIdeal.τ).loc Cert.SwaQkvIdeal.main_arg4) = m ((c.tc : Thread Cert.SwaQkvIdeal.nD Cert.SwaQkvIdeal.τ).loc Cert.SwaQkvIdeal.main_arg4)
      ∧ r.2.mem ((c.tc : Thread Cert.SwaQkvIdeal.nD Cert.SwaQkvIdeal.τ).loc Cert.SwaQkvIdeal.main_arg5) = m ((c.tc : Thread Cert.SwaQkvIdeal.nD Cert.SwaQkvIdeal.τ).loc Cert.SwaQkvIdeal.main_arg5)
      ∧ r.2.mem ((c.tc : Thread Cert.SwaQkvIdeal.nD Cert.SwaQkvIdeal.τ).loc Cert.SwaQkvIdeal.main_arg6) = m ((c.tc : Thread Cert.SwaQkvIdeal.nD Cert.SwaQkvIdeal.τ).loc Cert.SwaQkvIdeal.main_arg6)
      ∧ r.2.mem ((c.tc : Thread Cert.SwaQkvIdeal.nD Cert.SwaQkvIdeal.τ).loc Cert.SwaQkvIdeal.main_arg7) = m ((c.tc : Thread Cert.SwaQkvIdeal.nD Cert.SwaQkvIdeal.τ).loc Cert.SwaQkvIdeal.main_arg7)
      ∧ r.2.mem ((c.tc : Thread Cert.SwaQkvIdeal.nD Cert.SwaQkvIdeal.τ).loc Cert.SwaQkvIdeal.main_arg8) = m ((c.tc : Thread Cert.SwaQkvIdeal.nD Cert.SwaQkvIdeal.τ).loc Cert.SwaQkvIdeal.main_arg8))
      ∧ r.2.sem = fun _ => 0)

def quiescent_SwaQkvRefIdeal [hSwaQkvRefIdeal : Cert.SwaQkvRefIdeal.Facts] : Prop :=
  ∀ (m : (ℓ : Loc Cert.SwaQkvRefIdeal.nD Cert.SwaQkvRefIdeal.τ Cert.SwaQkvRefIdeal.sig) → Buf (Elt Ideal) ℓ) (g : Dev Cert.SwaQkvRefIdeal.nD → PrngReg), Pre_SwaQkvRefIdeal m →
    θ_run (Cert.SwaQkvRefIdeal.defs (F := Ideal)) (onTc (τ := Cert.SwaQkvRefIdeal.τ) (Cert.SwaQkvRefIdeal.main (F := Ideal))) ⟨m, fun _ => 0, g⟩ (fun r => (∀ c : Dev Cert.SwaQkvRefIdeal.nD,
      r.2.mem ((c.tc : Thread Cert.SwaQkvRefIdeal.nD Cert.SwaQkvRefIdeal.τ).loc Cert.SwaQkvRefIdeal.main_arg0) = m ((c.tc : Thread Cert.SwaQkvRefIdeal.nD Cert.SwaQkvRefIdeal.τ).loc Cert.SwaQkvRefIdeal.main_arg0)
      ∧ r.2.mem ((c.tc : Thread Cert.SwaQkvRefIdeal.nD Cert.SwaQkvRefIdeal.τ).loc Cert.SwaQkvRefIdeal.main_arg1) = m ((c.tc : Thread Cert.SwaQkvRefIdeal.nD Cert.SwaQkvRefIdeal.τ).loc Cert.SwaQkvRefIdeal.main_arg1)
      ∧ r.2.mem ((c.tc : Thread Cert.SwaQkvRefIdeal.nD Cert.SwaQkvRefIdeal.τ).loc Cert.SwaQkvRefIdeal.main_arg2) = m ((c.tc : Thread Cert.SwaQkvRefIdeal.nD Cert.SwaQkvRefIdeal.τ).loc Cert.SwaQkvRefIdeal.main_arg2)
      ∧ r.2.mem ((c.tc : Thread Cert.SwaQkvRefIdeal.nD Cert.SwaQkvRefIdeal.τ).loc Cert.SwaQkvRefIdeal.main_arg3) = m ((c.tc : Thread Cert.SwaQkvRefIdeal.nD Cert.SwaQkvRefIdeal.τ).loc Cert.SwaQkvRefIdeal.main_arg3)
      ∧ r.2.mem ((c.tc : Thread Cert.SwaQkvRefIdeal.nD Cert.SwaQkvRefIdeal.τ).loc Cert.SwaQkvRefIdeal.main_arg4) = m ((c.tc : Thread Cert.SwaQkvRefIdeal.nD Cert.SwaQkvRefIdeal.τ).loc Cert.SwaQkvRefIdeal.main_arg4)
      ∧ r.2.mem ((c.tc : Thread Cert.SwaQkvRefIdeal.nD Cert.SwaQkvRefIdeal.τ).loc Cert.SwaQkvRefIdeal.main_arg5) = m ((c.tc : Thread Cert.SwaQkvRefIdeal.nD Cert.SwaQkvRefIdeal.τ).loc Cert.SwaQkvRefIdeal.main_arg5)
      ∧ r.2.mem ((c.tc : Thread Cert.SwaQkvRefIdeal.nD Cert.SwaQkvRefIdeal.τ).loc Cert.SwaQkvRefIdeal.main_arg6) = m ((c.tc : Thread Cert.SwaQkvRefIdeal.nD Cert.SwaQkvRefIdeal.τ).loc Cert.SwaQkvRefIdeal.main_arg6)
      ∧ r.2.mem ((c.tc : Thread Cert.SwaQkvRefIdeal.nD Cert.SwaQkvRefIdeal.τ).loc Cert.SwaQkvRefIdeal.main_arg7) = m ((c.tc : Thread Cert.SwaQkvRefIdeal.nD Cert.SwaQkvRefIdeal.τ).loc Cert.SwaQkvRefIdeal.main_arg7)
      ∧ r.2.mem ((c.tc : Thread Cert.SwaQkvRefIdeal.nD Cert.SwaQkvRefIdeal.τ).loc Cert.SwaQkvRefIdeal.main_arg8) = m ((c.tc : Thread Cert.SwaQkvRefIdeal.nD Cert.SwaQkvRefIdeal.τ).loc Cert.SwaQkvRefIdeal.main_arg8))
      ∧ r.2.sem = fun _ => 0)

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1)
      ∧ r.2.mem ((c.tc : Thread Cert.Retention.nD Cert.Retention.τ).loc Cert.Retention.main_arg2) = m ((c.tc : Thread Cert.Retention.nD Cert.Retention.τ).loc Cert.Retention.main_arg2)
      ∧ r.2.mem ((c.tc : Thread Cert.Retention.nD Cert.Retention.τ).loc Cert.Retention.main_arg3) = m ((c.tc : Thread Cert.Retention.nD Cert.Retention.τ).loc Cert.Retention.main_arg3)
      ∧ r.2.mem ((c.tc : Thread Cert.Retention.nD Cert.Retention.τ).loc Cert.Retention.main_arg4) = m ((c.tc : Thread Cert.Retention.nD Cert.Retention.τ).loc Cert.Retention.main_arg4)
      ∧ r.2.mem ((c.tc : Thread Cert.Retention.nD Cert.Retention.τ).loc Cert.Retention.main_arg5) = m ((c.tc : Thread Cert.Retention.nD Cert.Retention.τ).loc Cert.Retention.main_arg5)
      ∧ r.2.mem ((c.tc : Thread Cert.Retention.nD Cert.Retention.τ).loc Cert.Retention.main_arg6) = m ((c.tc : Thread Cert.Retention.nD Cert.Retention.τ).loc Cert.Retention.main_arg6)
      ∧ r.2.mem ((c.tc : Thread Cert.Retention.nD Cert.Retention.τ).loc Cert.Retention.main_arg7) = m ((c.tc : Thread Cert.Retention.nD Cert.Retention.τ).loc Cert.Retention.main_arg7)
      ∧ r.2.mem ((c.tc : Thread Cert.Retention.nD Cert.Retention.τ).loc Cert.Retention.main_arg8) = m ((c.tc : Thread Cert.Retention.nD Cert.Retention.τ).loc Cert.Retention.main_arg8))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
      ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3)
      ∧ r.2.mem ((c.tc : Thread Cert.RetentionIdeal.nD Cert.RetentionIdeal.τ).loc Cert.RetentionIdeal.main_arg4) = m ((c.tc : Thread Cert.RetentionIdeal.nD Cert.RetentionIdeal.τ).loc Cert.RetentionIdeal.main_arg4)
      ∧ r.2.mem ((c.tc : Thread Cert.RetentionIdeal.nD Cert.RetentionIdeal.τ).loc Cert.RetentionIdeal.main_arg5) = m ((c.tc : Thread Cert.RetentionIdeal.nD Cert.RetentionIdeal.τ).loc Cert.RetentionIdeal.main_arg5)
      ∧ r.2.mem ((c.tc : Thread Cert.RetentionIdeal.nD Cert.RetentionIdeal.τ).loc Cert.RetentionIdeal.main_arg6) = m ((c.tc : Thread Cert.RetentionIdeal.nD Cert.RetentionIdeal.τ).loc Cert.RetentionIdeal.main_arg6)
      ∧ r.2.mem ((c.tc : Thread Cert.RetentionIdeal.nD Cert.RetentionIdeal.τ).loc Cert.RetentionIdeal.main_arg7) = m ((c.tc : Thread Cert.RetentionIdeal.nD Cert.RetentionIdeal.τ).loc Cert.RetentionIdeal.main_arg7)
      ∧ r.2.mem ((c.tc : Thread Cert.RetentionIdeal.nD Cert.RetentionIdeal.τ).loc Cert.RetentionIdeal.main_arg8) = m ((c.tc : Thread Cert.RetentionIdeal.nD Cert.RetentionIdeal.τ).loc Cert.RetentionIdeal.main_arg8))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2)
      ∧ r.2.mem ((c.tc : Thread Cert.RetentionRefIdeal.nD Cert.RetentionRefIdeal.τ).loc Cert.RetentionRefIdeal.main_arg3) = m ((c.tc : Thread Cert.RetentionRefIdeal.nD Cert.RetentionRefIdeal.τ).loc Cert.RetentionRefIdeal.main_arg3)
      ∧ r.2.mem ((c.tc : Thread Cert.RetentionRefIdeal.nD Cert.RetentionRefIdeal.τ).loc Cert.RetentionRefIdeal.main_arg4) = m ((c.tc : Thread Cert.RetentionRefIdeal.nD Cert.RetentionRefIdeal.τ).loc Cert.RetentionRefIdeal.main_arg4)
      ∧ r.2.mem ((c.tc : Thread Cert.RetentionRefIdeal.nD Cert.RetentionRefIdeal.τ).loc Cert.RetentionRefIdeal.main_arg5) = m ((c.tc : Thread Cert.RetentionRefIdeal.nD Cert.RetentionRefIdeal.τ).loc Cert.RetentionRefIdeal.main_arg5)
      ∧ r.2.mem ((c.tc : Thread Cert.RetentionRefIdeal.nD Cert.RetentionRefIdeal.τ).loc Cert.RetentionRefIdeal.main_arg6) = m ((c.tc : Thread Cert.RetentionRefIdeal.nD Cert.RetentionRefIdeal.τ).loc Cert.RetentionRefIdeal.main_arg6)
      ∧ r.2.mem ((c.tc : Thread Cert.RetentionRefIdeal.nD Cert.RetentionRefIdeal.τ).loc Cert.RetentionRefIdeal.main_arg7) = m ((c.tc : Thread Cert.RetentionRefIdeal.nD Cert.RetentionRefIdeal.τ).loc Cert.RetentionRefIdeal.main_arg7)
      ∧ r.2.mem ((c.tc : Thread Cert.RetentionRefIdeal.nD Cert.RetentionRefIdeal.τ).loc Cert.RetentionRefIdeal.main_arg8) = m ((c.tc : Thread Cert.RetentionRefIdeal.nD Cert.RetentionRefIdeal.τ).loc Cert.RetentionRefIdeal.main_arg8))
      ∧ r.2.sem = fun _ => 0)

def preserves_Kernel_KernelIdeal : Prop :=
  IdealRules.named_const.Statement Cert.KernelIdeal.κ "mask" .f32 0xF149F2CA#32 ⊥

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)
      ∧ m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6)
      ∧ m' ((c.tc : Thread Cert.GatesRefIdeal.nD Cert.GatesRefIdeal.τ).loc Cert.GatesRefIdeal.main_arg7) = m ((c.tc : Thread Cert.GatesIdeal.nD Cert.GatesIdeal.τ).loc Cert.GatesIdeal.main_arg7)
      ∧ m' ((c.tc : Thread Cert.GatesRefIdeal.nD Cert.GatesRefIdeal.τ).loc Cert.GatesRefIdeal.main_arg8) = m ((c.tc : Thread Cert.GatesIdeal.nD Cert.GatesIdeal.τ).loc Cert.GatesIdeal.main_arg8)) →
    ∃ (v0 : (c : Dev Cert.GatesIdeal.nD) → Buf (Elt Ideal) ((c.tc : Thread Cert.GatesIdeal.nD Cert.GatesIdeal.τ).loc Cert.GatesIdeal.main_v214)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v214) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7)
          ∧ r.2.mem ((c.tc : Thread Cert.GatesIdeal.nD Cert.GatesIdeal.τ).loc Cert.GatesIdeal.main_arg8) = m ((c.tc : Thread Cert.GatesIdeal.nD Cert.GatesIdeal.τ).loc Cert.GatesIdeal.main_arg8))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v26) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6)
          ∧ r.2.mem ((c.tc : Thread Cert.GatesRefIdeal.nD Cert.GatesRefIdeal.τ).loc Cert.GatesRefIdeal.main_arg7) = m' ((c.tc : Thread Cert.GatesRefIdeal.nD Cert.GatesRefIdeal.τ).loc Cert.GatesRefIdeal.main_arg7)
          ∧ r.2.mem ((c.tc : Thread Cert.GatesRefIdeal.nD Cert.GatesRefIdeal.τ).loc Cert.GatesRefIdeal.main_arg8) = m' ((c.tc : Thread Cert.GatesRefIdeal.nD Cert.GatesRefIdeal.τ).loc Cert.GatesRefIdeal.main_arg8))

def preserves_RetQkv_RetQkvIdeal : Prop :=
  True

def algebraic_RetQkvIdeal_RetQkvRefIdeal [hRetQkvIdeal : Cert.RetQkvIdeal.Facts] [hRetQkvRefIdeal : Cert.RetQkvRefIdeal.Facts] : Prop :=
  ∀ (m : (ℓ : Loc Cert.RetQkvIdeal.nD Cert.RetQkvIdeal.τ Cert.RetQkvIdeal.sig) → Buf (Elt Ideal) ℓ) (g : Dev Cert.RetQkvIdeal.nD → PrngReg)
    (m' : (ℓ : Loc Cert.RetQkvRefIdeal.nD Cert.RetQkvRefIdeal.τ Cert.RetQkvRefIdeal.sig) → Buf (Elt Ideal) ℓ) (g' : Dev Cert.RetQkvRefIdeal.nD → PrngReg), Pre_RetQkvIdeal m →
    (∀ c : Dev Cert.RetQkvIdeal.nD,
      m' ((c.tc : Thread Cert.RetQkvRefIdeal.nD Cert.RetQkvRefIdeal.τ).loc Cert.RetQkvRefIdeal.main_arg0) = m ((c.tc : Thread Cert.RetQkvIdeal.nD Cert.RetQkvIdeal.τ).loc Cert.RetQkvIdeal.main_arg0)
      ∧ m' ((c.tc : Thread Cert.RetQkvRefIdeal.nD Cert.RetQkvRefIdeal.τ).loc Cert.RetQkvRefIdeal.main_arg1) = m ((c.tc : Thread Cert.RetQkvIdeal.nD Cert.RetQkvIdeal.τ).loc Cert.RetQkvIdeal.main_arg1)
      ∧ m' ((c.tc : Thread Cert.RetQkvRefIdeal.nD Cert.RetQkvRefIdeal.τ).loc Cert.RetQkvRefIdeal.main_arg2) = m ((c.tc : Thread Cert.RetQkvIdeal.nD Cert.RetQkvIdeal.τ).loc Cert.RetQkvIdeal.main_arg2)
      ∧ m' ((c.tc : Thread Cert.RetQkvRefIdeal.nD Cert.RetQkvRefIdeal.τ).loc Cert.RetQkvRefIdeal.main_arg3) = m ((c.tc : Thread Cert.RetQkvIdeal.nD Cert.RetQkvIdeal.τ).loc Cert.RetQkvIdeal.main_arg3)
      ∧ m' ((c.tc : Thread Cert.RetQkvRefIdeal.nD Cert.RetQkvRefIdeal.τ).loc Cert.RetQkvRefIdeal.main_arg4) = m ((c.tc : Thread Cert.RetQkvIdeal.nD Cert.RetQkvIdeal.τ).loc Cert.RetQkvIdeal.main_arg4)
      ∧ m' ((c.tc : Thread Cert.RetQkvRefIdeal.nD Cert.RetQkvRefIdeal.τ).loc Cert.RetQkvRefIdeal.main_arg5) = m ((c.tc : Thread Cert.RetQkvIdeal.nD Cert.RetQkvIdeal.τ).loc Cert.RetQkvIdeal.main_arg5)
      ∧ m' ((c.tc : Thread Cert.RetQkvRefIdeal.nD Cert.RetQkvRefIdeal.τ).loc Cert.RetQkvRefIdeal.main_arg6) = m ((c.tc : Thread Cert.RetQkvIdeal.nD Cert.RetQkvIdeal.τ).loc Cert.RetQkvIdeal.main_arg6)
      ∧ m' ((c.tc : Thread Cert.RetQkvRefIdeal.nD Cert.RetQkvRefIdeal.τ).loc Cert.RetQkvRefIdeal.main_arg7) = m ((c.tc : Thread Cert.RetQkvIdeal.nD Cert.RetQkvIdeal.τ).loc Cert.RetQkvIdeal.main_arg7)
      ∧ m' ((c.tc : Thread Cert.RetQkvRefIdeal.nD Cert.RetQkvRefIdeal.τ).loc Cert.RetQkvRefIdeal.main_arg8) = m ((c.tc : Thread Cert.RetQkvIdeal.nD Cert.RetQkvIdeal.τ).loc Cert.RetQkvIdeal.main_arg8)) →
    ∃ (v0 : (c : Dev Cert.RetQkvIdeal.nD) → Buf (Elt Ideal) ((c.tc : Thread Cert.RetQkvIdeal.nD Cert.RetQkvIdeal.τ).loc Cert.RetQkvIdeal.main_v214)),
      θ_run (Cert.RetQkvIdeal.defs (F := Ideal)) (onTc (τ := Cert.RetQkvIdeal.τ) (Cert.RetQkvIdeal.main (F := Ideal))) ⟨m, fun _ => 0, g⟩ (fun r => ∀ c : Dev Cert.RetQkvIdeal.nD,
          r.2.mem ((c.tc : Thread Cert.RetQkvIdeal.nD Cert.RetQkvIdeal.τ).loc Cert.RetQkvIdeal.main_v214) = v0 c
          ∧ r.2.mem ((c.tc : Thread Cert.RetQkvIdeal.nD Cert.RetQkvIdeal.τ).loc Cert.RetQkvIdeal.main_arg0) = m ((c.tc : Thread Cert.RetQkvIdeal.nD Cert.RetQkvIdeal.τ).loc Cert.RetQkvIdeal.main_arg0)
          ∧ r.2.mem ((c.tc : Thread Cert.RetQkvIdeal.nD Cert.RetQkvIdeal.τ).loc Cert.RetQkvIdeal.main_arg1) = m ((c.tc : Thread Cert.RetQkvIdeal.nD Cert.RetQkvIdeal.τ).loc Cert.RetQkvIdeal.main_arg1)
          ∧ r.2.mem ((c.tc : Thread Cert.RetQkvIdeal.nD Cert.RetQkvIdeal.τ).loc Cert.RetQkvIdeal.main_arg2) = m ((c.tc : Thread Cert.RetQkvIdeal.nD Cert.RetQkvIdeal.τ).loc Cert.RetQkvIdeal.main_arg2)
          ∧ r.2.mem ((c.tc : Thread Cert.RetQkvIdeal.nD Cert.RetQkvIdeal.τ).loc Cert.RetQkvIdeal.main_arg3) = m ((c.tc : Thread Cert.RetQkvIdeal.nD Cert.RetQkvIdeal.τ).loc Cert.RetQkvIdeal.main_arg3)
          ∧ r.2.mem ((c.tc : Thread Cert.RetQkvIdeal.nD Cert.RetQkvIdeal.τ).loc Cert.RetQkvIdeal.main_arg4) = m ((c.tc : Thread Cert.RetQkvIdeal.nD Cert.RetQkvIdeal.τ).loc Cert.RetQkvIdeal.main_arg4)
          ∧ r.2.mem ((c.tc : Thread Cert.RetQkvIdeal.nD Cert.RetQkvIdeal.τ).loc Cert.RetQkvIdeal.main_arg5) = m ((c.tc : Thread Cert.RetQkvIdeal.nD Cert.RetQkvIdeal.τ).loc Cert.RetQkvIdeal.main_arg5)
          ∧ r.2.mem ((c.tc : Thread Cert.RetQkvIdeal.nD Cert.RetQkvIdeal.τ).loc Cert.RetQkvIdeal.main_arg6) = m ((c.tc : Thread Cert.RetQkvIdeal.nD Cert.RetQkvIdeal.τ).loc Cert.RetQkvIdeal.main_arg6)
          ∧ r.2.mem ((c.tc : Thread Cert.RetQkvIdeal.nD Cert.RetQkvIdeal.τ).loc Cert.RetQkvIdeal.main_arg7) = m ((c.tc : Thread Cert.RetQkvIdeal.nD Cert.RetQkvIdeal.τ).loc Cert.RetQkvIdeal.main_arg7)
          ∧ r.2.mem ((c.tc : Thread Cert.RetQkvIdeal.nD Cert.RetQkvIdeal.τ).loc Cert.RetQkvIdeal.main_arg8) = m ((c.tc : Thread Cert.RetQkvIdeal.nD Cert.RetQkvIdeal.τ).loc Cert.RetQkvIdeal.main_arg8))
      ∧ θ_run (Cert.RetQkvRefIdeal.defs (F := Ideal)) (onTc (τ := Cert.RetQkvRefIdeal.τ) (Cert.RetQkvRefIdeal.main (F := Ideal))) ⟨m', fun _ => 0, g'⟩ (fun r => ∀ c : Dev Cert.RetQkvRefIdeal.nD,
          r.2.mem ((c.tc : Thread Cert.RetQkvRefIdeal.nD Cert.RetQkvRefIdeal.τ).loc Cert.RetQkvRefIdeal.main_v14) = v0 c
          ∧ r.2.mem ((c.tc : Thread Cert.RetQkvRefIdeal.nD Cert.RetQkvRefIdeal.τ).loc Cert.RetQkvRefIdeal.main_arg0) = m' ((c.tc : Thread Cert.RetQkvRefIdeal.nD Cert.RetQkvRefIdeal.τ).loc Cert.RetQkvRefIdeal.main_arg0)
          ∧ r.2.mem ((c.tc : Thread Cert.RetQkvRefIdeal.nD Cert.RetQkvRefIdeal.τ).loc Cert.RetQkvRefIdeal.main_arg1) = m' ((c.tc : Thread Cert.RetQkvRefIdeal.nD Cert.RetQkvRefIdeal.τ).loc Cert.RetQkvRefIdeal.main_arg1)
          ∧ r.2.mem ((c.tc : Thread Cert.RetQkvRefIdeal.nD Cert.RetQkvRefIdeal.τ).loc Cert.RetQkvRefIdeal.main_arg2) = m' ((c.tc : Thread Cert.RetQkvRefIdeal.nD Cert.RetQkvRefIdeal.τ).loc Cert.RetQkvRefIdeal.main_arg2)
          ∧ r.2.mem ((c.tc : Thread Cert.RetQkvRefIdeal.nD Cert.RetQkvRefIdeal.τ).loc Cert.RetQkvRefIdeal.main_arg3) = m' ((c.tc : Thread Cert.RetQkvRefIdeal.nD Cert.RetQkvRefIdeal.τ).loc Cert.RetQkvRefIdeal.main_arg3)
          ∧ r.2.mem ((c.tc : Thread Cert.RetQkvRefIdeal.nD Cert.RetQkvRefIdeal.τ).loc Cert.RetQkvRefIdeal.main_arg4) = m' ((c.tc : Thread Cert.RetQkvRefIdeal.nD Cert.RetQkvRefIdeal.τ).loc Cert.RetQkvRefIdeal.main_arg4)
          ∧ r.2.mem ((c.tc : Thread Cert.RetQkvRefIdeal.nD Cert.RetQkvRefIdeal.τ).loc Cert.RetQkvRefIdeal.main_arg5) = m' ((c.tc : Thread Cert.RetQkvRefIdeal.nD Cert.RetQkvRefIdeal.τ).loc Cert.RetQkvRefIdeal.main_arg5)
          ∧ r.2.mem ((c.tc : Thread Cert.RetQkvRefIdeal.nD Cert.RetQkvRefIdeal.τ).loc Cert.RetQkvRefIdeal.main_arg6) = m' ((c.tc : Thread Cert.RetQkvRefIdeal.nD Cert.RetQkvRefIdeal.τ).loc Cert.RetQkvRefIdeal.main_arg6)
          ∧ r.2.mem ((c.tc : Thread Cert.RetQkvRefIdeal.nD Cert.RetQkvRefIdeal.τ).loc Cert.RetQkvRefIdeal.main_arg7) = m' ((c.tc : Thread Cert.RetQkvRefIdeal.nD Cert.RetQkvRefIdeal.τ).loc Cert.RetQkvRefIdeal.main_arg7)
          ∧ r.2.mem ((c.tc : Thread Cert.RetQkvRefIdeal.nD Cert.RetQkvRefIdeal.τ).loc Cert.RetQkvRefIdeal.main_arg8) = m' ((c.tc : Thread Cert.RetQkvRefIdeal.nD Cert.RetQkvRefIdeal.τ).loc Cert.RetQkvRefIdeal.main_arg8))

def preserves_SwaQkv_SwaQkvIdeal : Prop :=
  True

def algebraic_SwaQkvIdeal_SwaQkvRefIdeal [hSwaQkvIdeal : Cert.SwaQkvIdeal.Facts] [hSwaQkvRefIdeal : Cert.SwaQkvRefIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg)
    (m' : (ℓ : Loc Cert.SwaQkvRefIdeal.nD Cert.SwaQkvRefIdeal.τ Cert.SwaQkvRefIdeal.sig) → Buf (Elt Ideal) ℓ) (g' : Dev Cert.SwaQkvRefIdeal.nD → PrngReg), Pre_SwaQkvIdeal m →
    (∀ c : Dev Cert.SwaQkvIdeal.nD,
      m' ((c.tc : Thread Cert.SwaQkvRefIdeal.nD Cert.SwaQkvRefIdeal.τ).loc Cert.SwaQkvRefIdeal.main_arg0) = m ((c.tc : Thread Cert.SwaQkvIdeal.nD Cert.SwaQkvIdeal.τ).loc Cert.SwaQkvIdeal.main_arg0)
      ∧ m' ((c.tc : Thread Cert.SwaQkvRefIdeal.nD Cert.SwaQkvRefIdeal.τ).loc Cert.SwaQkvRefIdeal.main_arg1) = m ((c.tc : Thread Cert.SwaQkvIdeal.nD Cert.SwaQkvIdeal.τ).loc Cert.SwaQkvIdeal.main_arg1)
      ∧ m' ((c.tc : Thread Cert.SwaQkvRefIdeal.nD Cert.SwaQkvRefIdeal.τ).loc Cert.SwaQkvRefIdeal.main_arg2) = m ((c.tc : Thread Cert.SwaQkvIdeal.nD Cert.SwaQkvIdeal.τ).loc Cert.SwaQkvIdeal.main_arg2)
      ∧ m' ((c.tc : Thread Cert.SwaQkvRefIdeal.nD Cert.SwaQkvRefIdeal.τ).loc Cert.SwaQkvRefIdeal.main_arg3) = m ((c.tc : Thread Cert.SwaQkvIdeal.nD Cert.SwaQkvIdeal.τ).loc Cert.SwaQkvIdeal.main_arg3)
      ∧ m' ((c.tc : Thread Cert.SwaQkvRefIdeal.nD Cert.SwaQkvRefIdeal.τ).loc Cert.SwaQkvRefIdeal.main_arg4) = m ((c.tc : Thread Cert.SwaQkvIdeal.nD Cert.SwaQkvIdeal.τ).loc Cert.SwaQkvIdeal.main_arg4)
      ∧ m' ((c.tc : Thread Cert.SwaQkvRefIdeal.nD Cert.SwaQkvRefIdeal.τ).loc Cert.SwaQkvRefIdeal.main_arg5) = m ((c.tc : Thread Cert.SwaQkvIdeal.nD Cert.SwaQkvIdeal.τ).loc Cert.SwaQkvIdeal.main_arg5)
      ∧ m' ((c.tc : Thread Cert.SwaQkvRefIdeal.nD Cert.SwaQkvRefIdeal.τ).loc Cert.SwaQkvRefIdeal.main_arg6) = m ((c.tc : Thread Cert.SwaQkvIdeal.nD Cert.SwaQkvIdeal.τ).loc Cert.SwaQkvIdeal.main_arg6)
      ∧ m' ((c.tc : Thread Cert.SwaQkvRefIdeal.nD Cert.SwaQkvRefIdeal.τ).loc Cert.SwaQkvRefIdeal.main_arg7) = m ((c.tc : Thread Cert.SwaQkvIdeal.nD Cert.SwaQkvIdeal.τ).loc Cert.SwaQkvIdeal.main_arg7)
      ∧ m' ((c.tc : Thread Cert.SwaQkvRefIdeal.nD Cert.SwaQkvRefIdeal.τ).loc Cert.SwaQkvRefIdeal.main_arg8) = m ((c.tc : Thread Cert.SwaQkvIdeal.nD Cert.SwaQkvIdeal.τ).loc Cert.SwaQkvIdeal.main_arg8)) →
    ∃ (v0 : (c : Dev Cert.SwaQkvIdeal.nD) → Buf (Elt Ideal) ((c.tc : Thread Cert.SwaQkvIdeal.nD Cert.SwaQkvIdeal.τ).loc Cert.SwaQkvIdeal.main_v214)),
      θ_run (Cert.SwaQkvIdeal.defs (F := Ideal)) (onTc (τ := Cert.SwaQkvIdeal.τ) (Cert.SwaQkvIdeal.main (F := Ideal))) ⟨m, fun _ => 0, g⟩ (fun r => ∀ c : Dev Cert.SwaQkvIdeal.nD,
          r.2.mem ((c.tc : Thread Cert.SwaQkvIdeal.nD Cert.SwaQkvIdeal.τ).loc Cert.SwaQkvIdeal.main_v214) = v0 c
          ∧ r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
          ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1)
          ∧ r.2.mem ((c.tc : Thread Cert.SwaQkvIdeal.nD Cert.SwaQkvIdeal.τ).loc Cert.SwaQkvIdeal.main_arg2) = m ((c.tc : Thread Cert.SwaQkvIdeal.nD Cert.SwaQkvIdeal.τ).loc Cert.SwaQkvIdeal.main_arg2)
          ∧ r.2.mem ((c.tc : Thread Cert.SwaQkvIdeal.nD Cert.SwaQkvIdeal.τ).loc Cert.SwaQkvIdeal.main_arg3) = m ((c.tc : Thread Cert.SwaQkvIdeal.nD Cert.SwaQkvIdeal.τ).loc Cert.SwaQkvIdeal.main_arg3)
          ∧ r.2.mem ((c.tc : Thread Cert.SwaQkvIdeal.nD Cert.SwaQkvIdeal.τ).loc Cert.SwaQkvIdeal.main_arg4) = m ((c.tc : Thread Cert.SwaQkvIdeal.nD Cert.SwaQkvIdeal.τ).loc Cert.SwaQkvIdeal.main_arg4)
          ∧ r.2.mem ((c.tc : Thread Cert.SwaQkvIdeal.nD Cert.SwaQkvIdeal.τ).loc Cert.SwaQkvIdeal.main_arg5) = m ((c.tc : Thread Cert.SwaQkvIdeal.nD Cert.SwaQkvIdeal.τ).loc Cert.SwaQkvIdeal.main_arg5)
          ∧ r.2.mem ((c.tc : Thread Cert.SwaQkvIdeal.nD Cert.SwaQkvIdeal.τ).loc Cert.SwaQkvIdeal.main_arg6) = m ((c.tc : Thread Cert.SwaQkvIdeal.nD Cert.SwaQkvIdeal.τ).loc Cert.SwaQkvIdeal.main_arg6)
          ∧ r.2.mem ((c.tc : Thread Cert.SwaQkvIdeal.nD Cert.SwaQkvIdeal.τ).loc Cert.SwaQkvIdeal.main_arg7) = m ((c.tc : Thread Cert.SwaQkvIdeal.nD Cert.SwaQkvIdeal.τ).loc Cert.SwaQkvIdeal.main_arg7)
          ∧ r.2.mem ((c.tc : Thread Cert.SwaQkvIdeal.nD Cert.SwaQkvIdeal.τ).loc Cert.SwaQkvIdeal.main_arg8) = m ((c.tc : Thread Cert.SwaQkvIdeal.nD Cert.SwaQkvIdeal.τ).loc Cert.SwaQkvIdeal.main_arg8))
      ∧ θ_run (Cert.SwaQkvRefIdeal.defs (F := Ideal)) (onTc (τ := Cert.SwaQkvRefIdeal.τ) (Cert.SwaQkvRefIdeal.main (F := Ideal))) ⟨m', fun _ => 0, g'⟩ (fun r => ∀ c : Dev Cert.SwaQkvRefIdeal.nD,
          r.2.mem ((c.tc : Thread Cert.SwaQkvRefIdeal.nD Cert.SwaQkvRefIdeal.τ).loc Cert.SwaQkvRefIdeal.main_v14) = v0 c
          ∧ r.2.mem ((c.tc : Thread Cert.SwaQkvRefIdeal.nD Cert.SwaQkvRefIdeal.τ).loc Cert.SwaQkvRefIdeal.main_arg0) = m' ((c.tc : Thread Cert.SwaQkvRefIdeal.nD Cert.SwaQkvRefIdeal.τ).loc Cert.SwaQkvRefIdeal.main_arg0)
          ∧ r.2.mem ((c.tc : Thread Cert.SwaQkvRefIdeal.nD Cert.SwaQkvRefIdeal.τ).loc Cert.SwaQkvRefIdeal.main_arg1) = m' ((c.tc : Thread Cert.SwaQkvRefIdeal.nD Cert.SwaQkvRefIdeal.τ).loc Cert.SwaQkvRefIdeal.main_arg1)
          ∧ r.2.mem ((c.tc : Thread Cert.SwaQkvRefIdeal.nD Cert.SwaQkvRefIdeal.τ).loc Cert.SwaQkvRefIdeal.main_arg2) = m' ((c.tc : Thread Cert.SwaQkvRefIdeal.nD Cert.SwaQkvRefIdeal.τ).loc Cert.SwaQkvRefIdeal.main_arg2)
          ∧ r.2.mem ((c.tc : Thread Cert.SwaQkvRefIdeal.nD Cert.SwaQkvRefIdeal.τ).loc Cert.SwaQkvRefIdeal.main_arg3) = m' ((c.tc : Thread Cert.SwaQkvRefIdeal.nD Cert.SwaQkvRefIdeal.τ).loc Cert.SwaQkvRefIdeal.main_arg3)
          ∧ r.2.mem ((c.tc : Thread Cert.SwaQkvRefIdeal.nD Cert.SwaQkvRefIdeal.τ).loc Cert.SwaQkvRefIdeal.main_arg4) = m' ((c.tc : Thread Cert.SwaQkvRefIdeal.nD Cert.SwaQkvRefIdeal.τ).loc Cert.SwaQkvRefIdeal.main_arg4)
          ∧ r.2.mem ((c.tc : Thread Cert.SwaQkvRefIdeal.nD Cert.SwaQkvRefIdeal.τ).loc Cert.SwaQkvRefIdeal.main_arg5) = m' ((c.tc : Thread Cert.SwaQkvRefIdeal.nD Cert.SwaQkvRefIdeal.τ).loc Cert.SwaQkvRefIdeal.main_arg5)
          ∧ r.2.mem ((c.tc : Thread Cert.SwaQkvRefIdeal.nD Cert.SwaQkvRefIdeal.τ).loc Cert.SwaQkvRefIdeal.main_arg6) = m' ((c.tc : Thread Cert.SwaQkvRefIdeal.nD Cert.SwaQkvRefIdeal.τ).loc Cert.SwaQkvRefIdeal.main_arg6)
          ∧ r.2.mem ((c.tc : Thread Cert.SwaQkvRefIdeal.nD Cert.SwaQkvRefIdeal.τ).loc Cert.SwaQkvRefIdeal.main_arg7) = m' ((c.tc : Thread Cert.SwaQkvRefIdeal.nD Cert.SwaQkvRefIdeal.τ).loc Cert.SwaQkvRefIdeal.main_arg7)
          ∧ r.2.mem ((c.tc : Thread Cert.SwaQkvRefIdeal.nD Cert.SwaQkvRefIdeal.τ).loc Cert.SwaQkvRefIdeal.main_arg8) = m' ((c.tc : Thread Cert.SwaQkvRefIdeal.nD Cert.SwaQkvRefIdeal.τ).loc Cert.SwaQkvRefIdeal.main_arg8))

def preserves_Retention_RetentionIdeal : Prop :=
  True

def algebraic_RetentionIdeal_RetentionRefIdeal [hRetentionIdeal : Cert.RetentionIdeal.Facts] [hRetentionRefIdeal : Cert.RetentionRefIdeal.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionRefIdeal.nD Cert.RetentionRefIdeal.τ Cert.RetentionRefIdeal.sig) → Buf (Elt Ideal) ℓ) (g' : Dev Cert.RetentionRefIdeal.nD → PrngReg), Pre_RetentionIdeal m →
    (∀ c : Dev Cert.RetentionIdeal.nD,
      m' ((c.tc : Thread Cert.RetentionRefIdeal.nD Cert.RetentionRefIdeal.τ).loc Cert.RetentionRefIdeal.main_arg0) = m ((c.tc : Thread Cert.RetentionIdeal.nD Cert.RetentionIdeal.τ).loc Cert.RetentionIdeal.main_arg0)
      ∧ m' ((c.tc : Thread Cert.RetentionRefIdeal.nD Cert.RetentionRefIdeal.τ).loc Cert.RetentionRefIdeal.main_arg1) = m ((c.tc : Thread Cert.RetentionIdeal.nD Cert.RetentionIdeal.τ).loc Cert.RetentionIdeal.main_arg1)
      ∧ m' ((c.tc : Thread Cert.RetentionRefIdeal.nD Cert.RetentionRefIdeal.τ).loc Cert.RetentionRefIdeal.main_arg2) = m ((c.tc : Thread Cert.RetentionIdeal.nD Cert.RetentionIdeal.τ).loc Cert.RetentionIdeal.main_arg2)
      ∧ m' ((c.tc : Thread Cert.RetentionRefIdeal.nD Cert.RetentionRefIdeal.τ).loc Cert.RetentionRefIdeal.main_arg3) = m ((c.tc : Thread Cert.RetentionIdeal.nD Cert.RetentionIdeal.τ).loc Cert.RetentionIdeal.main_arg3)
      ∧ m' ((c.tc : Thread Cert.RetentionRefIdeal.nD Cert.RetentionRefIdeal.τ).loc Cert.RetentionRefIdeal.main_arg4) = m ((c.tc : Thread Cert.RetentionIdeal.nD Cert.RetentionIdeal.τ).loc Cert.RetentionIdeal.main_arg4)
      ∧ m' ((c.tc : Thread Cert.RetentionRefIdeal.nD Cert.RetentionRefIdeal.τ).loc Cert.RetentionRefIdeal.main_arg5) = m ((c.tc : Thread Cert.RetentionIdeal.nD Cert.RetentionIdeal.τ).loc Cert.RetentionIdeal.main_arg5)
      ∧ m' ((c.tc : Thread Cert.RetentionRefIdeal.nD Cert.RetentionRefIdeal.τ).loc Cert.RetentionRefIdeal.main_arg6) = m ((c.tc : Thread Cert.RetentionIdeal.nD Cert.RetentionIdeal.τ).loc Cert.RetentionIdeal.main_arg6)
      ∧ m' ((c.tc : Thread Cert.RetentionRefIdeal.nD Cert.RetentionRefIdeal.τ).loc Cert.RetentionRefIdeal.main_arg7) = m ((c.tc : Thread Cert.RetentionIdeal.nD Cert.RetentionIdeal.τ).loc Cert.RetentionIdeal.main_arg7)
      ∧ m' ((c.tc : Thread Cert.RetentionRefIdeal.nD Cert.RetentionRefIdeal.τ).loc Cert.RetentionRefIdeal.main_arg8) = m ((c.tc : Thread Cert.RetentionIdeal.nD Cert.RetentionIdeal.τ).loc Cert.RetentionIdeal.main_arg8)) →
    ∃ (v0 : (c : Dev Cert.RetentionIdeal.nD) → Buf (Elt Ideal) ((c.tc : Thread Cert.RetentionIdeal.nD Cert.RetentionIdeal.τ).loc Cert.RetentionIdeal.main_v214)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v214) = v0 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
          ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
          ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3)
          ∧ r.2.mem ((c.tc : Thread Cert.RetentionIdeal.nD Cert.RetentionIdeal.τ).loc Cert.RetentionIdeal.main_arg4) = m ((c.tc : Thread Cert.RetentionIdeal.nD Cert.RetentionIdeal.τ).loc Cert.RetentionIdeal.main_arg4)
          ∧ r.2.mem ((c.tc : Thread Cert.RetentionIdeal.nD Cert.RetentionIdeal.τ).loc Cert.RetentionIdeal.main_arg5) = m ((c.tc : Thread Cert.RetentionIdeal.nD Cert.RetentionIdeal.τ).loc Cert.RetentionIdeal.main_arg5)
          ∧ r.2.mem ((c.tc : Thread Cert.RetentionIdeal.nD Cert.RetentionIdeal.τ).loc Cert.RetentionIdeal.main_arg6) = m ((c.tc : Thread Cert.RetentionIdeal.nD Cert.RetentionIdeal.τ).loc Cert.RetentionIdeal.main_arg6)
          ∧ r.2.mem ((c.tc : Thread Cert.RetentionIdeal.nD Cert.RetentionIdeal.τ).loc Cert.RetentionIdeal.main_arg7) = m ((c.tc : Thread Cert.RetentionIdeal.nD Cert.RetentionIdeal.τ).loc Cert.RetentionIdeal.main_arg7)
          ∧ r.2.mem ((c.tc : Thread Cert.RetentionIdeal.nD Cert.RetentionIdeal.τ).loc Cert.RetentionIdeal.main_arg8) = m ((c.tc : Thread Cert.RetentionIdeal.nD Cert.RetentionIdeal.τ).loc Cert.RetentionIdeal.main_arg8))
      ∧ θ_run (Cert.RetentionRefIdeal.defs (F := Ideal)) (onTc (τ := Cert.RetentionRefIdeal.τ) (Cert.RetentionRefIdeal.main (F := Ideal))) ⟨m', fun _ => 0, g'⟩ (fun r => ∀ c : Dev Cert.RetentionRefIdeal.nD,
          r.2.mem ((c.tc : Thread Cert.RetentionRefIdeal.nD Cert.RetentionRefIdeal.τ).loc Cert.RetentionRefIdeal.main_v277) = v0 c
          ∧ r.2.mem ((c.tc : Thread Cert.RetentionRefIdeal.nD Cert.RetentionRefIdeal.τ).loc Cert.RetentionRefIdeal.main_arg0) = m' ((c.tc : Thread Cert.RetentionRefIdeal.nD Cert.RetentionRefIdeal.τ).loc Cert.RetentionRefIdeal.main_arg0)
          ∧ r.2.mem ((c.tc : Thread Cert.RetentionRefIdeal.nD Cert.RetentionRefIdeal.τ).loc Cert.RetentionRefIdeal.main_arg1) = m' ((c.tc : Thread Cert.RetentionRefIdeal.nD Cert.RetentionRefIdeal.τ).loc Cert.RetentionRefIdeal.main_arg1)
          ∧ r.2.mem ((c.tc : Thread Cert.RetentionRefIdeal.nD Cert.RetentionRefIdeal.τ).loc Cert.RetentionRefIdeal.main_arg2) = m' ((c.tc : Thread Cert.RetentionRefIdeal.nD Cert.RetentionRefIdeal.τ).loc Cert.RetentionRefIdeal.main_arg2)
          ∧ r.2.mem ((c.tc : Thread Cert.RetentionRefIdeal.nD Cert.RetentionRefIdeal.τ).loc Cert.RetentionRefIdeal.main_arg3) = m' ((c.tc : Thread Cert.RetentionRefIdeal.nD Cert.RetentionRefIdeal.τ).loc Cert.RetentionRefIdeal.main_arg3)
          ∧ r.2.mem ((c.tc : Thread Cert.RetentionRefIdeal.nD Cert.RetentionRefIdeal.τ).loc Cert.RetentionRefIdeal.main_arg4) = m' ((c.tc : Thread Cert.RetentionRefIdeal.nD Cert.RetentionRefIdeal.τ).loc Cert.RetentionRefIdeal.main_arg4)
          ∧ r.2.mem ((c.tc : Thread Cert.RetentionRefIdeal.nD Cert.RetentionRefIdeal.τ).loc Cert.RetentionRefIdeal.main_arg5) = m' ((c.tc : Thread Cert.RetentionRefIdeal.nD Cert.RetentionRefIdeal.τ).loc Cert.RetentionRefIdeal.main_arg5)
          ∧ r.2.mem ((c.tc : Thread Cert.RetentionRefIdeal.nD Cert.RetentionRefIdeal.τ).loc Cert.RetentionRefIdeal.main_arg6) = m' ((c.tc : Thread Cert.RetentionRefIdeal.nD Cert.RetentionRefIdeal.τ).loc Cert.RetentionRefIdeal.main_arg6)
          ∧ r.2.mem ((c.tc : Thread Cert.RetentionRefIdeal.nD Cert.RetentionRefIdeal.τ).loc Cert.RetentionRefIdeal.main_arg7) = m' ((c.tc : Thread Cert.RetentionRefIdeal.nD Cert.RetentionRefIdeal.τ).loc Cert.RetentionRefIdeal.main_arg7)
          ∧ r.2.mem ((c.tc : Thread Cert.RetentionRefIdeal.nD Cert.RetentionRefIdeal.τ).loc Cert.RetentionRefIdeal.main_arg8) = m' ((c.tc : Thread Cert.RetentionRefIdeal.nD Cert.RetentionRefIdeal.τ).loc Cert.RetentionRefIdeal.main_arg8))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesRefIdeal : Cert.GatesRefIdeal.Facts) (hRetQkv : Cert.RetQkv.Facts) (hRetQkvIdeal : Cert.RetQkvIdeal.Facts) (hRetQkvRefIdeal : Cert.RetQkvRefIdeal.Facts) (hSwaQkv : Cert.SwaQkv.Facts) (hSwaQkvIdeal : Cert.SwaQkvIdeal.Facts) (hSwaQkvRefIdeal : Cert.SwaQkvRefIdeal.Facts) (hRetention : Cert.Retention.Facts) (hRetentionIdeal : Cert.RetentionIdeal.Facts) (hRetentionRefIdeal : Cert.RetentionRefIdeal.Facts),
    quiescent_Kernel (hKernel := hKernel)
    ∧ quiescent_KernelIdeal (hKernelIdeal := hKernelIdeal)
    ∧ quiescent_ReferenceIdeal (hReferenceIdeal := hReferenceIdeal)
    ∧ quiescent_Gates (hGates := hGates)
    ∧ quiescent_GatesIdeal (hGatesIdeal := hGatesIdeal)
    ∧ quiescent_GatesRefIdeal (hGatesRefIdeal := hGatesRefIdeal)
    ∧ quiescent_RetQkv (hRetQkv := hRetQkv)
    ∧ quiescent_RetQkvIdeal (hRetQkvIdeal := hRetQkvIdeal)
    ∧ quiescent_RetQkvRefIdeal (hRetQkvRefIdeal := hRetQkvRefIdeal)
    ∧ quiescent_SwaQkv (hSwaQkv := hSwaQkv)
    ∧ quiescent_SwaQkvIdeal (hSwaQkvIdeal := hSwaQkvIdeal)
    ∧ quiescent_SwaQkvRefIdeal (hSwaQkvRefIdeal := hSwaQkvRefIdeal)
    ∧ quiescent_Retention (hRetention := hRetention)
    ∧ quiescent_RetentionIdeal (hRetentionIdeal := hRetentionIdeal)
    ∧ quiescent_RetentionRefIdeal (hRetentionRefIdeal := hRetentionRefIdeal)
    ∧ preserves_Kernel_KernelIdeal
    ∧ preserves_Gates_GatesIdeal
    ∧ algebraic_GatesIdeal_GatesRefIdeal (hGatesIdeal := hGatesIdeal) (hGatesRefIdeal := hGatesRefIdeal)
    ∧ preserves_RetQkv_RetQkvIdeal
    ∧ algebraic_RetQkvIdeal_RetQkvRefIdeal (hRetQkvIdeal := hRetQkvIdeal) (hRetQkvRefIdeal := hRetQkvRefIdeal)
    ∧ preserves_SwaQkv_SwaQkvIdeal
    ∧ algebraic_SwaQkvIdeal_SwaQkvRefIdeal (hSwaQkvIdeal := hSwaQkvIdeal) (hSwaQkvRefIdeal := hSwaQkvRefIdeal)
    ∧ preserves_Retention_RetentionIdeal
    ∧ algebraic_RetentionIdeal_RetentionRefIdeal (hRetentionIdeal := hRetentionIdeal) (hRetentionRefIdeal := hRetentionRefIdeal)
-- ==== Kernel.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x256 : Shape := ⟨2, ![128, 256]⟩
abbrev S1x128x256 : Shape := ⟨3, ![1, 128, 256]⟩
abbrev S2x128x256 : Shape := ⟨3, ![2, 128, 256]⟩
abbrev S4x1 : Shape := ⟨2, ![4, 1]⟩
abbrev S4x128 : Shape := ⟨2, ![4, 128]⟩
abbrev S1 : Shape := ⟨1, ![1]⟩
abbrev S1x256 : Shape := ⟨2, ![1, 256]⟩
abbrev S1x1x256 : Shape := ⟨3, ![1, 1, 256]⟩
abbrev S2x1x256 : Shape := ⟨3, ![2, 1, 256]⟩
abbrev S256 : Shape := ⟨1, ![256]⟩
abbrev S256x1 : Shape := ⟨2, ![256, 1]⟩
abbrev S256x256 : Shape := ⟨2, ![256, 256]⟩
abbrev S128x1x64 : Shape := ⟨3, ![128, 1, 64]⟩
abbrev S128x64 : Shape := ⟨2, ![128, 64]⟩
abbrev S2x128x128 : Shape := ⟨3, ![2, 128, 128]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S2x64 : Shape := ⟨2, ![2, 64]⟩
abbrev S1x512x1024 : Shape := ⟨3, ![1, 512, 1024]⟩
abbrev S512x128 : Shape := ⟨2, ![512, 128]⟩
abbrev S512x2816 : Shape := ⟨2, ![512, 2816]⟩
abbrev S512x1024 : Shape := ⟨2, ![512, 1024]⟩
abbrev S2x640x128 : Shape := ⟨3, ![2, 640, 128]⟩
abbrev S2x2x640x128 : Shape := ⟨4, ![2, 2, 640, 128]⟩
abbrev S8x128x128 : Shape := ⟨3, ![8, 128, 128]⟩
abbrev S1x1 : Shape := ⟨2, ![1, 1]⟩
abbrev S2x2x128x128 : Shape := ⟨4, ![2, 2, 128, 128]⟩
abbrev S512x1 : Shape := ⟨2, ![512, 1]⟩
abbrev S256x128 : Shape := ⟨2, ![256, 128]⟩
abbrev S1x1x128x128 : Shape := ⟨4, ![1, 1, 128, 128]⟩
abbrev S1x256x128 : Shape := ⟨3, ![1, 256, 128]⟩
abbrev S512x256 : Shape := ⟨2, ![512, 256]⟩
abbrev S1x1x256x128 : Shape := ⟨4, ![1, 1, 256, 128]⟩

abbrev nBuf : Space → Nat
  | .hbm => 254
  | .vmem => 28
  | .smem => 2
  | _ => 0

abbrev hbmTy0_0 (i : Nat) : BufTy := match i % 128 with
  | 0 => ⟨S8x2048x1024, .f32⟩
  | 1 => ⟨S1024, .f32⟩
  | 2 => ⟨S1024x2816, .f32⟩
  | 3 => ⟨S512, .f32⟩
  | 4 => ⟨S64, .f32⟩
  | 5 => ⟨S64, .f32⟩
  | 6 => ⟨S8, .f32⟩
  | 7 => ⟨S32x8, .f32⟩
  | 8 => ⟨S1024x1024, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S_, .f32⟩
  | 26 => ⟨S2048x32, .f32⟩
  | 27 => ⟨S2048x64, .f32⟩
  | 28 => ⟨S1x2048x1x64, .f32⟩
  | 29 => ⟨S1x2048x2x64, .f32⟩
  | 30 => ⟨S2048x128, .f32⟩
  | 31 => ⟨S2048x32, .f32⟩
  | 32 => ⟨S2048x64, .f32⟩
  | 33 => ⟨S1x2048x1x64, .f32⟩
  | 34 => ⟨S1x2048x2x64, .f32⟩
  | 35 => ⟨S2048x128, .f32⟩
  | 36 => ⟨S2048x64, .f32⟩
  | 37 => ⟨S1x2048x1x64, .f32⟩
  | 38 => ⟨S1x2048x2x64, .f32⟩
  | 39 => ⟨S2048x128, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S_, .f32⟩
  | 63 => ⟨S128x128, .f32⟩
  | 64 => ⟨S128x128, .f32⟩
  | 65 => ⟨S1x128x128, .f32⟩
  | 66 => ⟨S4x128x128, .f32⟩
  | 67 => ⟨S4x128x128, .f32⟩
  | 68 => ⟨S4x128x128, .f32⟩
  | 69 => ⟨S4x128x128, .f32⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S_, .f32⟩
  | 76 => ⟨S4x128x128, .f32⟩
  | 77 => ⟨S4x128x128, .f32⟩
  | 78 => ⟨S1x128x128, .f32⟩
  | 79 => ⟨S128x128, .f32⟩
  | 80 => ⟨S1x128x128, .f32⟩
  | 81 => ⟨S128x128, .f32⟩
  | 82 => ⟨S128x256, .f32⟩
  | 83 => ⟨S1x128x128, .f32⟩
  | 84 => ⟨S128x128, .f32⟩
  | 85 => ⟨S1x128x128, .f32⟩
  | 86 => ⟨S128x128, .f32⟩
  | 87 => ⟨S128x256, .f32⟩
  | 88 => ⟨S1x128x256, .f32⟩
  | 89 => ⟨S1x128x256, .f32⟩
  | 90 => ⟨S2x128x256, .f32⟩
  | 91 => ⟨S4x1, .f32⟩
  | 92 => ⟨S_, .f32⟩
  | 93 => ⟨S128, .f32⟩
  | 94 => ⟨S128, .f32⟩
  | 95 => ⟨S1x128, .f32⟩
  | 96 => ⟨S4x128, .f32⟩
  | 97 => ⟨S4x128, .f32⟩
  | 98 => ⟨S4x128, .f32⟩
  | 99 => ⟨S4x128, .f32⟩
  | 100 => ⟨S4x1, .f32⟩
  | 101 => ⟨S_, .f32⟩
  | 102 => ⟨S128, .f32⟩
  | 103 => ⟨S128, .f32⟩
  | 104 => ⟨S1x128, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S4x128, .f32⟩
  | 111 => ⟨S4x128, .f32⟩
  | 112 => ⟨S_, .f32⟩
  | 113 => ⟨S4, .f32⟩
  | 114 => ⟨S4, .f32⟩
  | 115 => ⟨S4, .f32⟩
  | 116 => ⟨S1, .f32⟩
  | 117 => ⟨S_, .f32⟩
  | 118 => ⟨S1x128, .f32⟩
  | 119 => ⟨S1, .f32⟩
  | 120 => ⟨S_, .f32⟩
  | 121 => ⟨S1x128, .f32⟩
  | 122 => ⟨S1x256, .f32⟩
  | 123 => ⟨S1, .f32⟩
  | 124 => ⟨S_, .f32⟩
  | 125 => ⟨S1x128, .f32⟩
  | 126 => ⟨S1, .f32⟩
  | 127 => ⟨S_, .f32⟩
  | _ => ⟨S8x2048x1024, .f32⟩

abbrev hbmTy0_1 (i : Nat) : BufTy := match i % 128 with
  | 0 => ⟨S1x128, .f32⟩
  | 1 => ⟨S1x256, .f32⟩
  | 2 => ⟨S1x1x256, .f32⟩
  | 3 => ⟨S1x1x256, .f32⟩
  | 4 => ⟨S2x1x256, .f32⟩
  | 5 => ⟨S128, .i32⟩
  | 6 => ⟨S128x1, .i32⟩
  | 7 => ⟨S128, .i32⟩
  | 8 => ⟨S1x128, .i32⟩
  | 9 => ⟨S128x128, .i32⟩
  | 10 => ⟨S128x128, .i32⟩
  | 11 => ⟨S128x128, .i1⟩
  | 12 => ⟨S128x128, .i32⟩
  | 13 => ⟨S128x128, .i32⟩
  | 14 => ⟨S128x128, .i32⟩
  | 15 => ⟨S_, .i32⟩
  | 16 => ⟨S128x1, .i32⟩
  | 17 => ⟨S128x1, .i32⟩
  | 18 => ⟨S128x128, .i32⟩
  | 19 => ⟨S128x128, .i32⟩
  | 20 => ⟨S128x128, .i32⟩
  | 21 => ⟨S128x128, .i32⟩
  | 22 => ⟨S_, .i32⟩
  | 23 => ⟨S128x128, .i32⟩
  | 24 => ⟨S128x128, .i32⟩
  | 25 => ⟨S128x128, .f32⟩
  | 26 => ⟨S_, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S128x128, .i32⟩
  | 47 => ⟨S256, .i32⟩
  | 48 => ⟨S_, .i32⟩
  | 49 => ⟨S256, .i32⟩
  | 50 => ⟨S256, .i32⟩
  | 51 => ⟨S256x1, .i32⟩
  | 52 => ⟨S1x256, .i32⟩
  | 53 => ⟨S256x256, .i32⟩
  | 54 => ⟨S256x256, .i32⟩
  | 55 => ⟨S256x256, .i1⟩
  | 56 => ⟨S_, .f32⟩
  | 57 => ⟨S_, .f32⟩
  | 58 => ⟨S256x256, .f32⟩
  | 59 => ⟨S256x256, .f32⟩
  | 60 => ⟨S256x256, .f32⟩
  | 61 => ⟨S256x256, .f32⟩
  | 62 => ⟨S1x128, .f32⟩
  | 63 => ⟨S128, .f32⟩
  | 64 => ⟨S128x1, .f32⟩
  | 65 => ⟨S128x1x64, .f32⟩
  | 66 => ⟨S128x64, .f32⟩
  | 67 => ⟨S1x128, .f32⟩
  | 68 => ⟨S128, .f32⟩
  | 69 => ⟨S128x1, .f32⟩
  | 70 => ⟨S128x1x64, .f32⟩
  | 71 => ⟨S128x64, .f32⟩
  | 72 => ⟨S128x128, .f32⟩
  | 73 => ⟨S1x128, .f32⟩
  | 74 => ⟨S128, .f32⟩
  | 75 => ⟨S128x1, .f32⟩
  | 76 => ⟨S128x1x64, .f32⟩
  | 77 => ⟨S128x64, .f32⟩
  | 78 => ⟨S1x128, .f32⟩
  | 79 => ⟨S128, .f32⟩
  | 80 => ⟨S128x1, .f32⟩
  | 81 => ⟨S128x1x64, .f32⟩
  | 82 => ⟨S128x64, .f32⟩
  | 83 => ⟨S128x128, .f32⟩
  | 84 => ⟨S1x128x128, .f32⟩
  | 85 => ⟨S1x128x128, .f32⟩
  | 86 => ⟨S2x128x128, .f32⟩
  | 87 => ⟨S1x128, .f32⟩
  | 88 => ⟨S128, .f32⟩
  | 89 => ⟨S128x1, .f32⟩
  | 90 => ⟨S128x1x64, .f32⟩
  | 91 => ⟨S128x64, .f32⟩
  | 92 => ⟨S1x128, .f32⟩
  | 93 => ⟨S128, .f32⟩
  | 94 => ⟨S128x1, .f32⟩
  | 95 => ⟨S128x1x64, .f32⟩
  | 96 => ⟨S128x64, .f32⟩
  | 97 => ⟨S128x128, .f32⟩
  | 98 => ⟨S1x128, .f32⟩
  | 99 => ⟨S128, .f32⟩
  | 100 => ⟨S128x1, .f32⟩
  | 101 => ⟨S128x1x64, .f32⟩
  | 102 => ⟨S128x64, .f32⟩
  | 103 => ⟨S1x128, .f32⟩
  | 104 => ⟨S128, .f32⟩
  | 105 => ⟨S128x1, .f32⟩
  | 106 => ⟨S128x1x64, .f32⟩
  | 107 => ⟨S128x64, .f32⟩
  | 108 => ⟨S128x128, .f32⟩
  | 109 => ⟨S1x128x128, .f32⟩
  | 110 => ⟨S1x128x128, .f32⟩
  | 111 => ⟨S2x128x128, .f32⟩
  | 112 => ⟨S256x256, .bf16⟩
  | 113 => ⟨S1x1024, .f32⟩
  | 114 => ⟨S1024x2816, .bf16⟩
  | 115 => ⟨S1024x1024, .bf16⟩
  | 116 => ⟨S1x512, .f32⟩
  | 117 => ⟨S1x64, .f32⟩
  | 118 => ⟨S8x64, .f32⟩
  | 119 => ⟨S512, .f32⟩
  | 120 => ⟨S1x512, .f32⟩
  | 121 => ⟨S1x64, .f32⟩
  | 122 => ⟨S2x64, .f32⟩
  | 123 => ⟨S128, .f32⟩
  | 124 => ⟨S1x128, .f32⟩
  | 125 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S2x128x256, .f32⟩
  | .local _ .vmem, ⟨12, _⟩ => ⟨S2x128x128, .f32⟩
  | .local _ .vmem, ⟨13, _⟩ => ⟨S2x128x128, .f32⟩
  | .local _ .vmem, ⟨14, _⟩ => ⟨S2x1x256, .f32⟩
  | .local _ .vmem, ⟨15, _⟩ => ⟨S1x512, .f32⟩
  | .local _ .vmem, ⟨16, _⟩ => ⟨S1x512, .f32⟩
  | .local _ .vmem, ⟨17, _⟩ => ⟨S1x128, .f32⟩
  | .local _ .vmem, ⟨18, _⟩ => ⟨S256x256, .bf16⟩
  | .local _ .vmem, ⟨19, _⟩ => ⟨S128x128, .i32⟩
  | .local _ .vmem, ⟨20, _⟩ => ⟨S1x512x1024, .f32⟩
  | .local _ .vmem, ⟨21, _⟩ => ⟨S1x512x1024, .f32⟩
  | .local _ .vmem, ⟨22, _⟩ => ⟨S512x2816, .f32⟩
  | .local _ .vmem, ⟨23, _⟩ => ⟨S512x1024, .bf16⟩
  | .local _ .vmem, ⟨24, _⟩ => ⟨S2x128x256, .f32⟩
  | .local _ .vmem, ⟨25, _⟩ => ⟨S2x640x128, .bf16⟩
  | .local _ .vmem, ⟨26, _⟩ => ⟨S2x2x640x128, .bf16⟩
  | .local _ .vmem, ⟨27, _⟩ => ⟨S8x128x128, .f32⟩
  | .local _ .smem, ⟨0, _⟩ => ⟨S32x8, .f32⟩
  | .local _ .smem, ⟨1, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_15 : Ref sig .tc := ⟨.hbm, 158, rfl⟩
abbrev main_v129 : Ref sig .tc := ⟨.hbm, 159, rfl⟩
abbrev main_v130 : Ref sig .tc := ⟨.hbm, 160, rfl⟩
abbrev main_cst_16 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_17 : Ref sig .tc := ⟨.hbm, 165, rfl⟩
abbrev main_v134 : Ref sig .tc := ⟨.hbm, 166, rfl⟩
abbrev main_v135 : Ref sig .tc := ⟨.hbm, 167, rfl⟩
abbrev main_c_18 : Ref sig .tc := ⟨.hbm, 168, rfl⟩
abbrev main_v136 : Ref sig .tc := ⟨.hbm, 169, rfl⟩
abbrev main_v137 : Ref sig .tc := ⟨.hbm, 170, rfl⟩
abbrev main_c_19 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_20 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_cst_22 : Ref sig .tc := ⟨.hbm, 185, rfl⟩
abbrev main_call3_v0 : Ref sig .tc := ⟨.hbm, 186, rfl⟩
abbrev main_call3_v1 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg16_0 : Ref sig .tc := ⟨.smem, 0, rfl⟩
abbrev cc0_stg17_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_20 : BitVec 32 := 0#32
  let c4_i32 : BitVec 32 := 4#32
  let v43 : BitVec 32 := Scalar.addi c0_i32_20 c4_i32
  let c1_i32 : BitVec 32 := 1#32
  ⟨c0_i32_20, v43, c1_i32⟩
def k0_mult1 (k0_t1 : Fin k0_t1_loop.trips) : BitVec 32 :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  v62
def k0_off1 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v65 : Index := Scalar.indexCast v63
  let c0_47 : Index := 0#32
  ![v65.toNat, 0]
def k0_off2 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v74 : Index := Scalar.indexCast v63
  let c0_50 : Index := 0#32
  ![v74.toNat, 0]
def k0_off3 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v83 : Index := Scalar.indexCast v63
  let c256 : Index := 256#32
  ![v83.toNat, 256]
def k0_off4 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v92 : Index := Scalar.indexCast v63
  let c512_53 : Index := 512#32
  ![v92.toNat, 512]
def k0_off5 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v164 : Index := Scalar.indexCast v63
  let c1024 : Index := 1024#32
  ![v164.toNat, 1024]
def k0_off6 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v170 : Index := Scalar.indexCast v63
  let c0_87 : Index := 0#32
  ![v170.toNat, 0]
def k0_off7 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v194 : Index := Scalar.indexCast v63
  let c1152 : Index := 1152#32
  ![v194.toNat, 1152]
def k0_off8 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v200 : Index := Scalar.indexCast v63
  let c128_94 : Index := 128#32
  ![v200.toNat, 128]
def k0_off9 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v204 : Index := Scalar.indexCast v63
  let c128_95 : Index := 128#32
  ![v204.toNat, 128]
def k0_off10 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v213 : Index := Scalar.indexCast v63
  let c384 : Index := 384#32
  ![v213.toNat, 384]
def k0_off11 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v222 : Index := Scalar.indexCast v63
  let c768 : Index := 768#32
  ![v222.toNat, 768]
def k0_off12 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v294 : Index := Scalar.indexCast v63
  let c1280 : Index := 1280#32
  ![v294.toNat, 1280]
def k0_off13 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v300 : Index := Scalar.indexCast v63
  let c256_132 : Index := 256#32
  ![v300.toNat, 256]
def k0_off14 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v324 : Index := Scalar.indexCast v63
  let c1408 : Index := 1408#32
  ![v324.toNat, 1408]
def k0_off15 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v330 : Index := Scalar.indexCast v63
  let c384_140 : Index := 384#32
  ![v330.toNat, 384]
def k0_off16 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v334 : Index := Scalar.indexCast v63
  let c2048 : Index := 2048#32
  ![v334.toNat, 2048]
def k0_off17 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v348 : Index := Scalar.indexCast v63
  let c2176 : Index := 2176#32
  ![v348.toNat, 2176]
def k0_off18 (k0_t1 : Fin k0_t1_loop.trips) : Fin 3 → Nat :=
  let c0_147 : Index := 0#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let c128_i32_46 : BitVec 32 := 128#32
  let v64 : BitVec 32 := Scalar.addi v63 c128_i32_46
  let v353 : Index := Scalar.indexCast v64
  let c0_148 : Index := 0#32
  ![0, v353.toNat, 0]
def k0_off19 (k0_t1 : Fin k0_t1_loop.trips) : Fin 3 → Nat :=
  let c1_149 : Index := 1#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let c128_i32_46 : BitVec 32 := 128#32
  let v64 : BitVec 32 := Scalar.addi v63 c128_i32_46
  let v359 : Index := Scalar.indexCast v64
  let c0_150 : Index := 0#32
  ![1, v359.toNat, 0]
def k0_off20 (k0_t1 : Fin k0_t1_loop.trips) : Fin 4 → Nat :=
  let c0_152 : Index := 0#32
  let c0_153 : Index := 0#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let c128_i32_46 : BitVec 32 := 128#32
  let v64 : BitVec 32 := Scalar.addi v63 c128_i32_46
  let v366 : Index := Scalar.indexCast v64
  let c0_154 : Index := 0#32
  ![0, 0, v366.toNat, 0]
def k0_off21 (k0_t1 : Fin k0_t1_loop.trips) : Fin 4 → Nat :=
  let c0_156 : Index := 0#32
  let c1_157 : Index := 1#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let c128_i32_46 : BitVec 32 := 128#32
  let v64 : BitVec 32 := Scalar.addi v63 c128_i32_46
  let v373 : Index := Scalar.indexCast v64
  let c0_158 : Index := 0#32
  ![0, 1, v373.toNat, 0]
def k0_off22 (k0_t1 : Fin k0_t1_loop.trips) : Fin 4 → Nat :=
  let c1_160 : Index := 1#32
  let c0_161 : Index := 0#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let c128_i32_46 : BitVec 32 := 128#32
  let v64 : BitVec 32 := Scalar.addi v63 c128_i32_46
  let v380 : Index := Scalar.indexCast v64
  let c0_162 : Index := 0#32
  ![1, 0, v380.toNat, 0]
def k0_off23 (k0_t1 : Fin k0_t1_loop.trips) : Fin 4 → Nat :=
  let c1_164 : Index := 1#32
  let c1_165 : Index := 1#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let c128_i32_46 : BitVec 32 := 128#32
  let v64 : BitVec 32 := Scalar.addi v63 c128_i32_46
  let v387 : Index := Scalar.indexCast v64
  let c0_166 : Index := 0#32
  ![1, 1, v387.toNat, 0]
def k0_off24 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v395 : Index := Scalar.indexCast v63
  let c1536 : Index := 1536#32
  ![v395.toNat, 1536]
def k0_off25 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v413 : Index := Scalar.indexCast v63
  let c1664 : Index := 1664#32
  ![v413.toNat, 1664]
def k0_off26 (k0_t1 : Fin k0_t1_loop.trips) : Fin 3 → Nat :=
  let c0_183 : Index := 0#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v433 : Index := Scalar.indexCast v63
  let c0_184 : Index := 0#32
  ![0, v433.toNat, 0]
def k0_off27 (k0_t1 : Fin k0_t1_loop.trips) : Fin 4 → Nat :=
  let c0_204 : Index := 0#32
  let c0_205 : Index := 0#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v501 : Index := Scalar.indexCast v63
  let c0_206 : Index := 0#32
  ![0, 0, v501.toNat, 0]
def k0_off28 (k0_t1 : Fin k0_t1_loop.trips) : Fin 4 → Nat :=
  let c0_208 : Index := 0#32
  let c1_209 : Index := 1#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v505 : Index := Scalar.indexCast v63
  let c0_210 : Index := 0#32
  ![0, 1, v505.toNat, 0]
def k0_off29 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v510 : Index := Scalar.indexCast v63
  let c2304 : Index := 2304#32
  ![v510.toNat, 2304]
def k0_off30 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v516 : Index := Scalar.indexCast v63
  let c512_212 : Index := 512#32
  ![v516.toNat, 512]
def k0_off31 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v593 : Index := Scalar.indexCast v63
  let c2432 : Index := 2432#32
  ![v593.toNat, 2432]
def k0_off32 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v599 : Index := Scalar.indexCast v63
  let c640 : Index := 640#32
  ![v599.toNat, 640]
def k0_off33 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v603 : Index := Scalar.indexCast v63
  let c1792 : Index := 1792#32
  ![v603.toNat, 1792]
def k0_off34 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v621 : Index := Scalar.indexCast v63
  let c1920 : Index := 1920#32
  ![v621.toNat, 1920]
def k0_off35 (k0_t1 : Fin k0_t1_loop.trips) : Fin 3 → Nat :=
  let c1_249 : Index := 1#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v641 : Index := Scalar.indexCast v63
  let c0_250 : Index := 0#32
  ![1, v641.toNat, 0]
def k0_off36 (k0_t1 : Fin k0_t1_loop.trips) : Fin 4 → Nat :=
  let c1_268 : Index := 1#32
  let c0_269 : Index := 0#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v709 : Index := Scalar.indexCast v63
  let c0_270 : Index := 0#32
  ![1, 0, v709.toNat, 0]
def k0_off37 (k0_t1 : Fin k0_t1_loop.trips) : Fin 4 → Nat :=
  let c1_272 : Index := 1#32
  let c1_273 : Index := 1#32
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v713 : Index := Scalar.indexCast v63
  let c0_274 : Index := 0#32
  ![1, 1, v713.toNat, 0]
def k0_off38 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v718 : Index := Scalar.indexCast v63
  let c2560 : Index := 2560#32
  ![v718.toNat, 2560]
def k0_off39 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v724 : Index := Scalar.indexCast v63
  let c768_276 : Index := 768#32
  ![v724.toNat, 768]
def k0_off40 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v801 : Index := Scalar.indexCast v63
  let c2688 : Index := 2688#32
  ![v801.toNat, 2688]
def k0_off41 (k0_t1 : Fin k0_t1_loop.trips) : Fin 2 → Nat :=
  let c0_i32_20 : BitVec 32 := 0#32
  let c1_i32 : BitVec 32 := 1#32
  let arg27 : BitVec 32 := Scf.iv c0_i32_20 c1_i32 k0_t1
  let c128_i32 : BitVec 32 := 128#32
  let v62 : BitVec 32 := Scalar.muli arg27 c128_i32
  let v63 : BitVec 32 := v62
  let v807 : Index := Scalar.indexCast v63
  let c896 : Index := 896#32
  ![v807.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2048x256 : Shape := ⟨3, ![8, 2048, 256]⟩
abbrev S8x2048x512 : Shape := ⟨3, ![8, 2048, 512]⟩
abbrev S8x2048x128 : Shape := ⟨3, ![8, 2048, 128]⟩
abbrev S8x2048x4x64 : Shape := ⟨4, ![8, 2048, 4, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S8x2048x4x128 : Shape := ⟨4, ![8, 2048, 4, 128]⟩
abbrev S8x16x128x4x64 : Shape := ⟨5, ![8, 16, 128, 4, 64]⟩
abbrev S8x4x16x128x64 : Shape := ⟨5, ![8, 4, 16, 128, 64]⟩
abbrev S8x16x128x4x128 : Shape := ⟨5, ![8, 16, 128, 4, 128]⟩
abbrev S8x4x16x128x128 : Shape := ⟨5, ![8, 4, 16, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S16x8x4x64x128 : Shape := ⟨5, ![16, 8, 4, 64, 128]⟩
abbrev S1x4x1x1 : Shape := ⟨4, ![1, 4, 1, 1]⟩
abbrev S8x4x64x128 : Shape := ⟨4, ![8, 4, 64, 128]⟩
abbrev S1x8x4x64x128 : Shape := ⟨5, ![1, 8, 4, 64, 128]⟩
abbrev S8x2048x4 : Shape := ⟨3, ![8, 2048, 4]⟩
abbrev S8x2048x4x1 : Shape := ⟨4, ![8, 2048, 4, 1]⟩
abbrev S1x1x512 : Shape := ⟨3, ![1, 1, 512]⟩
abbrev S8x2048x8x64 : Shape := ⟨4, ![8, 2048, 8, 64]⟩
abbrev S8x2048x2x64 : Shape := ⟨4, ![8, 2048, 2, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x2 : Shape := ⟨3, ![8, 2048, 2]⟩
abbrev S8x2048x2x1 : Shape := ⟨4, ![8, 2048, 2, 1]⟩
abbrev S8x16x128x2x4x64 : Shape := ⟨6, ![8, 16, 128, 2, 4, 64]⟩
abbrev S8x16x128x2x64 : Shape := ⟨5, ![8, 16, 128, 2, 64]⟩
abbrev S8x17x128x2x64 : Shape := ⟨5, ![8, 17, 128, 2, 64]⟩
abbrev S8x16x256x2x64 : Shape := ⟨5, ![8, 16, 256, 2, 64]⟩
abbrev S8x2x16x256x128x4 : Shape := ⟨6, ![8, 2, 16, 256, 128, 4]⟩
abbrev S8x2x4x16x128x256 : Shape := ⟨6, ![8, 2, 4, 16, 128, 256]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x1x128x256 : Shape := ⟨5, ![2, 4, 1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x2x4x1x128x256 : Shape := ⟨6, ![1, 2, 4, 1, 128, 256]⟩
abbrev S2x4x1x1x1 : Shape := ⟨5, ![2, 4, 1, 1, 1]⟩
abbrev S8x2x4x16x128x1 : Shape := ⟨6, ![8, 2, 4, 16, 128, 1]⟩
abbrev S8x2x4x16x128x257 : Shape := ⟨6, ![8, 2, 4, 16, 128, 257]⟩
abbrev S8x2x4x16x128 : Shape := ⟨5, ![8, 2, 4, 16, 128]⟩
abbrev S8x16x2x64x4x128 : Shape := ⟨6, ![8, 16, 2, 64, 4, 128]⟩

abbrev nBuf : Space → Nat
  | .hbm => 489
  | .vmem => 0
  | .smem => 0
  | _ => 0

abbrev hbmTy0_0 (i : Nat) : BufTy := match i % 128 with
  | 0 => ⟨S8x2048x1024, .f32⟩
  | 1 => ⟨S1024, .f32⟩
  | 2 => ⟨S1024x2816, .f32⟩
  | 3 => ⟨S512, .f32⟩
  | 4 => ⟨S64, .f32⟩
  | 5 => ⟨S64, .f32⟩
  | 6 => ⟨S8, .f32⟩
  | 7 => ⟨S32x8, .f32⟩
  | 8 => ⟨S1024x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x2048x2816, .f32⟩
  | 26 => ⟨S8x2048x256, .f32⟩
  | 27 => ⟨S8x2048x256, .f32⟩
  | 28 => ⟨S8x2048x512, .f32⟩
  | 29 => ⟨S8x2048x512, .f32⟩
  | 30 => ⟨S8x2048x512, .f32⟩
  | 31 => ⟨S8x2048x128, .f32⟩
  | 32 => ⟨S8x2048x128, .f32⟩
  | 33 => ⟨S8x2048x512, .f32⟩
  | 34 => ⟨S8x2048x4x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S2048, .f32⟩
  | 44 => ⟨S2048x1, .f32⟩
  | 45 => ⟨S1x32, .f32⟩
  | 46 => ⟨S2048x32, .f32⟩
  | 47 => ⟨S2048x32, .f32⟩
  | 48 => ⟨S2048x32, .f32⟩
  | 49 => ⟨S2048x32, .f32⟩
  | 50 => ⟨S1x2048x1x32, .f32⟩
  | 51 => ⟨S2048x32, .f32⟩
  | 52 => ⟨S1x2048x1x32, .f32⟩
  | 53 => ⟨S8x2048x4x32, .f32⟩
  | 54 => ⟨S8x2048x4x32, .f32⟩
  | 55 => ⟨S8x2048x4x32, .f32⟩
  | 56 => ⟨S8x2048x4x32, .f32⟩
  | 57 => ⟨S8x2048x4x32, .f32⟩
  | 58 => ⟨S8x2048x4x32, .f32⟩
  | 59 => ⟨S8x2048x4x32, .f32⟩
  | 60 => ⟨S8x2048x4x32, .f32⟩
  | 61 => ⟨S8x2048x4x32, .f32⟩
  | 62 => ⟨S8x2048x4x32, .f32⟩
  | 63 => ⟨S8x2048x4x32, .f32⟩
  | 64 => ⟨S8x2048x4x32, .f32⟩
  | 65 => ⟨S8x2048x4x64, .f32⟩
  | 66 => ⟨S8x2048x4x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S2048, .f32⟩
  | 76 => ⟨S2048x1, .f32⟩
  | 77 => ⟨S1x32, .f32⟩
  | 78 => ⟨S2048x32, .f32⟩
  | 79 => ⟨S2048x32, .f32⟩
  | 80 => ⟨S2048x32, .f32⟩
  | 81 => ⟨S2048x32, .f32⟩
  | 82 => ⟨S1x2048x1x32, .f32⟩
  | 83 => ⟨S2048x32, .f32⟩
  | 84 => ⟨S1x2048x1x32, .f32⟩
  | 85 => ⟨S8x2048x4x32, .f32⟩
  | 86 => ⟨S8x2048x4x32, .f32⟩
  | 87 => ⟨S8x2048x4x32, .f32⟩
  | 88 => ⟨S8x2048x4x32, .f32⟩
  | 89 => ⟨S8x2048x4x32, .f32⟩
  | 90 => ⟨S8x2048x4x32, .f32⟩
  | 91 => ⟨S8x2048x4x32, .f32⟩
  | 92 => ⟨S8x2048x4x32, .f32⟩
  | 93 => ⟨S8x2048x4x32, .f32⟩
  | 94 => ⟨S8x2048x4x32, .f32⟩
  | 95 => ⟨S8x2048x4x32, .f32⟩
  | 96 => ⟨S8x2048x4x32, .f32⟩
  | 97 => ⟨S8x2048x4x64, .f32⟩
  | 98 => ⟨S8x2048x4x128, .f32⟩
  | 99 => ⟨S_, .f32⟩
  | 100 => ⟨S8x2048x4x64, .f32⟩
  | 101 => ⟨S8x2048x4x64, .f32⟩
  | 102 => ⟨S8x16x128x4x64, .f32⟩
  | 103 => ⟨S8x4x16x128x64, .f32⟩
  | 104 => ⟨S8x16x128x4x64, .f32⟩
  | 105 => ⟨S8x4x16x128x64, .f32⟩
  | 106 => ⟨S8x16x128x4x128, .f32⟩
  | 107 => ⟨S8x4x16x128x128, .f32⟩
  | 108 => ⟨S4, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S4, .f32⟩
  | 116 => ⟨S_, .f32⟩
  | 117 => ⟨S4, .f32⟩
  | 118 => ⟨S4, .f32⟩
  | 119 => ⟨S4, .f32⟩
  | 120 => ⟨S128, .f32⟩
  | 121 => ⟨S128x1, .f32⟩
  | 122 => ⟨S1x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S8x2048x1024, .f32⟩

abbrev hbmTy0_1 (i : Nat) : BufTy := match i % 128 with
  | 0 => ⟨S128x128, .i1⟩
  | 1 => ⟨S4x1x1, .f32⟩
  | 2 => ⟨S_, .f32⟩
  | 3 => ⟨S128x128, .f32⟩
  | 4 => ⟨S128x128, .f32⟩
  | 5 => ⟨S1x128x128, .f32⟩
  | 6 => ⟨S4x128x128, .f32⟩
  | 7 => ⟨S4x128x128, .f32⟩
  | 8 => ⟨S4x128x128, .f32⟩
  | 9 => ⟨S4x128x128, .f32⟩
  | 10 => ⟨S_, .f32⟩
  | 11 => ⟨S_, .f32⟩
  | 12 => ⟨S4x128x128, .i1⟩
  | 13 => ⟨S4x128x128, .f32⟩
  | 14 => ⟨S4x128x128, .f32⟩
  | 15 => ⟨S8x4x16x128x128, .f32⟩
  | 16 => ⟨S1x4x1x128x128, .f32⟩
  | 17 => ⟨S8x4x16x128x128, .f32⟩
  | 18 => ⟨S8x4x16x128x128, .f32⟩
  | 19 => ⟨S8x4x16x128x128, .f32⟩
  | 20 => ⟨S4x1, .f32⟩
  | 21 => ⟨S_, .f32⟩
  | 22 => ⟨S128, .f32⟩
  | 23 => ⟨S128, .f32⟩
  | 24 => ⟨S1x128, .f32⟩
  | 25 => ⟨S4x128, .f32⟩
  | 26 => ⟨S4x128, .f32⟩
  | 27 => ⟨S4x128, .f32⟩
  | 28 => ⟨S4x128, .f32⟩
  | 29 => ⟨S1x4x1x128x1, .f32⟩
  | 30 => ⟨S8x4x16x128x64, .f32⟩
  | 31 => ⟨S8x4x16x128x64, .f32⟩
  | 32 => ⟨S16x8x4x64x128, .f32⟩
  | 33 => ⟨S_, .f32⟩
  | 34 => ⟨S4, .f32⟩
  | 35 => ⟨S4, .f32⟩
  | 36 => ⟨S4, .f32⟩
  | 37 => ⟨S1x4x1x1, .f32⟩
  | 38 => ⟨S_, .f32⟩
  | 39 => ⟨S8x4x64x128, .f32⟩
  | 40 => ⟨S8x4x64x128, .f32⟩
  | 41 => ⟨S8x4x64x128, .f32⟩
  | 42 => ⟨S1x8x4x64x128, .f32⟩
  | 43 => ⟨S8x4x64x128, .f32⟩
  | 44 => ⟨S8x4x64x128, .f32⟩
  | 45 => ⟨S8x4x64x128, .f32⟩
  | 46 => ⟨S8x4x64x128, .f32⟩
  | 47 => ⟨S1x8x4x64x128, .f32⟩
  | 48 => ⟨S8x4x64x128, .f32⟩
  | 49 => ⟨S8x4x64x128, .f32⟩
  | 50 => ⟨S8x4x64x128, .f32⟩
  | 51 => ⟨S8x4x64x128, .f32⟩
  | 52 => ⟨S1x8x4x64x128, .f32⟩
  | 53 => ⟨S8x4x64x128, .f32⟩
  | 54 => ⟨S8x4x64x128, .f32⟩
  | 55 => ⟨S8x4x64x128, .f32⟩
  | 56 => ⟨S8x4x64x128, .f32⟩
  | 57 => ⟨S1x8x4x64x128, .f32⟩
  | 58 => ⟨S8x4x64x128, .f32⟩
  | 59 => ⟨S8x4x64x128, .f32⟩
  | 60 => ⟨S8x4x64x128, .f32⟩
  | 61 => ⟨S8x4x64x128, .f32⟩
  | 62 => ⟨S1x8x4x64x128, .f32⟩
  | 63 => ⟨S8x4x64x128, .f32⟩
  | 64 => ⟨S8x4x64x128, .f32⟩
  | 65 => ⟨S8x4x64x128, .f32⟩
  | 66 => ⟨S8x4x64x128, .f32⟩
  | 67 => ⟨S1x8x4x64x128, .f32⟩
  | 68 => ⟨S8x4x64x128, .f32⟩
  | 69 => ⟨S8x4x64x128, .f32⟩
  | 70 => ⟨S8x4x64x128, .f32⟩
  | 71 => ⟨S8x4x64x128, .f32⟩
  | 72 => ⟨S1x8x4x64x128, .f32⟩
  | 73 => ⟨S8x4x64x128, .f32⟩
  | 74 => ⟨S8x4x64x128, .f32⟩
  | 75 => ⟨S8x4x64x128, .f32⟩
  | 76 => ⟨S8x4x64x128, .f32⟩
  | 77 => ⟨S1x8x4x64x128, .f32⟩
  | 78 => ⟨S8x4x64x128, .f32⟩
  | 79 => ⟨S8x4x64x128, .f32⟩
  | 80 => ⟨S8x4x64x128, .f32⟩
  | 81 => ⟨S8x4x64x128, .f32⟩
  | 82 => ⟨S1x8x4x64x128, .f32⟩
  | 83 => ⟨S8x4x64x128, .f32⟩
  | 84 => ⟨S8x4x64x128, .f32⟩
  | 85 => ⟨S8x4x64x128, .f32⟩
  | 86 => ⟨S8x4x64x128, .f32⟩
  | 87 => ⟨S1x8x4x64x128, .f32⟩
  | 88 => ⟨S8x4x64x128, .f32⟩
  | 89 => ⟨S8x4x64x128, .f32⟩
  | 90 => ⟨S8x4x64x128, .f32⟩
  | 91 => ⟨S8x4x64x128, .f32⟩
  | 92 => ⟨S1x8x4x64x128, .f32⟩
  | 93 => ⟨S8x4x64x128, .f32⟩
  | 94 => ⟨S8x4x64x128, .f32⟩
  | 95 => ⟨S8x4x64x128, .f32⟩
  | 96 => ⟨S8x4x64x128, .f32⟩
  | 97 => ⟨S1x8x4x64x128, .f32⟩
  | 98 => ⟨S8x4x64x128, .f32⟩
  | 99 => ⟨S8x4x64x128, .f32⟩
  | 100 => ⟨S8x4x64x128, .f32⟩
  | 101 => ⟨S8x4x64x128, .f32⟩
  | 102 => ⟨S1x8x4x64x128, .f32⟩
  | 103 => ⟨S8x4x64x128, .f32⟩
  | 104 => ⟨S8x4x64x128, .f32⟩
  | 105 => ⟨S8x4x64x128, .f32⟩
  | 106 => ⟨S8x4x64x128, .f32⟩
  | 107 => ⟨S1x8x4x64x128, .f32⟩
  | 108 => ⟨S8x4x64x128, .f32⟩
  | 109 => ⟨S8x4x64x128, .f32⟩
  | 110 => ⟨S8x4x64x128, .f32⟩
  | 111 => ⟨S8x4x64x128, .f32⟩
  | 112 => ⟨S1x8x4x64x128, .f32⟩
  | 113 => ⟨S8x4x64x128, .f32⟩
  | 114 => ⟨S8x4x64x128, .f32⟩
  | 115 => ⟨S8x4x64x128, .f32⟩
  | 116 => ⟨S8x4x64x128, .f32⟩
  | 117 => ⟨S1x8x4x64x128, .f32⟩
  | 118 => ⟨S8x4x64x128, .f32⟩
  | 119 => ⟨S8x4x64x128, .f32⟩
  | 120 => ⟨S1x8x4x64x128, .f32⟩
  | 121 => ⟨S1x8x4x64x128, .f32⟩
  | 122 => ⟨S1x8x4x64x128, .f32⟩
  | 123 => ⟨S1x8x4x64x128, .f32⟩
  | 124 => ⟨S1x8x4x64x128, .f32⟩
  | 125 => ⟨S1x8x4x64x128, .f32⟩
  | 126 => ⟨S1x8x4x64x128, .f32⟩
  | 127 => ⟨S1x8x4x64x128, .f32⟩
  | _ => ⟨S8x2048x1024, .f32⟩

abbrev hbmTy0_2 (i : Nat) : BufTy := match i % 128 with
  | 0 => ⟨S1x8x4x64x128, .f32⟩
  | 1 => ⟨S1x8x4x64x128, .f32⟩
  | 2 => ⟨S1x8x4x64x128, .f32⟩
  | 3 => ⟨S1x8x4x64x128, .f32⟩
  | 4 => ⟨S1x8x4x64x128, .f32⟩
  | 5 => ⟨S1x8x4x64x128, .f32⟩
  | 6 => ⟨S1x8x4x64x128, .f32⟩
  | 7 => ⟨S1x8x4x64x128, .f32⟩
  | 8 => ⟨S16x8x4x64x128, .f32⟩
  | 9 => ⟨S4x1, .f32⟩
  | 10 => ⟨S_, .f32⟩
  | 11 => ⟨S128, .f32⟩
  | 12 => ⟨S128, .f32⟩
  | 13 => ⟨S1x128, .f32⟩
  | 14 => ⟨S4x128, .f32⟩
  | 15 => ⟨S4x128, .f32⟩
  | 16 => ⟨S4x128, .f32⟩
  | 17 => ⟨S4x128, .f32⟩
  | 18 => ⟨S1x4x1x128x1, .f32⟩
  | 19 => ⟨S8x4x16x128x64, .f32⟩
  | 20 => ⟨S8x4x16x128x64, .f32⟩
  | 21 => ⟨S8x4x16x128x128, .f32⟩
  | 22 => ⟨S8x4x16x128x128, .f32⟩
  | 23 => ⟨S8x16x128x4x128, .f32⟩
  | 24 => ⟨S8x2048x4x128, .f32⟩
  | 25 => ⟨S_, .f32⟩
  | 26 => ⟨S8x2048x4, .f32⟩
  | 27 => ⟨S8x2048x4x1, .f32⟩
  | 28 => ⟨S_, .f32⟩
  | 29 => ⟨S8x2048x4x1, .f32⟩
  | 30 => ⟨S8x2048x4x1, .f32⟩
  | 31 => ⟨S8x2048x4x128, .f32⟩
  | 32 => ⟨S8x2048x4x128, .f32⟩
  | 33 => ⟨S8x2048x4x128, .f32⟩
  | 34 => ⟨S_, .f32⟩
  | 35 => ⟨S8x2048x4, .f32⟩
  | 36 => ⟨S8x2048x4x1, .f32⟩
  | 37 => ⟨S_, .f32⟩
  | 38 => ⟨S8x2048x4x1, .f32⟩
  | 39 => ⟨S8x2048x4x1, .f32⟩
  | 40 => ⟨S8x2048x4x128, .f32⟩
  | 41 => ⟨S8x2048x4x128, .f32⟩
  | 42 => ⟨S_, .f32⟩
  | 43 => ⟨S8x2048x4x1, .f32⟩
  | 44 => ⟨S8x2048x4x1, .f32⟩
  | 45 => ⟨S8x2048x4x1, .f32⟩
  | 46 => ⟨S8x2048x4x128, .f32⟩
  | 47 => ⟨S8x2048x4x128, .f32⟩
  | 48 => ⟨S8x2048x512, .f32⟩
  | 49 => ⟨S1x1x512, .f32⟩
  | 50 => ⟨S8x2048x512, .f32⟩
  | 51 => ⟨S8x2048x512, .f32⟩
  | 52 => ⟨S8x2048x512, .f32⟩
  | 53 => ⟨S8x2048x512, .f32⟩
  | 54 => ⟨S_, .f32⟩
  | 55 => ⟨S8x2048x512, .f32⟩
  | 56 => ⟨S8x2048x512, .f32⟩
  | 57 => ⟨S_, .f32⟩
  | 58 => ⟨S8x2048x512, .f32⟩
  | 59 => ⟨S8x2048x512, .f32⟩
  | 60 => ⟨S8x2048x512, .f32⟩
  | 61 => ⟨S8x2048x512, .f32⟩
  | 62 => ⟨S8x2048x8x64, .f32⟩
  | 63 => ⟨S8x2048x2x64, .f32⟩
  | 64 => ⟨S8x2048x2x64, .f32⟩
  | 65 => ⟨S8x2048x8x64, .f32⟩
  | 66 => ⟨S_, .f32⟩
  | 67 => ⟨S8x2048x8, .f32⟩
  | 68 => ⟨S8x2048x8x1, .f32⟩
  | 69 => ⟨S_, .f32⟩
  | 70 => ⟨S8x2048x8x1, .f32⟩
  | 71 => ⟨S8x2048x8x1, .f32⟩
  | 72 => ⟨S_, .f32⟩
  | 73 => ⟨S8x2048x8x1, .f32⟩
  | 74 => ⟨S8x2048x8x1, .f32⟩
  | 75 => ⟨S8x2048x8x1, .f32⟩
  | 76 => ⟨S8x2048x8x64, .f32⟩
  | 77 => ⟨S8x2048x8x64, .f32⟩
  | 78 => ⟨S1x1x1x64, .f32⟩
  | 79 => ⟨S8x2048x8x64, .f32⟩
  | 80 => ⟨S8x2048x8x64, .f32⟩
  | 81 => ⟨S8x2048x2x64, .f32⟩
  | 82 => ⟨S_, .f32⟩
  | 83 => ⟨S8x2048x2, .f32⟩
  | 84 => ⟨S8x2048x2x1, .f32⟩
  | 85 => ⟨S_, .f32⟩
  | 86 => ⟨S8x2048x2x1, .f32⟩
  | 87 => ⟨S8x2048x2x1, .f32⟩
  | 88 => ⟨S_, .f32⟩
  | 89 => ⟨S8x2048x2x1, .f32⟩
  | 90 => ⟨S8x2048x2x1, .f32⟩
  | 91 => ⟨S8x2048x2x1, .f32⟩
  | 92 => ⟨S8x2048x2x64, .f32⟩
  | 93 => ⟨S8x2048x2x64, .f32⟩
  | 94 => ⟨S1x1x1x64, .f32⟩
  | 95 => ⟨S8x2048x2x64, .f32⟩
  | 96 => ⟨S8x2048x2x64, .f32⟩
  | 97 => ⟨S8x16x128x2x4x64, .f32⟩
  | 98 => ⟨S8x16x128x2x64, .f32⟩
  | 99 => ⟨S_, .i32⟩
  | 100 => ⟨S_, .f32⟩
  | 101 => ⟨S8x17x128x2x64, .f32⟩
  | 102 => ⟨S8x16x128x2x64, .f32⟩
  | 103 => ⟨S8x16x256x2x64, .f32⟩
  | 104 => ⟨S8x16x128x2x64, .f32⟩
  | 105 => ⟨S_, .i32⟩
  | 106 => ⟨S_, .f32⟩
  | 107 => ⟨S8x17x128x2x64, .f32⟩
  | 108 => ⟨S8x16x128x2x64, .f32⟩
  | 109 => ⟨S8x16x256x2x64, .f32⟩
  | 110 => ⟨S8x2x16x256x128x4, .f32⟩
  | 111 => ⟨S8x2x4x16x128x256, .f32⟩
  | 112 => ⟨S_, .f32⟩
  | 113 => ⟨S8x2x4x16x128x256, .f32⟩
  | 114 => ⟨S8x2x4x16x128x256, .f32⟩
  | 115 => ⟨S128, .i32⟩
  | 116 => ⟨S128x1, .i32⟩
  | 117 => ⟨S256, .i32⟩
  | 118 => ⟨S1x256, .i32⟩
  | 119 => ⟨S_, .i32⟩
  | 120 => ⟨S128x1, .i32⟩
  | 121 => ⟨S128x1, .i32⟩
  | 122 => ⟨S128x256, .i32⟩
  | 123 => ⟨S128x256, .i32⟩
  | 124 => ⟨S128x256, .i32⟩
  | 125 => ⟨S_, .i32⟩
  | 126 => ⟨S128x256, .i32⟩
  | 127 => ⟨S128x256, .i32⟩
  | _ => ⟨S8x2048x1024, .f32⟩

abbrev hbmTy0_3 (i : Nat) : BufTy := match i % 128 with
  | 0 => ⟨S_, .i32⟩
  | 1 => ⟨S128x256, .i32⟩
  | 2 => ⟨S128x256, .i32⟩
  | 3 => ⟨S128x256, .f32⟩
  | 4 => ⟨S_, .f32⟩
  | 5 => ⟨S128x256, .f32⟩
  | 6 => ⟨S128x256, .f32⟩
  | 7 => ⟨S128x256, .f32⟩
  | 8 => ⟨S_, .f32⟩
  | 9 => ⟨S128x256, .f32⟩
  | 10 => ⟨S128x256, .f32⟩
  | 11 => ⟨S_, .f32⟩
  | 12 => ⟨S128x256, .f32⟩
  | 13 => ⟨S128x256, .f32⟩
  | 14 => ⟨S128x256, .i32⟩
  | 15 => ⟨S_, .i32⟩
  | 16 => ⟨S128x256, .i32⟩
  | 17 => ⟨S128x256, .i32⟩
  | 18 => ⟨S_, .i32⟩
  | 19 => ⟨S128x256, .i32⟩
  | 20 => ⟨S128x256, .i32⟩
  | 21 => ⟨S_, .i32⟩
  | 22 => ⟨S128x256, .i32⟩
  | 23 => ⟨S128x256, .i1⟩
  | 24 => ⟨S128x256, .i32⟩
  | 25 => ⟨S_, .i32⟩
  | 26 => ⟨S128x256, .i32⟩
  | 27 => ⟨S128x256, .i1⟩
  | 28 => ⟨S_, .i32⟩
  | 29 => ⟨S128x256, .i32⟩
  | 30 => ⟨S128x256, .i32⟩
  | 31 => ⟨S128x256, .i32⟩
  | 32 => ⟨S128x256x1, .i32⟩
  | 33 => ⟨S128x256x8, .f32⟩
  | 34 => ⟨S8x128x256, .f32⟩
  | 35 => ⟨S2x4x1x128x256, .f32⟩
  | 36 => ⟨S16, .i32⟩
  | 37 => ⟨S16x1x1, .i32⟩
  | 38 => ⟨S_, .i32⟩
  | 39 => ⟨S16x1x1, .i32⟩
  | 40 => ⟨S16x1x1, .i32⟩
  | 41 => ⟨S_, .i32⟩
  | 42 => ⟨S16x1x1, .i32⟩
  | 43 => ⟨S16x1x1, .i32⟩
  | 44 => ⟨S1x1x256, .i32⟩
  | 45 => ⟨S16x1x256, .i32⟩
  | 46 => ⟨S16x1x256, .i32⟩
  | 47 => ⟨S16x1x256, .i32⟩
  | 48 => ⟨S1x128x256, .i32⟩
  | 49 => ⟨S_, .i32⟩
  | 50 => ⟨S1x128x256, .i32⟩
  | 51 => ⟨S1x128x256, .i1⟩
  | 52 => ⟨S1x128x256, .i32⟩
  | 53 => ⟨S_, .i32⟩
  | 54 => ⟨S1x128x256, .i32⟩
  | 55 => ⟨S1x128x256, .i1⟩
  | 56 => ⟨S1x128x256, .i1⟩
  | 57 => ⟨S_, .i32⟩
  | 58 => ⟨S16x1x256, .i32⟩
  | 59 => ⟨S16x1x256, .i1⟩
  | 60 => ⟨S16x128x256, .i1⟩
  | 61 => ⟨S16x128x256, .i1⟩
  | 62 => ⟨S16x128x256, .i1⟩
  | 63 => ⟨S1x2x4x1x128x256, .f32⟩
  | 64 => ⟨S8x2x4x16x128x256, .f32⟩
  | 65 => ⟨S8x2x4x16x128x256, .f32⟩
  | 66 => ⟨S_, .f32⟩
  | 67 => ⟨S_, .f32⟩
  | 68 => ⟨S8x2x4x16x128x256, .i1⟩
  | 69 => ⟨S8x2x4x16x128x256, .f32⟩
  | 70 => ⟨S8x2x4x16x128x256, .f32⟩
  | 71 => ⟨S2x4x1x1x1, .f32⟩
  | 72 => ⟨S8x2x4x16x128x1, .f32⟩
  | 73 => ⟨S8x2x4x16x128x257, .f32⟩
  | 74 => ⟨S_, .f32⟩
  | 75 => ⟨S8x2x4x16x128, .f32⟩
  | 76 => ⟨S_, .f32⟩
  | 77 => ⟨S8x2x4x16x128, .f32⟩
  | 78 => ⟨S8x2x4x16x128, .f32⟩
  | 79 => ⟨S8x2x4x16x128x1, .f32⟩
  | 80 => ⟨S8x2x4x16x128x257, .f32⟩
  | 81 => ⟨S8x2x4x16x128x257, .f32⟩
  | 82 => ⟨S8x2x4x16x128x257, .f32⟩
  | 83 => ⟨S_, .f32⟩
  | 84 => ⟨S8x2x4x16x128, .f32⟩
  | 85 => ⟨S8x2x4x16x128x1, .f32⟩
  | 86 => ⟨S8x2x4x16x128x257, .f32⟩
  | 87 => ⟨S8x2x4x16x128x257, .f32⟩
  | 88 => ⟨S8x2x4x16x128x256, .f32⟩
  | 89 => ⟨S8x16x2x64x4x128, .f32⟩
  | 90 => ⟨S8x16x128x2x4x64, .f32⟩
  | 91 => ⟨S8x2048x512, .f32⟩
  | 92 => ⟨S8x2048x512, .f32⟩
  | 93 => ⟨S8x2048x512, .f32⟩
  | 94 => ⟨S_, .f32⟩
  | 95 => ⟨S8x2048x512, .f32⟩
  | 96 => ⟨S8x2048x512, .f32⟩
  | 97 => ⟨S_, .f32⟩
  | 98 => ⟨S8x2048x512, .f32⟩
  | 99 => ⟨S8x2048x512, .f32⟩
  | 100 => ⟨S8x2048x512, .f32⟩
  | 101 => ⟨S8x2048x512, .f32⟩
  | 102 => ⟨S8x2048x1024, .f32⟩
  | 103 => ⟨S8x2048x1024, .f32⟩
  | 104 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_6 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_7 : Ref sig .tc := ⟨.hbm, 109, rfl⟩
abbrev main_v92 : Ref sig .tc := ⟨.hbm, 110, rfl⟩
abbrev main_v93 : Ref sig .tc := ⟨.hbm, 111, rfl⟩
abbrev main_cst_8 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_9 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_11 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_12 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_13 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_14 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_15 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_cst_16 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_cst_17 : Ref sig .tc := ⟨.hbm, 281, rfl⟩
abbrev main_v251 : Ref sig .tc := ⟨.hbm, 282, rfl⟩
abbrev main_v252 : Ref sig .tc := ⟨.hbm, 283, rfl⟩
abbrev main_cst_18 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_cst_19 : Ref sig .tc := ⟨.hbm, 290, rfl⟩
abbrev main_v258 : Ref sig .tc := ⟨.hbm, 291, rfl⟩
abbrev main_v259 : Ref sig .tc := ⟨.hbm, 292, rfl⟩
abbrev main_cst_20 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_cst_21 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_call1_v0 : Ref sig .tc := ⟨.hbm, 308, rfl⟩
abbrev main_call1_v1 : Ref sig .tc := ⟨.hbm, 309, rfl⟩
abbrev main_call1_cst : Ref sig .tc := ⟨.hbm, 310, rfl⟩
abbrev main_call1_v2 : Ref sig .tc := ⟨.hbm, 311, rfl⟩
abbrev main_call1_v3 : Ref sig .tc := ⟨.hbm, 312, rfl⟩
abbrev main_call1_cst_0 : Ref sig .tc := ⟨.hbm, 313, rfl⟩
abbrev main_call1_v4 : Ref sig .tc := ⟨.hbm, 314, rfl⟩
abbrev main_call1_v5 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_cst_22 : Ref sig .tc := ⟨.hbm, 322, rfl⟩
abbrev main_v279 : Ref sig .tc := ⟨.hbm, 323, rfl⟩
abbrev main_v280 : Ref sig .tc := ⟨.hbm, 324, rfl⟩
abbrev main_cst_23 : Ref sig .tc := ⟨.hbm, 325, rfl⟩
abbrev main_v281 : Ref sig .tc := ⟨.hbm, 326, rfl⟩
abbrev main_v282 : Ref sig .tc := ⟨.hbm, 327, rfl⟩
abbrev main_cst_24 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_cst_25 : Ref sig .tc := ⟨.hbm, 338, rfl⟩
abbrev main_v292 : Ref sig .tc := ⟨.hbm, 339, rfl⟩
abbrev main_v293 : Ref sig .tc := ⟨.hbm, 340, rfl⟩
abbrev main_cst_26 : Ref sig .tc := ⟨.hbm, 341, rfl⟩
abbrev main_v294 : Ref sig .tc := ⟨.hbm, 342, rfl⟩
abbrev main_v295 : Ref sig .tc := ⟨.hbm, 343, rfl⟩
abbrev main_cst_27 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_c : Ref sig .tc := ⟨.hbm, 355, rfl⟩
abbrev main_call2_v0 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_c_28 : Ref sig .tc := ⟨.hbm, 361, rfl⟩
abbrev main_call3_v0 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_cst_29 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_c_30 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_c_31 : Ref sig .tc := ⟨.hbm, 381, rfl⟩
abbrev main_v326 : Ref sig .tc := ⟨.hbm, 382, rfl⟩
abbrev main_v327 : Ref sig .tc := ⟨.hbm, 383, rfl⟩
abbrev main_c_32 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_cst_33 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_cst_34 : Ref sig .tc := ⟨.hbm, 392, rfl⟩
abbrev main_v334 : Ref sig .tc := ⟨.hbm, 393, rfl⟩
abbrev main_v335 : Ref sig .tc := ⟨.hbm, 394, rfl⟩
abbrev main_cst_35 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_c_36 : Ref sig .tc := ⟨.hbm, 399, rfl⟩
abbrev main_v339 : Ref sig .tc := ⟨.hbm, 400, rfl⟩
abbrev main_v340 : Ref sig .tc := ⟨.hbm, 401, rfl⟩
abbrev main_c_37 : Ref sig .tc := ⟨.hbm, 402, rfl⟩
abbrev main_v341 : Ref sig .tc := ⟨.hbm, 403, rfl⟩
abbrev main_v342 : Ref sig .tc := ⟨.hbm, 404, rfl⟩
abbrev main_c_38 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_c_39 : Ref sig .tc := ⟨.hbm, 409, rfl⟩
abbrev main_v346 : Ref sig .tc := ⟨.hbm, 410, rfl⟩
abbrev main_v347 : Ref sig .tc := ⟨.hbm, 411, rfl⟩
abbrev main_c_40 : Ref sig .tc := ⟨.hbm, 412, rfl⟩
abbrev main_v348 : Ref sig .tc := ⟨.hbm, 413, rfl⟩
abbrev main_v349 : Ref sig .tc := ⟨.hbm, 414, rfl⟩
abbrev main_v350 : Ref sig .tc := ⟨.hbm, 415, rfl⟩
abbrev main_v351 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_v355 : Ref sig .tc := ⟨.hbm, 420, rfl⟩
abbrev main_v356 : Ref sig .tc := ⟨.hbm, 421, rfl⟩
abbrev main_c_41 : Ref sig .tc := ⟨.hbm, 422, rfl⟩
abbrev main_v357 : Ref sig .tc := ⟨.hbm, 423, rfl⟩
abbrev main_v358 : Ref sig .tc := ⟨.hbm, 424, rfl⟩
abbrev main_c_42 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_c_43 : Ref sig .tc := ⟨.hbm, 433, rfl⟩
abbrev main_v366 : Ref sig .tc := ⟨.hbm, 434, rfl⟩
abbrev main_v367 : Ref sig .tc := ⟨.hbm, 435, rfl⟩
abbrev main_v368 : Ref sig .tc := ⟨.hbm, 436, rfl⟩
abbrev main_c_44 : Ref sig .tc := ⟨.hbm, 437, rfl⟩
abbrev main_v369 : Ref sig .tc := ⟨.hbm, 438, rfl⟩
abbrev main_v370 : Ref sig .tc := ⟨.hbm, 439, rfl⟩
abbrev main_v371 : Ref sig .tc := ⟨.hbm, 440, rfl⟩
abbrev main_c_45 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_cst_46 : Ref sig .tc := ⟨.hbm, 450, rfl⟩
abbrev main_call5_v0 : Ref sig .tc := ⟨.hbm, 451, rfl⟩
abbrev main_call5_v1 : Ref sig .tc := ⟨.hbm, 452, rfl⟩
abbrev main_call5_v2 : Ref sig .tc := ⟨.hbm, 453, rfl⟩
abbrev main_v380 : Ref sig .tc := ⟨.hbm, 454, rfl⟩
abbrev main_v381 : Ref sig .tc := ⟨.hbm, 455, rfl⟩
abbrev main_v382 : Ref sig .tc := ⟨.hbm, 456, rfl⟩
abbrev main_v383 : Ref sig .tc := ⟨.hbm, 457, rfl⟩
abbrev main_cst_47 : Ref sig .tc := ⟨.hbm, 458, rfl⟩
abbrev main_v384 : Ref sig .tc := ⟨.hbm, 459, rfl⟩
abbrev main_cst_48 : Ref sig .tc := ⟨.hbm, 460, rfl⟩
abbrev main_v385 : Ref sig .tc := ⟨.hbm, 461, rfl⟩
abbrev main_v386 : Ref sig .tc := ⟨.hbm, 462, rfl⟩
abbrev main_v387 : Ref sig .tc := ⟨.hbm, 463, rfl⟩
abbrev main_v388 : Ref sig .tc := ⟨.hbm, 464, rfl⟩
abbrev main_v389 : Ref sig .tc := ⟨.hbm, 465, rfl⟩
abbrev main_v390 : Ref sig .tc := ⟨.hbm, 466, rfl⟩
abbrev main_cst_49 : Ref sig .tc := ⟨.hbm, 467, rfl⟩
abbrev main_v391 : Ref sig .tc := ⟨.hbm, 468, rfl⟩
abbrev main_v392 : Ref sig .tc := ⟨.hbm, 469, rfl⟩
abbrev main_v393 : Ref sig .tc := ⟨.hbm, 470, rfl⟩
abbrev main_v394 : Ref sig .tc := ⟨.hbm, 471, rfl⟩
abbrev main_v395 : Ref sig .tc := ⟨.hbm, 472, rfl⟩
abbrev main_v396 : Ref sig .tc := ⟨.hbm, 473, rfl⟩
abbrev main_v397 : Ref sig .tc := ⟨.hbm, 474, rfl⟩
abbrev main_v398 : Ref sig .tc := ⟨.hbm, 475, rfl⟩
abbrev main_call6_v0 : Ref sig .tc := ⟨.hbm, 476, rfl⟩
abbrev main_call6_v1 : Ref sig .tc := ⟨.hbm, 477, rfl⟩
abbrev main_call6_cst : Ref sig .tc := ⟨.hbm, 478, rfl⟩
abbrev main_call6_v2 : Ref sig .tc := ⟨.hbm, 479, rfl⟩
abbrev main_call6_v3 : Ref sig .tc := ⟨.hbm, 480, rfl⟩
abbrev main_call6_cst_0 : Ref sig .tc := ⟨.hbm, 481, rfl⟩
abbrev main_call6_v4 : Ref sig .tc := ⟨.hbm, 482, rfl⟩
abbrev main_call6_v5 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_v403 : Ref sig .tc := ⟨.hbm, 488, rfl⟩

abbrev nD : Nat := 1
abbrev τ : Topo := Topo.v7x

variable {F : FTy → Type} [FloatOps F]

def κ : String → Option EReal := fun
  | "mask" => some ⊥
  | _ => none
-- ==== Gates.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x256 : Shape := ⟨2, ![128, 256]⟩
abbrev S1x128x256 : Shape := ⟨3, ![1, 128, 256]⟩
abbrev S2x128x256 : Shape := ⟨3, ![2, 128, 256]⟩
abbrev S4x1 : Shape := ⟨2, ![4, 1]⟩
abbrev S4x128 : Shape := ⟨2, ![4, 128]⟩
abbrev S1 : Shape := ⟨1, ![1]⟩
abbrev S1x256 : Shape := ⟨2, ![1, 256]⟩
abbrev S1x1x256 : Shape := ⟨3, ![1, 1, 256]⟩
abbrev S2x1x256 : Shape := ⟨3, ![2, 1, 256]⟩
abbrev S256 : Shape := ⟨1, ![256]⟩
abbrev S256x1 : Shape := ⟨2, ![256, 1]⟩
abbrev S256x256 : Shape := ⟨2, ![256, 256]⟩
abbrev S128x1x64 : Shape := ⟨3, ![128, 1, 64]⟩
abbrev S128x64 : Shape := ⟨2, ![128, 64]⟩
abbrev S2x128x128 : Shape := ⟨3, ![2, 128, 128]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S2x64 : Shape := ⟨2, ![2, 64]⟩
abbrev S1x512x1024 : Shape := ⟨3, ![1, 512, 1024]⟩
abbrev S512x128 : Shape := ⟨2, ![512, 128]⟩
abbrev S512x2816 : Shape := ⟨2, ![512, 2816]⟩
abbrev S512x1024 : Shape := ⟨2, ![512, 1024]⟩
abbrev S2x640x128 : Shape := ⟨3, ![2, 640, 128]⟩
abbrev S2x2x640x128 : Shape := ⟨4, ![2, 2, 640, 128]⟩
abbrev S8x128x128 : Shape := ⟨3, ![8, 128, 128]⟩
abbrev S512x1 : Shape := ⟨2, ![512, 1]⟩
abbrev S512x512 : Shape := ⟨2, ![512, 512]⟩

abbrev nBuf : Space → Nat
  | .hbm => 254
  | .vmem => 28
  | .smem => 2
  | _ => 0

abbrev hbmTy0_0 (i : Nat) : BufTy := match i % 128 with
  | 0 => ⟨S8x2048x1024, .f32⟩
  | 1 => ⟨S1024, .f32⟩
  | 2 => ⟨S1024x2816, .f32⟩
  | 3 => ⟨S512, .f32⟩
  | 4 => ⟨S64, .f32⟩
  | 5 => ⟨S64, .f32⟩
  | 6 => ⟨S8, .f32⟩
  | 7 => ⟨S32x8, .f32⟩
  | 8 => ⟨S1024x1024, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S_, .f32⟩
  | 26 => ⟨S2048x32, .f32⟩
  | 27 => ⟨S2048x64, .f32⟩
  | 28 => ⟨S1x2048x1x64, .f32⟩
  | 29 => ⟨S1x2048x2x64, .f32⟩
  | 30 => ⟨S2048x128, .f32⟩
  | 31 => ⟨S2048x32, .f32⟩
  | 32 => ⟨S2048x64, .f32⟩
  | 33 => ⟨S1x2048x1x64, .f32⟩
  | 34 => ⟨S1x2048x2x64, .f32⟩
  | 35 => ⟨S2048x128, .f32⟩
  | 36 => ⟨S2048x64, .f32⟩
  | 37 => ⟨S1x2048x1x64, .f32⟩
  | 38 => ⟨S1x2048x2x64, .f32⟩
  | 39 => ⟨S2048x128, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S_, .f32⟩
  | 63 => ⟨S128x128, .f32⟩
  | 64 => ⟨S128x128, .f32⟩
  | 65 => ⟨S1x128x128, .f32⟩
  | 66 => ⟨S4x128x128, .f32⟩
  | 67 => ⟨S4x128x128, .f32⟩
  | 68 => ⟨S4x128x128, .f32⟩
  | 69 => ⟨S4x128x128, .f32⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S_, .f32⟩
  | 76 => ⟨S4x128x128, .f32⟩
  | 77 => ⟨S4x128x128, .f32⟩
  | 78 => ⟨S1x128x128, .f32⟩
  | 79 => ⟨S128x128, .f32⟩
  | 80 => ⟨S1x128x128, .f32⟩
  | 81 => ⟨S128x128, .f32⟩
  | 82 => ⟨S128x256, .f32⟩
  | 83 => ⟨S1x128x128, .f32⟩
  | 84 => ⟨S128x128, .f32⟩
  | 85 => ⟨S1x128x128, .f32⟩
  | 86 => ⟨S128x128, .f32⟩
  | 87 => ⟨S128x256, .f32⟩
  | 88 => ⟨S1x128x256, .f32⟩
  | 89 => ⟨S1x128x256, .f32⟩
  | 90 => ⟨S2x128x256, .f32⟩
  | 91 => ⟨S4x1, .f32⟩
  | 92 => ⟨S_, .f32⟩
  | 93 => ⟨S128, .f32⟩
  | 94 => ⟨S128, .f32⟩
  | 95 => ⟨S1x128, .f32⟩
  | 96 => ⟨S4x128, .f32⟩
  | 97 => ⟨S4x128, .f32⟩
  | 98 => ⟨S4x128, .f32⟩
  | 99 => ⟨S4x128, .f32⟩
  | 100 => ⟨S4x1, .f32⟩
  | 101 => ⟨S_, .f32⟩
  | 102 => ⟨S128, .f32⟩
  | 103 => ⟨S128, .f32⟩
  | 104 => ⟨S1x128, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S4x128, .f32⟩
  | 111 => ⟨S4x128, .f32⟩
  | 112 => ⟨S_, .f32⟩
  | 113 => ⟨S4, .f32⟩
  | 114 => ⟨S4, .f32⟩
  | 115 => ⟨S4, .f32⟩
  | 116 => ⟨S1, .f32⟩
  | 117 => ⟨S_, .f32⟩
  | 118 => ⟨S1x128, .f32⟩
  | 119 => ⟨S1, .f32⟩
  | 120 => ⟨S_, .f32⟩
  | 121 => ⟨S1x128, .f32⟩
  | 122 => ⟨S1x256, .f32⟩
  | 123 => ⟨S1, .f32⟩
  | 124 => ⟨S_, .f32⟩
  | 125 => ⟨S1x128, .f32⟩
  | 126 => ⟨S1, .f32⟩
  | 127 => ⟨S_, .f32⟩
  | _ => ⟨S8x2048x1024, .f32⟩

abbrev hbmTy0_1 (i : Nat) : BufTy := match i % 128 with
  | 0 => ⟨S1x128, .f32⟩
  | 1 => ⟨S1x256, .f32⟩
  | 2 => ⟨S1x1x256, .f32⟩
  | 3 => ⟨S1x1x256, .f32⟩
  | 4 => ⟨S2x1x256, .f32⟩
  | 5 => ⟨S128, .i32⟩
  | 6 => ⟨S128x1, .i32⟩
  | 7 => ⟨S128, .i32⟩
  | 8 => ⟨S1x128, .i32⟩
  | 9 => ⟨S128x128, .i32⟩
  | 10 => ⟨S128x128, .i32⟩
  | 11 => ⟨S128x128, .i1⟩
  | 12 => ⟨S128x128, .i32⟩
  | 13 => ⟨S128x128, .i32⟩
  | 14 => ⟨S128x128, .i32⟩
  | 15 => ⟨S_, .i32⟩
  | 16 => ⟨S128x1, .i32⟩
  | 17 => ⟨S128x1, .i32⟩
  | 18 => ⟨S128x128, .i32⟩
  | 19 => ⟨S128x128, .i32⟩
  | 20 => ⟨S128x128, .i32⟩
  | 21 => ⟨S128x128, .i32⟩
  | 22 => ⟨S_, .i32⟩
  | 23 => ⟨S128x128, .i32⟩
  | 24 => ⟨S128x128, .i32⟩
  | 25 => ⟨S128x128, .f32⟩
  | 26 => ⟨S_, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S128x128, .i32⟩
  | 47 => ⟨S256, .i32⟩
  | 48 => ⟨S_, .i32⟩
  | 49 => ⟨S256, .i32⟩
  | 50 => ⟨S256, .i32⟩
  | 51 => ⟨S256x1, .i32⟩
  | 52 => ⟨S1x256, .i32⟩
  | 53 => ⟨S256x256, .i32⟩
  | 54 => ⟨S256x256, .i32⟩
  | 55 => ⟨S256x256, .i1⟩
  | 56 => ⟨S_, .f32⟩
  | 57 => ⟨S_, .f32⟩
  | 58 => ⟨S256x256, .f32⟩
  | 59 => ⟨S256x256, .f32⟩
  | 60 => ⟨S256x256, .f32⟩
  | 61 => ⟨S256x256, .f32⟩
  | 62 => ⟨S1x128, .f32⟩
  | 63 => ⟨S128, .f32⟩
  | 64 => ⟨S128x1, .f32⟩
  | 65 => ⟨S128x1x64, .f32⟩
  | 66 => ⟨S128x64, .f32⟩
  | 67 => ⟨S1x128, .f32⟩
  | 68 => ⟨S128, .f32⟩
  | 69 => ⟨S128x1, .f32⟩
  | 70 => ⟨S128x1x64, .f32⟩
  | 71 => ⟨S128x64, .f32⟩
  | 72 => ⟨S128x128, .f32⟩
  | 73 => ⟨S1x128, .f32⟩
  | 74 => ⟨S128, .f32⟩
  | 75 => ⟨S128x1, .f32⟩
  | 76 => ⟨S128x1x64, .f32⟩
  | 77 => ⟨S128x64, .f32⟩
  | 78 => ⟨S1x128, .f32⟩
  | 79 => ⟨S128, .f32⟩
  | 80 => ⟨S128x1, .f32⟩
  | 81 => ⟨S128x1x64, .f32⟩
  | 82 => ⟨S128x64, .f32⟩
  | 83 => ⟨S128x128, .f32⟩
  | 84 => ⟨S1x128x128, .f32⟩
  | 85 => ⟨S1x128x128, .f32⟩
  | 86 => ⟨S2x128x128, .f32⟩
  | 87 => ⟨S1x128, .f32⟩
  | 88 => ⟨S128, .f32⟩
  | 89 => ⟨S128x1, .f32⟩
  | 90 => ⟨S128x1x64, .f32⟩
  | 91 => ⟨S128x64, .f32⟩
  | 92 => ⟨S1x128, .f32⟩
  | 93 => ⟨S128, .f32⟩
  | 94 => ⟨S128x1, .f32⟩
  | 95 => ⟨S128x1x64, .f32⟩
  | 96 => ⟨S128x64, .f32⟩
  | 97 => ⟨S128x128, .f32⟩
  | 98 => ⟨S1x128, .f32⟩
  | 99 => ⟨S128, .f32⟩
  | 100 => ⟨S128x1, .f32⟩
  | 101 => ⟨S128x1x64, .f32⟩
  | 102 => ⟨S128x64, .f32⟩
  | 103 => ⟨S1x128, .f32⟩
  | 104 => ⟨S128, .f32⟩
  | 105 => ⟨S128x1, .f32⟩
  | 106 => ⟨S128x1x64, .f32⟩
  | 107 => ⟨S128x64, .f32⟩
  | 108 => ⟨S128x128, .f32⟩
  | 109 => ⟨S1x128x128, .f32⟩
  | 110 => ⟨S1x128x128, .f32⟩
  | 111 => ⟨S2x128x128, .f32⟩
  | 112 => ⟨S256x256, .bf16⟩
  | 113 => ⟨S1x1024, .f32⟩
  | 114 => ⟨S1024x2816, .bf16⟩
  | 115 => ⟨S1024x1024, .bf16⟩
  | 116 => ⟨S1x512, .f32⟩
  | 117 => ⟨S1x64, .f32⟩
  | 118 => ⟨S8x64, .f32⟩
  | 119 => ⟨S512, .f32⟩
  | 120 => ⟨S1x512, .f32⟩
  | 121 => ⟨S1x64, .f32⟩
  | 122 => ⟨S2x64, .f32⟩
  | 123 => ⟨S128, .f32⟩
  | 124 => ⟨S1x128, .f32⟩
  | 125 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S2x128x256, .f32⟩
  | .local _ .vmem, ⟨12, _⟩ => ⟨S2x128x128, .f32⟩
  | .local _ .vmem, ⟨13, _⟩ => ⟨S2x128x128, .f32⟩
  | .local _ .vmem, ⟨14, _⟩ => ⟨S2x1x256, .f32⟩
  | .local _ .vmem, ⟨15, _⟩ => ⟨S1x512, .f32⟩
  | .local _ .vmem, ⟨16, _⟩ => ⟨S1x512, .f32⟩
  | .local _ .vmem, ⟨17, _⟩ => ⟨S1x128, .f32⟩
  | .local _ .vmem, ⟨18, _⟩ => ⟨S256x256, .bf16⟩
  | .local _ .vmem, ⟨19, _⟩ => ⟨S128x128, .i32⟩
  | .local _ .vmem, ⟨20, _⟩ => ⟨S1x512x1024, .f32⟩
  | .local _ .vmem, ⟨21, _⟩ => ⟨S1x512x1024, .f32⟩
  | .local _ .vmem, ⟨22, _⟩ => ⟨S512x2816, .f32⟩
  | .local _ .vmem, ⟨23, _⟩ => ⟨S512x1024, .bf16⟩
  | .local _ .vmem, ⟨24, _⟩ => ⟨S2x128x256, .f32⟩
  | .local _ .vmem, ⟨25, _⟩ => ⟨S2x640x128, .bf16⟩
  | .local _ .vmem, ⟨26, _⟩ => ⟨S2x2x640x128, .bf16⟩
  | .local _ .vmem, ⟨27, _⟩ => ⟨S8x128x128, .f32⟩
  | .local _ .smem, ⟨0, _⟩ => ⟨S32x8, .f32⟩
  | .local _ .smem, ⟨1, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_15 : Ref sig .tc := ⟨.hbm, 158, rfl⟩
abbrev main_v129 : Ref sig .tc := ⟨.hbm, 159, rfl⟩
abbrev main_v130 : Ref sig .tc := ⟨.hbm, 160, rfl⟩
abbrev main_cst_16 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_17 : Ref sig .tc := ⟨.hbm, 165, rfl⟩
abbrev main_v134 : Ref sig .tc := ⟨.hbm, 166, rfl⟩
abbrev main_v135 : Ref sig .tc := ⟨.hbm, 167, rfl⟩
abbrev main_c_18 : Ref sig .tc := ⟨.hbm, 168, rfl⟩
abbrev main_v136 : Ref sig .tc := ⟨.hbm, 169, rfl⟩
abbrev main_v137 : Ref sig .tc := ⟨.hbm, 170, rfl⟩
abbrev main_c_19 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_20 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_cst_22 : Ref sig .tc := ⟨.hbm, 185, rfl⟩
abbrev main_call3_v0 : Ref sig .tc := ⟨.hbm, 186, rfl⟩
abbrev main_call3_v1 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg16_0 : Ref sig .tc := ⟨.smem, 0, rfl⟩
abbrev cc0_stg17_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== GatesRefIdeal.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2048x256 : Shape := ⟨3, ![8, 2048, 256]⟩
abbrev S8x2048x512 : Shape := ⟨3, ![8, 2048, 512]⟩
abbrev S8x2048x128 : Shape := ⟨3, ![8, 2048, 128]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S512, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S32x8, .f32⟩
  | .hbm, ⟨8, _⟩ => ⟨S1024x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x2816, .f32⟩
  | .hbm, ⟨26, _⟩ => ⟨S8x2048x256, .f32⟩
  | .hbm, ⟨27, _⟩ => ⟨S8x2048x256, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x128, .f32⟩
  | .hbm, ⟨32, _⟩ => ⟨S8x2048x128, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S_, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S_, .f32⟩
  | .hbm, ⟨46, _⟩ => ⟨S8x2048x512, .f32⟩
  | .hbm, ⟨47, _⟩ => ⟨S8x2048x512, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== RetQkv.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x256 : Shape := ⟨2, ![128, 256]⟩
abbrev S1x128x256 : Shape := ⟨3, ![1, 128, 256]⟩
abbrev S2x128x256 : Shape := ⟨3, ![2, 128, 256]⟩
abbrev S4x1 : Shape := ⟨2, ![4, 1]⟩
abbrev S4x128 : Shape := ⟨2, ![4, 128]⟩
abbrev S1 : Shape := ⟨1, ![1]⟩
abbrev S1x256 : Shape := ⟨2, ![1, 256]⟩
abbrev S1x1x256 : Shape := ⟨3, ![1, 1, 256]⟩
abbrev S2x1x256 : Shape := ⟨3, ![2, 1, 256]⟩
abbrev S256 : Shape := ⟨1, ![256]⟩
abbrev S256x1 : Shape := ⟨2, ![256, 1]⟩
abbrev S256x256 : Shape := ⟨2, ![256, 256]⟩
abbrev S128x1x64 : Shape := ⟨3, ![128, 1, 64]⟩
abbrev S128x64 : Shape := ⟨2, ![128, 64]⟩
abbrev S2x128x128 : Shape := ⟨3, ![2, 128, 128]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S2x64 : Shape := ⟨2, ![2, 64]⟩
abbrev S1x512x1024 : Shape := ⟨3, ![1, 512, 1024]⟩
abbrev S512x128 : Shape := ⟨2, ![512, 128]⟩
abbrev S512x2816 : Shape := ⟨2, ![512, 2816]⟩
abbrev S512x1024 : Shape := ⟨2, ![512, 1024]⟩
abbrev S2x640x128 : Shape := ⟨3, ![2, 640, 128]⟩
abbrev S2x2x640x128 : Shape := ⟨4, ![2, 2, 640, 128]⟩
abbrev S8x128x128 : Shape := ⟨3, ![8, 128, 128]⟩
abbrev S512x1 : Shape := ⟨2, ![512, 1]⟩

abbrev nBuf : Space → Nat
  | .hbm => 254
  | .vmem => 28
  | .smem => 2
  | _ => 0

abbrev hbmTy0_0 (i : Nat) : BufTy := match i % 128 with
  | 0 => ⟨S8x2048x1024, .f32⟩
  | 1 => ⟨S1024, .f32⟩
  | 2 => ⟨S1024x2816, .f32⟩
  | 3 => ⟨S512, .f32⟩
  | 4 => ⟨S64, .f32⟩
  | 5 => ⟨S64, .f32⟩
  | 6 => ⟨S8, .f32⟩
  | 7 => ⟨S32x8, .f32⟩
  | 8 => ⟨S1024x1024, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S_, .f32⟩
  | 26 => ⟨S2048x32, .f32⟩
  | 27 => ⟨S2048x64, .f32⟩
  | 28 => ⟨S1x2048x1x64, .f32⟩
  | 29 => ⟨S1x2048x2x64, .f32⟩
  | 30 => ⟨S2048x128, .f32⟩
  | 31 => ⟨S2048x32, .f32⟩
  | 32 => ⟨S2048x64, .f32⟩
  | 33 => ⟨S1x2048x1x64, .f32⟩
  | 34 => ⟨S1x2048x2x64, .f32⟩
  | 35 => ⟨S2048x128, .f32⟩
  | 36 => ⟨S2048x64, .f32⟩
  | 37 => ⟨S1x2048x1x64, .f32⟩
  | 38 => ⟨S1x2048x2x64, .f32⟩
  | 39 => ⟨S2048x128, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S_, .f32⟩
  | 63 => ⟨S128x128, .f32⟩
  | 64 => ⟨S128x128, .f32⟩
  | 65 => ⟨S1x128x128, .f32⟩
  | 66 => ⟨S4x128x128, .f32⟩
  | 67 => ⟨S4x128x128, .f32⟩
  | 68 => ⟨S4x128x128, .f32⟩
  | 69 => ⟨S4x128x128, .f32⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S_, .f32⟩
  | 76 => ⟨S4x128x128, .f32⟩
  | 77 => ⟨S4x128x128, .f32⟩
  | 78 => ⟨S1x128x128, .f32⟩
  | 79 => ⟨S128x128, .f32⟩
  | 80 => ⟨S1x128x128, .f32⟩
  | 81 => ⟨S128x128, .f32⟩
  | 82 => ⟨S128x256, .f32⟩
  | 83 => ⟨S1x128x128, .f32⟩
  | 84 => ⟨S128x128, .f32⟩
  | 85 => ⟨S1x128x128, .f32⟩
  | 86 => ⟨S128x128, .f32⟩
  | 87 => ⟨S128x256, .f32⟩
  | 88 => ⟨S1x128x256, .f32⟩
  | 89 => ⟨S1x128x256, .f32⟩
  | 90 => ⟨S2x128x256, .f32⟩
  | 91 => ⟨S4x1, .f32⟩
  | 92 => ⟨S_, .f32⟩
  | 93 => ⟨S128, .f32⟩
  | 94 => ⟨S128, .f32⟩
  | 95 => ⟨S1x128, .f32⟩
  | 96 => ⟨S4x128, .f32⟩
  | 97 => ⟨S4x128, .f32⟩
  | 98 => ⟨S4x128, .f32⟩
  | 99 => ⟨S4x128, .f32⟩
  | 100 => ⟨S4x1, .f32⟩
  | 101 => ⟨S_, .f32⟩
  | 102 => ⟨S128, .f32⟩
  | 103 => ⟨S128, .f32⟩
  | 104 => ⟨S1x128, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S4x128, .f32⟩
  | 111 => ⟨S4x128, .f32⟩
  | 112 => ⟨S_, .f32⟩
  | 113 => ⟨S4, .f32⟩
  | 114 => ⟨S4, .f32⟩
  | 115 => ⟨S4, .f32⟩
  | 116 => ⟨S1, .f32⟩
  | 117 => ⟨S_, .f32⟩
  | 118 => ⟨S1x128, .f32⟩
  | 119 => ⟨S1, .f32⟩
  | 120 => ⟨S_, .f32⟩
  | 121 => ⟨S1x128, .f32⟩
  | 122 => ⟨S1x256, .f32⟩
  | 123 => ⟨S1, .f32⟩
  | 124 => ⟨S_, .f32⟩
  | 125 => ⟨S1x128, .f32⟩
  | 126 => ⟨S1, .f32⟩
  | 127 => ⟨S_, .f32⟩
  | _ => ⟨S8x2048x1024, .f32⟩

abbrev hbmTy0_1 (i : Nat) : BufTy := match i % 128 with
  | 0 => ⟨S1x128, .f32⟩
  | 1 => ⟨S1x256, .f32⟩
  | 2 => ⟨S1x1x256, .f32⟩
  | 3 => ⟨S1x1x256, .f32⟩
  | 4 => ⟨S2x1x256, .f32⟩
  | 5 => ⟨S128, .i32⟩
  | 6 => ⟨S128x1, .i32⟩
  | 7 => ⟨S128, .i32⟩
  | 8 => ⟨S1x128, .i32⟩
  | 9 => ⟨S128x128, .i32⟩
  | 10 => ⟨S128x128, .i32⟩
  | 11 => ⟨S128x128, .i1⟩
  | 12 => ⟨S128x128, .i32⟩
  | 13 => ⟨S128x128, .i32⟩
  | 14 => ⟨S128x128, .i32⟩
  | 15 => ⟨S_, .i32⟩
  | 16 => ⟨S128x1, .i32⟩
  | 17 => ⟨S128x1, .i32⟩
  | 18 => ⟨S128x128, .i32⟩
  | 19 => ⟨S128x128, .i32⟩
  | 20 => ⟨S128x128, .i32⟩
  | 21 => ⟨S128x128, .i32⟩
  | 22 => ⟨S_, .i32⟩
  | 23 => ⟨S128x128, .i32⟩
  | 24 => ⟨S128x128, .i32⟩
  | 25 => ⟨S128x128, .f32⟩
  | 26 => ⟨S_, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S128x128, .i32⟩
  | 47 => ⟨S256, .i32⟩
  | 48 => ⟨S_, .i32⟩
  | 49 => ⟨S256, .i32⟩
  | 50 => ⟨S256, .i32⟩
  | 51 => ⟨S256x1, .i32⟩
  | 52 => ⟨S1x256, .i32⟩
  | 53 => ⟨S256x256, .i32⟩
  | 54 => ⟨S256x256, .i32⟩
  | 55 => ⟨S256x256, .i1⟩
  | 56 => ⟨S_, .f32⟩
  | 57 => ⟨S_, .f32⟩
  | 58 => ⟨S256x256, .f32⟩
  | 59 => ⟨S256x256, .f32⟩
  | 60 => ⟨S256x256, .f32⟩
  | 61 => ⟨S256x256, .f32⟩
  | 62 => ⟨S1x128, .f32⟩
  | 63 => ⟨S128, .f32⟩
  | 64 => ⟨S128x1, .f32⟩
  | 65 => ⟨S128x1x64, .f32⟩
  | 66 => ⟨S128x64, .f32⟩
  | 67 => ⟨S1x128, .f32⟩
  | 68 => ⟨S128, .f32⟩
  | 69 => ⟨S128x1, .f32⟩
  | 70 => ⟨S128x1x64, .f32⟩
  | 71 => ⟨S128x64, .f32⟩
  | 72 => ⟨S128x128, .f32⟩
  | 73 => ⟨S1x128, .f32⟩
  | 74 => ⟨S128, .f32⟩
  | 75 => ⟨S128x1, .f32⟩
  | 76 => ⟨S128x1x64, .f32⟩
  | 77 => ⟨S128x64, .f32⟩
  | 78 => ⟨S1x128, .f32⟩
  | 79 => ⟨S128, .f32⟩
  | 80 => ⟨S128x1, .f32⟩
  | 81 => ⟨S128x1x64, .f32⟩
  | 82 => ⟨S128x64, .f32⟩
  | 83 => ⟨S128x128, .f32⟩
  | 84 => ⟨S1x128x128, .f32⟩
  | 85 => ⟨S1x128x128, .f32⟩
  | 86 => ⟨S2x128x128, .f32⟩
  | 87 => ⟨S1x128, .f32⟩
  | 88 => ⟨S128, .f32⟩
  | 89 => ⟨S128x1, .f32⟩
  | 90 => ⟨S128x1x64, .f32⟩
  | 91 => ⟨S128x64, .f32⟩
  | 92 => ⟨S1x128, .f32⟩
  | 93 => ⟨S128, .f32⟩
  | 94 => ⟨S128x1, .f32⟩
  | 95 => ⟨S128x1x64, .f32⟩
  | 96 => ⟨S128x64, .f32⟩
  | 97 => ⟨S128x128, .f32⟩
  | 98 => ⟨S1x128, .f32⟩
  | 99 => ⟨S128, .f32⟩
  | 100 => ⟨S128x1, .f32⟩
  | 101 => ⟨S128x1x64, .f32⟩
  | 102 => ⟨S128x64, .f32⟩
  | 103 => ⟨S1x128, .f32⟩
  | 104 => ⟨S128, .f32⟩
  | 105 => ⟨S128x1, .f32⟩
  | 106 => ⟨S128x1x64, .f32⟩
  | 107 => ⟨S128x64, .f32⟩
  | 108 => ⟨S128x128, .f32⟩
  | 109 => ⟨S1x128x128, .f32⟩
  | 110 => ⟨S1x128x128, .f32⟩
  | 111 => ⟨S2x128x128, .f32⟩
  | 112 => ⟨S256x256, .bf16⟩
  | 113 => ⟨S1x1024, .f32⟩
  | 114 => ⟨S1024x2816, .bf16⟩
  | 115 => ⟨S1024x1024, .bf16⟩
  | 116 => ⟨S1x512, .f32⟩
  | 117 => ⟨S1x64, .f32⟩
  | 118 => ⟨S8x64, .f32⟩
  | 119 => ⟨S512, .f32⟩
  | 120 => ⟨S1x512, .f32⟩
  | 121 => ⟨S1x64, .f32⟩
  | 122 => ⟨S2x64, .f32⟩
  | 123 => ⟨S128, .f32⟩
  | 124 => ⟨S1x128, .f32⟩
  | 125 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S2x128x256, .f32⟩
  | .local _ .vmem, ⟨12, _⟩ => ⟨S2x128x128, .f32⟩
  | .local _ .vmem, ⟨13, _⟩ => ⟨S2x128x128, .f32⟩
  | .local _ .vmem, ⟨14, _⟩ => ⟨S2x1x256, .f32⟩
  | .local _ .vmem, ⟨15, _⟩ => ⟨S1x512, .f32⟩
  | .local _ .vmem, ⟨16, _⟩ => ⟨S1x512, .f32⟩
  | .local _ .vmem, ⟨17, _⟩ => ⟨S1x128, .f32⟩
  | .local _ .vmem, ⟨18, _⟩ => ⟨S256x256, .bf16⟩
  | .local _ .vmem, ⟨19, _⟩ => ⟨S128x128, .i32⟩
  | .local _ .vmem, ⟨20, _⟩ => ⟨S1x512x1024, .f32⟩
  | .local _ .vmem, ⟨21, _⟩ => ⟨S1x512x1024, .f32⟩
  | .local _ .vmem, ⟨22, _⟩ => ⟨S512x2816, .f32⟩
  | .local _ .vmem, ⟨23, _⟩ => ⟨S512x1024, .bf16⟩
  | .local _ .vmem, ⟨24, _⟩ => ⟨S2x128x256, .f32⟩
  | .local _ .vmem, ⟨25, _⟩ => ⟨S2x640x128, .bf16⟩
  | .local _ .vmem, ⟨26, _⟩ => ⟨S2x2x640x128, .bf16⟩
  | .local _ .vmem, ⟨27, _⟩ => ⟨S8x128x128, .f32⟩
  | .local _ .smem, ⟨0, _⟩ => ⟨S32x8, .f32⟩
  | .local _ .smem, ⟨1, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_15 : Ref sig .tc := ⟨.hbm, 158, rfl⟩
abbrev main_v129 : Ref sig .tc := ⟨.hbm, 159, rfl⟩
abbrev main_v130 : Ref sig .tc := ⟨.hbm, 160, rfl⟩
abbrev main_cst_16 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_17 : Ref sig .tc := ⟨.hbm, 165, rfl⟩
abbrev main_v134 : Ref sig .tc := ⟨.hbm, 166, rfl⟩
abbrev main_v135 : Ref sig .tc := ⟨.hbm, 167, rfl⟩
abbrev main_c_18 : Ref sig .tc := ⟨.hbm, 168, rfl⟩
abbrev main_v136 : Ref sig .tc := ⟨.hbm, 169, rfl⟩
abbrev main_v137 : Ref sig .tc := ⟨.hbm, 170, rfl⟩
abbrev main_c_19 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_20 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_cst_22 : Ref sig .tc := ⟨.hbm, 185, rfl⟩
abbrev main_call3_v0 : Ref sig .tc := ⟨.hbm, 186, rfl⟩
abbrev main_call3_v1 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg16_0 : Ref sig .tc := ⟨.smem, 0, rfl⟩
abbrev cc0_stg17_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== RetQkvRefIdeal.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S512, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S32x8, .f32⟩
  | .hbm, ⟨8, _⟩ => ⟨S1024x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x2816, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== SwaQkv.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x256 : Shape := ⟨2, ![128, 256]⟩
abbrev S1x128x256 : Shape := ⟨3, ![1, 128, 256]⟩
abbrev S2x128x256 : Shape := ⟨3, ![2, 128, 256]⟩
abbrev S4x1 : Shape := ⟨2, ![4, 1]⟩
abbrev S4x128 : Shape := ⟨2, ![4, 128]⟩
abbrev S1 : Shape := ⟨1, ![1]⟩
abbrev S1x256 : Shape := ⟨2, ![1, 256]⟩
abbrev S1x1x256 : Shape := ⟨3, ![1, 1, 256]⟩
abbrev S2x1x256 : Shape := ⟨3, ![2, 1, 256]⟩
abbrev S256 : Shape := ⟨1, ![256]⟩
abbrev S256x1 : Shape := ⟨2, ![256, 1]⟩
abbrev S256x256 : Shape := ⟨2, ![256, 256]⟩
abbrev S128x1x64 : Shape := ⟨3, ![128, 1, 64]⟩
abbrev S128x64 : Shape := ⟨2, ![128, 64]⟩
abbrev S2x128x128 : Shape := ⟨3, ![2, 128, 128]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S2x64 : Shape := ⟨2, ![2, 64]⟩
abbrev S1x512x1024 : Shape := ⟨3, ![1, 512, 1024]⟩
abbrev S512x128 : Shape := ⟨2, ![512, 128]⟩
abbrev S512x2816 : Shape := ⟨2, ![512, 2816]⟩
abbrev S512x1024 : Shape := ⟨2, ![512, 1024]⟩
abbrev S2x640x128 : Shape := ⟨3, ![2, 640, 128]⟩
abbrev S2x2x640x128 : Shape := ⟨4, ![2, 2, 640, 128]⟩
abbrev S8x128x128 : Shape := ⟨3, ![8, 128, 128]⟩
abbrev S512x1 : Shape := ⟨2, ![512, 1]⟩

abbrev nBuf : Space → Nat
  | .hbm => 254
  | .vmem => 28
  | .smem => 2
  | _ => 0

abbrev hbmTy0_0 (i : Nat) : BufTy := match i % 128 with
  | 0 => ⟨S8x2048x1024, .f32⟩
  | 1 => ⟨S1024, .f32⟩
  | 2 => ⟨S1024x2816, .f32⟩
  | 3 => ⟨S512, .f32⟩
  | 4 => ⟨S64, .f32⟩
  | 5 => ⟨S64, .f32⟩
  | 6 => ⟨S8, .f32⟩
  | 7 => ⟨S32x8, .f32⟩
  | 8 => ⟨S1024x1024, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S_, .f32⟩
  | 26 => ⟨S2048x32, .f32⟩
  | 27 => ⟨S2048x64, .f32⟩
  | 28 => ⟨S1x2048x1x64, .f32⟩
  | 29 => ⟨S1x2048x2x64, .f32⟩
  | 30 => ⟨S2048x128, .f32⟩
  | 31 => ⟨S2048x32, .f32⟩
  | 32 => ⟨S2048x64, .f32⟩
  | 33 => ⟨S1x2048x1x64, .f32⟩
  | 34 => ⟨S1x2048x2x64, .f32⟩
  | 35 => ⟨S2048x128, .f32⟩
  | 36 => ⟨S2048x64, .f32⟩
  | 37 => ⟨S1x2048x1x64, .f32⟩
  | 38 => ⟨S1x2048x2x64, .f32⟩
  | 39 => ⟨S2048x128, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S_, .f32⟩
  | 63 => ⟨S128x128, .f32⟩
  | 64 => ⟨S128x128, .f32⟩
  | 65 => ⟨S1x128x128, .f32⟩
  | 66 => ⟨S4x128x128, .f32⟩
  | 67 => ⟨S4x128x128, .f32⟩
  | 68 => ⟨S4x128x128, .f32⟩
  | 69 => ⟨S4x128x128, .f32⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S_, .f32⟩
  | 76 => ⟨S4x128x128, .f32⟩
  | 77 => ⟨S4x128x128, .f32⟩
  | 78 => ⟨S1x128x128, .f32⟩
  | 79 => ⟨S128x128, .f32⟩
  | 80 => ⟨S1x128x128, .f32⟩
  | 81 => ⟨S128x128, .f32⟩
  | 82 => ⟨S128x256, .f32⟩
  | 83 => ⟨S1x128x128, .f32⟩
  | 84 => ⟨S128x128, .f32⟩
  | 85 => ⟨S1x128x128, .f32⟩
  | 86 => ⟨S128x128, .f32⟩
  | 87 => ⟨S128x256, .f32⟩
  | 88 => ⟨S1x128x256, .f32⟩
  | 89 => ⟨S1x128x256, .f32⟩
  | 90 => ⟨S2x128x256, .f32⟩
  | 91 => ⟨S4x1, .f32⟩
  | 92 => ⟨S_, .f32⟩
  | 93 => ⟨S128, .f32⟩
  | 94 => ⟨S128, .f32⟩
  | 95 => ⟨S1x128, .f32⟩
  | 96 => ⟨S4x128, .f32⟩
  | 97 => ⟨S4x128, .f32⟩
  | 98 => ⟨S4x128, .f32⟩
  | 99 => ⟨S4x128, .f32⟩
  | 100 => ⟨S4x1, .f32⟩
  | 101 => ⟨S_, .f32⟩
  | 102 => ⟨S128, .f32⟩
  | 103 => ⟨S128, .f32⟩
  | 104 => ⟨S1x128, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S4x128, .f32⟩
  | 111 => ⟨S4x128, .f32⟩
  | 112 => ⟨S_, .f32⟩
  | 113 => ⟨S4, .f32⟩
  | 114 => ⟨S4, .f32⟩
  | 115 => ⟨S4, .f32⟩
  | 116 => ⟨S1, .f32⟩
  | 117 => ⟨S_, .f32⟩
  | 118 => ⟨S1x128, .f32⟩
  | 119 => ⟨S1, .f32⟩
  | 120 => ⟨S_, .f32⟩
  | 121 => ⟨S1x128, .f32⟩
  | 122 => ⟨S1x256, .f32⟩
  | 123 => ⟨S1, .f32⟩
  | 124 => ⟨S_, .f32⟩
  | 125 => ⟨S1x128, .f32⟩
  | 126 => ⟨S1, .f32⟩
  | 127 => ⟨S_, .f32⟩
  | _ => ⟨S8x2048x1024, .f32⟩

abbrev hbmTy0_1 (i : Nat) : BufTy := match i % 128 with
  | 0 => ⟨S1x128, .f32⟩
  | 1 => ⟨S1x256, .f32⟩
  | 2 => ⟨S1x1x256, .f32⟩
  | 3 => ⟨S1x1x256, .f32⟩
  | 4 => ⟨S2x1x256, .f32⟩
  | 5 => ⟨S128, .i32⟩
  | 6 => ⟨S128x1, .i32⟩
  | 7 => ⟨S128, .i32⟩
  | 8 => ⟨S1x128, .i32⟩
  | 9 => ⟨S128x128, .i32⟩
  | 10 => ⟨S128x128, .i32⟩
  | 11 => ⟨S128x128, .i1⟩
  | 12 => ⟨S128x128, .i32⟩
  | 13 => ⟨S128x128, .i32⟩
  | 14 => ⟨S128x128, .i32⟩
  | 15 => ⟨S_, .i32⟩
  | 16 => ⟨S128x1, .i32⟩
  | 17 => ⟨S128x1, .i32⟩
  | 18 => ⟨S128x128, .i32⟩
  | 19 => ⟨S128x128, .i32⟩
  | 20 => ⟨S128x128, .i32⟩
  | 21 => ⟨S128x128, .i32⟩
  | 22 => ⟨S_, .i32⟩
  | 23 => ⟨S128x128, .i32⟩
  | 24 => ⟨S128x128, .i32⟩
  | 25 => ⟨S128x128, .f32⟩
  | 26 => ⟨S_, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S128x128, .i32⟩
  | 47 => ⟨S256, .i32⟩
  | 48 => ⟨S_, .i32⟩
  | 49 => ⟨S256, .i32⟩
  | 50 => ⟨S256, .i32⟩
  | 51 => ⟨S256x1, .i32⟩
  | 52 => ⟨S1x256, .i32⟩
  | 53 => ⟨S256x256, .i32⟩
  | 54 => ⟨S256x256, .i32⟩
  | 55 => ⟨S256x256, .i1⟩
  | 56 => ⟨S_, .f32⟩
  | 57 => ⟨S_, .f32⟩
  | 58 => ⟨S256x256, .f32⟩
  | 59 => ⟨S256x256, .f32⟩
  | 60 => ⟨S256x256, .f32⟩
  | 61 => ⟨S256x256, .f32⟩
  | 62 => ⟨S1x128, .f32⟩
  | 63 => ⟨S128, .f32⟩
  | 64 => ⟨S128x1, .f32⟩
  | 65 => ⟨S128x1x64, .f32⟩
  | 66 => ⟨S128x64, .f32⟩
  | 67 => ⟨S1x128, .f32⟩
  | 68 => ⟨S128, .f32⟩
  | 69 => ⟨S128x1, .f32⟩
  | 70 => ⟨S128x1x64, .f32⟩
  | 71 => ⟨S128x64, .f32⟩
  | 72 => ⟨S128x128, .f32⟩
  | 73 => ⟨S1x128, .f32⟩
  | 74 => ⟨S128, .f32⟩
  | 75 => ⟨S128x1, .f32⟩
  | 76 => ⟨S128x1x64, .f32⟩
  | 77 => ⟨S128x64, .f32⟩
  | 78 => ⟨S1x128, .f32⟩
  | 79 => ⟨S128, .f32⟩
  | 80 => ⟨S128x1, .f32⟩
  | 81 => ⟨S128x1x64, .f32⟩
  | 82 => ⟨S128x64, .f32⟩
  | 83 => ⟨S128x128, .f32⟩
  | 84 => ⟨S1x128x128, .f32⟩
  | 85 => ⟨S1x128x128, .f32⟩
  | 86 => ⟨S2x128x128, .f32⟩
  | 87 => ⟨S1x128, .f32⟩
  | 88 => ⟨S128, .f32⟩
  | 89 => ⟨S128x1, .f32⟩
  | 90 => ⟨S128x1x64, .f32⟩
  | 91 => ⟨S128x64, .f32⟩
  | 92 => ⟨S1x128, .f32⟩
  | 93 => ⟨S128, .f32⟩
  | 94 => ⟨S128x1, .f32⟩
  | 95 => ⟨S128x1x64, .f32⟩
  | 96 => ⟨S128x64, .f32⟩
  | 97 => ⟨S128x128, .f32⟩
  | 98 => ⟨S1x128, .f32⟩
  | 99 => ⟨S128, .f32⟩
  | 100 => ⟨S128x1, .f32⟩
  | 101 => ⟨S128x1x64, .f32⟩
  | 102 => ⟨S128x64, .f32⟩
  | 103 => ⟨S1x128, .f32⟩
  | 104 => ⟨S128, .f32⟩
  | 105 => ⟨S128x1, .f32⟩
  | 106 => ⟨S128x1x64, .f32⟩
  | 107 => ⟨S128x64, .f32⟩
  | 108 => ⟨S128x128, .f32⟩
  | 109 => ⟨S1x128x128, .f32⟩
  | 110 => ⟨S1x128x128, .f32⟩
  | 111 => ⟨S2x128x128, .f32⟩
  | 112 => ⟨S256x256, .bf16⟩
  | 113 => ⟨S1x1024, .f32⟩
  | 114 => ⟨S1024x2816, .bf16⟩
  | 115 => ⟨S1024x1024, .bf16⟩
  | 116 => ⟨S1x512, .f32⟩
  | 117 => ⟨S1x64, .f32⟩
  | 118 => ⟨S8x64, .f32⟩
  | 119 => ⟨S512, .f32⟩
  | 120 => ⟨S1x512, .f32⟩
  | 121 => ⟨S1x64, .f32⟩
  | 122 => ⟨S2x64, .f32⟩
  | 123 => ⟨S128, .f32⟩
  | 124 => ⟨S1x128, .f32⟩
  | 125 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S2x128x256, .f32⟩
  | .local _ .vmem, ⟨12, _⟩ => ⟨S2x128x128, .f32⟩
  | .local _ .vmem, ⟨13, _⟩ => ⟨S2x128x128, .f32⟩
  | .local _ .vmem, ⟨14, _⟩ => ⟨S2x1x256, .f32⟩
  | .local _ .vmem, ⟨15, _⟩ => ⟨S1x512, .f32⟩
  | .local _ .vmem, ⟨16, _⟩ => ⟨S1x512, .f32⟩
  | .local _ .vmem, ⟨17, _⟩ => ⟨S1x128, .f32⟩
  | .local _ .vmem, ⟨18, _⟩ => ⟨S256x256, .bf16⟩
  | .local _ .vmem, ⟨19, _⟩ => ⟨S128x128, .i32⟩
  | .local _ .vmem, ⟨20, _⟩ => ⟨S1x512x1024, .f32⟩
  | .local _ .vmem, ⟨21, _⟩ => ⟨S1x512x1024, .f32⟩
  | .local _ .vmem, ⟨22, _⟩ => ⟨S512x2816, .f32⟩
  | .local _ .vmem, ⟨23, _⟩ => ⟨S512x1024, .bf16⟩
  | .local _ .vmem, ⟨24, _⟩ => ⟨S2x128x256, .f32⟩
  | .local _ .vmem, ⟨25, _⟩ => ⟨S2x640x128, .bf16⟩
  | .local _ .vmem, ⟨26, _⟩ => ⟨S2x2x640x128, .bf16⟩
  | .local _ .vmem, ⟨27, _⟩ => ⟨S8x128x128, .f32⟩
  | .local _ .smem, ⟨0, _⟩ => ⟨S32x8, .f32⟩
  | .local _ .smem, ⟨1, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_15 : Ref sig .tc := ⟨.hbm, 158, rfl⟩
abbrev main_v129 : Ref sig .tc := ⟨.hbm, 159, rfl⟩
abbrev main_v130 : Ref sig .tc := ⟨.hbm, 160, rfl⟩
abbrev main_cst_16 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_17 : Ref sig .tc := ⟨.hbm, 165, rfl⟩
abbrev main_v134 : Ref sig .tc := ⟨.hbm, 166, rfl⟩
abbrev main_v135 : Ref sig .tc := ⟨.hbm, 167, rfl⟩
abbrev main_c_18 : Ref sig .tc := ⟨.hbm, 168, rfl⟩
abbrev main_v136 : Ref sig .tc := ⟨.hbm, 169, rfl⟩
abbrev main_v137 : Ref sig .tc := ⟨.hbm, 170, rfl⟩
abbrev main_c_19 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_20 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_cst_22 : Ref sig .tc := ⟨.hbm, 185, rfl⟩
abbrev main_call3_v0 : Ref sig .tc := ⟨.hbm, 186, rfl⟩
abbrev main_call3_v1 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg16_0 : Ref sig .tc := ⟨.smem, 0, rfl⟩
abbrev cc0_stg17_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== SwaQkvRefIdeal.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S512, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S32x8, .f32⟩
  | .hbm, ⟨8, _⟩ => ⟨S1024x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x2816, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Retention.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x256 : Shape := ⟨2, ![128, 256]⟩
abbrev S1x128x256 : Shape := ⟨3, ![1, 128, 256]⟩
abbrev S2x128x256 : Shape := ⟨3, ![2, 128, 256]⟩
abbrev S4x1 : Shape := ⟨2, ![4, 1]⟩
abbrev S4x128 : Shape := ⟨2, ![4, 128]⟩
abbrev S1 : Shape := ⟨1, ![1]⟩
abbrev S1x256 : Shape := ⟨2, ![1, 256]⟩
abbrev S1x1x256 : Shape := ⟨3, ![1, 1, 256]⟩
abbrev S2x1x256 : Shape := ⟨3, ![2, 1, 256]⟩
abbrev S256 : Shape := ⟨1, ![256]⟩
abbrev S256x1 : Shape := ⟨2, ![256, 1]⟩
abbrev S256x256 : Shape := ⟨2, ![256, 256]⟩
abbrev S128x1x64 : Shape := ⟨3, ![128, 1, 64]⟩
abbrev S128x64 : Shape := ⟨2, ![128, 64]⟩
abbrev S2x128x128 : Shape := ⟨3, ![2, 128, 128]⟩
abbrev S1x1024 : Shape := ⟨2, ![1, 1024]⟩
abbrev S1x512 : Shape := ⟨2, ![1, 512]⟩
abbrev S1x64 : Shape := ⟨2, ![1, 64]⟩
abbrev S8x64 : Shape := ⟨2, ![8, 64]⟩
abbrev S2x64 : Shape := ⟨2, ![2, 64]⟩
abbrev S1x512x1024 : Shape := ⟨3, ![1, 512, 1024]⟩
abbrev S512x128 : Shape := ⟨2, ![512, 128]⟩
abbrev S512x2816 : Shape := ⟨2, ![512, 2816]⟩
abbrev S512x1024 : Shape := ⟨2, ![512, 1024]⟩
abbrev S2x640x128 : Shape := ⟨3, ![2, 640, 128]⟩
abbrev S2x2x640x128 : Shape := ⟨4, ![2, 2, 640, 128]⟩
abbrev S8x128x128 : Shape := ⟨3, ![8, 128, 128]⟩
abbrev S512x1 : Shape := ⟨2, ![512, 1]⟩
abbrev S256x128 : Shape := ⟨2, ![256, 128]⟩

abbrev nBuf : Space → Nat
  | .hbm => 254
  | .vmem => 28
  | .smem => 2
  | _ => 0

abbrev hbmTy0_0 (i : Nat) : BufTy := match i % 128 with
  | 0 => ⟨S8x2048x1024, .f32⟩
  | 1 => ⟨S1024, .f32⟩
  | 2 => ⟨S1024x2816, .f32⟩
  | 3 => ⟨S512, .f32⟩
  | 4 => ⟨S64, .f32⟩
  | 5 => ⟨S64, .f32⟩
  | 6 => ⟨S8, .f32⟩
  | 7 => ⟨S32x8, .f32⟩
  | 8 => ⟨S1024x1024, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S2048x32, .f32⟩
  | 25 => ⟨S_, .f32⟩
  | 26 => ⟨S2048x32, .f32⟩
  | 27 => ⟨S2048x64, .f32⟩
  | 28 => ⟨S1x2048x1x64, .f32⟩
  | 29 => ⟨S1x2048x2x64, .f32⟩
  | 30 => ⟨S2048x128, .f32⟩
  | 31 => ⟨S2048x32, .f32⟩
  | 32 => ⟨S2048x64, .f32⟩
  | 33 => ⟨S1x2048x1x64, .f32⟩
  | 34 => ⟨S1x2048x2x64, .f32⟩
  | 35 => ⟨S2048x128, .f32⟩
  | 36 => ⟨S2048x64, .f32⟩
  | 37 => ⟨S1x2048x1x64, .f32⟩
  | 38 => ⟨S1x2048x2x64, .f32⟩
  | 39 => ⟨S2048x128, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S_, .f32⟩
  | 63 => ⟨S128x128, .f32⟩
  | 64 => ⟨S128x128, .f32⟩
  | 65 => ⟨S1x128x128, .f32⟩
  | 66 => ⟨S4x128x128, .f32⟩
  | 67 => ⟨S4x128x128, .f32⟩
  | 68 => ⟨S4x128x128, .f32⟩
  | 69 => ⟨S4x128x128, .f32⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S_, .f32⟩
  | 76 => ⟨S4x128x128, .f32⟩
  | 77 => ⟨S4x128x128, .f32⟩
  | 78 => ⟨S1x128x128, .f32⟩
  | 79 => ⟨S128x128, .f32⟩
  | 80 => ⟨S1x128x128, .f32⟩
  | 81 => ⟨S128x128, .f32⟩
  | 82 => ⟨S128x256, .f32⟩
  | 83 => ⟨S1x128x128, .f32⟩
  | 84 => ⟨S128x128, .f32⟩
  | 85 => ⟨S1x128x128, .f32⟩
  | 86 => ⟨S128x128, .f32⟩
  | 87 => ⟨S128x256, .f32⟩
  | 88 => ⟨S1x128x256, .f32⟩
  | 89 => ⟨S1x128x256, .f32⟩
  | 90 => ⟨S2x128x256, .f32⟩
  | 91 => ⟨S4x1, .f32⟩
  | 92 => ⟨S_, .f32⟩
  | 93 => ⟨S128, .f32⟩
  | 94 => ⟨S128, .f32⟩
  | 95 => ⟨S1x128, .f32⟩
  | 96 => ⟨S4x128, .f32⟩
  | 97 => ⟨S4x128, .f32⟩
  | 98 => ⟨S4x128, .f32⟩
  | 99 => ⟨S4x128, .f32⟩
  | 100 => ⟨S4x1, .f32⟩
  | 101 => ⟨S_, .f32⟩
  | 102 => ⟨S128, .f32⟩
  | 103 => ⟨S128, .f32⟩
  | 104 => ⟨S1x128, .f32⟩
  | 105 => ⟨S4x128, .f32⟩
  | 106 => ⟨S4x128, .f32⟩
  | 107 => ⟨S4x128, .f32⟩
  | 108 => ⟨S4x128, .f32⟩
  | 109 => ⟨S_, .f32⟩
  | 110 => ⟨S4x128, .f32⟩
  | 111 => ⟨S4x128, .f32⟩
  | 112 => ⟨S_, .f32⟩
  | 113 => ⟨S4, .f32⟩
  | 114 => ⟨S4, .f32⟩
  | 115 => ⟨S4, .f32⟩
  | 116 => ⟨S1, .f32⟩
  | 117 => ⟨S_, .f32⟩
  | 118 => ⟨S1x128, .f32⟩
  | 119 => ⟨S1, .f32⟩
  | 120 => ⟨S_, .f32⟩
  | 121 => ⟨S1x128, .f32⟩
  | 122 => ⟨S1x256, .f32⟩
  | 123 => ⟨S1, .f32⟩
  | 124 => ⟨S_, .f32⟩
  | 125 => ⟨S1x128, .f32⟩
  | 126 => ⟨S1, .f32⟩
  | 127 => ⟨S_, .f32⟩
  | _ => ⟨S8x2048x1024, .f32⟩

abbrev hbmTy0_1 (i : Nat) : BufTy := match i % 128 with
  | 0 => ⟨S1x128, .f32⟩
  | 1 => ⟨S1x256, .f32⟩
  | 2 => ⟨S1x1x256, .f32⟩
  | 3 => ⟨S1x1x256, .f32⟩
  | 4 => ⟨S2x1x256, .f32⟩
  | 5 => ⟨S128, .i32⟩
  | 6 => ⟨S128x1, .i32⟩
  | 7 => ⟨S128, .i32⟩
  | 8 => ⟨S1x128, .i32⟩
  | 9 => ⟨S128x128, .i32⟩
  | 10 => ⟨S128x128, .i32⟩
  | 11 => ⟨S128x128, .i1⟩
  | 12 => ⟨S128x128, .i32⟩
  | 13 => ⟨S128x128, .i32⟩
  | 14 => ⟨S128x128, .i32⟩
  | 15 => ⟨S_, .i32⟩
  | 16 => ⟨S128x1, .i32⟩
  | 17 => ⟨S128x1, .i32⟩
  | 18 => ⟨S128x128, .i32⟩
  | 19 => ⟨S128x128, .i32⟩
  | 20 => ⟨S128x128, .i32⟩
  | 21 => ⟨S128x128, .i32⟩
  | 22 => ⟨S_, .i32⟩
  | 23 => ⟨S128x128, .i32⟩
  | 24 => ⟨S128x128, .i32⟩
  | 25 => ⟨S128x128, .f32⟩
  | 26 => ⟨S_, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .f32⟩
  | 33 => ⟨S_, .f32⟩
  | 34 => ⟨S128x128, .f32⟩
  | 35 => ⟨S128x128, .f32⟩
  | 36 => ⟨S128x128, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i32⟩
  | 43 => ⟨S_, .i32⟩
  | 44 => ⟨S128x128, .i32⟩
  | 45 => ⟨S128x128, .i1⟩
  | 46 => ⟨S128x128, .i32⟩
  | 47 => ⟨S256, .i32⟩
  | 48 => ⟨S_, .i32⟩
  | 49 => ⟨S256, .i32⟩
  | 50 => ⟨S256, .i32⟩
  | 51 => ⟨S256x1, .i32⟩
  | 52 => ⟨S1x256, .i32⟩
  | 53 => ⟨S256x256, .i32⟩
  | 54 => ⟨S256x256, .i32⟩
  | 55 => ⟨S256x256, .i1⟩
  | 56 => ⟨S_, .f32⟩
  | 57 => ⟨S_, .f32⟩
  | 58 => ⟨S256x256, .f32⟩
  | 59 => ⟨S256x256, .f32⟩
  | 60 => ⟨S256x256, .f32⟩
  | 61 => ⟨S256x256, .f32⟩
  | 62 => ⟨S1x128, .f32⟩
  | 63 => ⟨S128, .f32⟩
  | 64 => ⟨S128x1, .f32⟩
  | 65 => ⟨S128x1x64, .f32⟩
  | 66 => ⟨S128x64, .f32⟩
  | 67 => ⟨S1x128, .f32⟩
  | 68 => ⟨S128, .f32⟩
  | 69 => ⟨S128x1, .f32⟩
  | 70 => ⟨S128x1x64, .f32⟩
  | 71 => ⟨S128x64, .f32⟩
  | 72 => ⟨S128x128, .f32⟩
  | 73 => ⟨S1x128, .f32⟩
  | 74 => ⟨S128, .f32⟩
  | 75 => ⟨S128x1, .f32⟩
  | 76 => ⟨S128x1x64, .f32⟩
  | 77 => ⟨S128x64, .f32⟩
  | 78 => ⟨S1x128, .f32⟩
  | 79 => ⟨S128, .f32⟩
  | 80 => ⟨S128x1, .f32⟩
  | 81 => ⟨S128x1x64, .f32⟩
  | 82 => ⟨S128x64, .f32⟩
  | 83 => ⟨S128x128, .f32⟩
  | 84 => ⟨S1x128x128, .f32⟩
  | 85 => ⟨S1x128x128, .f32⟩
  | 86 => ⟨S2x128x128, .f32⟩
  | 87 => ⟨S1x128, .f32⟩
  | 88 => ⟨S128, .f32⟩
  | 89 => ⟨S128x1, .f32⟩
  | 90 => ⟨S128x1x64, .f32⟩
  | 91 => ⟨S128x64, .f32⟩
  | 92 => ⟨S1x128, .f32⟩
  | 93 => ⟨S128, .f32⟩
  | 94 => ⟨S128x1, .f32⟩
  | 95 => ⟨S128x1x64, .f32⟩
  | 96 => ⟨S128x64, .f32⟩
  | 97 => ⟨S128x128, .f32⟩
  | 98 => ⟨S1x128, .f32⟩
  | 99 => ⟨S128, .f32⟩
  | 100 => ⟨S128x1, .f32⟩
  | 101 => ⟨S128x1x64, .f32⟩
  | 102 => ⟨S128x64, .f32⟩
  | 103 => ⟨S1x128, .f32⟩
  | 104 => ⟨S128, .f32⟩
  | 105 => ⟨S128x1, .f32⟩
  | 106 => ⟨S128x1x64, .f32⟩
  | 107 => ⟨S128x64, .f32⟩
  | 108 => ⟨S128x128, .f32⟩
  | 109 => ⟨S1x128x128, .f32⟩
  | 110 => ⟨S1x128x128, .f32⟩
  | 111 => ⟨S2x128x128, .f32⟩
  | 112 => ⟨S256x256, .bf16⟩
  | 113 => ⟨S1x1024, .f32⟩
  | 114 => ⟨S1024x2816, .bf16⟩
  | 115 => ⟨S1024x1024, .bf16⟩
  | 116 => ⟨S1x512, .f32⟩
  | 117 => ⟨S1x64, .f32⟩
  | 118 => ⟨S8x64, .f32⟩
  | 119 => ⟨S512, .f32⟩
  | 120 => ⟨S1x512, .f32⟩
  | 121 => ⟨S1x64, .f32⟩
  | 122 => ⟨S2x64, .f32⟩
  | 123 => ⟨S128, .f32⟩
  | 124 => ⟨S1x128, .f32⟩
  | 125 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S2x128x256, .f32⟩
  | .local _ .vmem, ⟨12, _⟩ => ⟨S2x128x128, .f32⟩
  | .local _ .vmem, ⟨13, _⟩ => ⟨S2x128x128, .f32⟩
  | .local _ .vmem, ⟨14, _⟩ => ⟨S2x1x256, .f32⟩
  | .local _ .vmem, ⟨15, _⟩ => ⟨S1x512, .f32⟩
  | .local _ .vmem, ⟨16, _⟩ => ⟨S1x512, .f32⟩
  | .local _ .vmem, ⟨17, _⟩ => ⟨S1x128, .f32⟩
  | .local _ .vmem, ⟨18, _⟩ => ⟨S256x256, .bf16⟩
  | .local _ .vmem, ⟨19, _⟩ => ⟨S128x128, .i32⟩
  | .local _ .vmem, ⟨20, _⟩ => ⟨S1x512x1024, .f32⟩
  | .local _ .vmem, ⟨21, _⟩ => ⟨S1x512x1024, .f32⟩
  | .local _ .vmem, ⟨22, _⟩ => ⟨S512x2816, .f32⟩
  | .local _ .vmem, ⟨23, _⟩ => ⟨S512x1024, .bf16⟩
  | .local _ .vmem, ⟨24, _⟩ => ⟨S2x128x256, .f32⟩
  | .local _ .vmem, ⟨25, _⟩ => ⟨S2x640x128, .bf16⟩
  | .local _ .vmem, ⟨26, _⟩ => ⟨S2x2x640x128, .bf16⟩
  | .local _ .vmem, ⟨27, _⟩ => ⟨S8x128x128, .f32⟩
  | .local _ .smem, ⟨0, _⟩ => ⟨S32x8, .f32⟩
  | .local _ .smem, ⟨1, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_c_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_15 : Ref sig .tc := ⟨.hbm, 158, rfl⟩
abbrev main_v129 : Ref sig .tc := ⟨.hbm, 159, rfl⟩
abbrev main_v130 : Ref sig .tc := ⟨.hbm, 160, rfl⟩
abbrev main_cst_16 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_17 : Ref sig .tc := ⟨.hbm, 165, rfl⟩
abbrev main_v134 : Ref sig .tc := ⟨.hbm, 166, rfl⟩
abbrev main_v135 : Ref sig .tc := ⟨.hbm, 167, rfl⟩
abbrev main_c_18 : Ref sig .tc := ⟨.hbm, 168, rfl⟩
abbrev main_v136 : Ref sig .tc := ⟨.hbm, 169, rfl⟩
abbrev main_v137 : Ref sig .tc := ⟨.hbm, 170, rfl⟩
abbrev main_c_19 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_20 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_21 : Ref sig .tc := ⟨.hbm, 184, rfl⟩
abbrev main_cst_22 : Ref sig .tc := ⟨.hbm, 185, rfl⟩
abbrev main_call3_v0 : Ref sig .tc := ⟨.hbm, 186, rfl⟩
abbrev main_call3_v1 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_stg16_0 : Ref sig .tc := ⟨.smem, 0, rfl⟩
abbrev cc0_stg17_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_15 : BitVec 32 := 0#32
  let c4_i32 : BitVec 32 := 4#32
  let v33 : BitVec 32 := Scalar.addi c0_i32_15 c4_i32
  let c1_i32 : BitVec 32 := 1#32
  ⟨c0_i32_15, v33, c1_i32⟩
def k0_mult1 (k0_t1 : Fin k0_t1_loop.trips) : BitVec 32 :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  v44
def k0_off1 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v46 : Index := Scalar.indexCast v45
  let c0_28 : Index := 0#32
  ![v46.toNat, 0]
def k0_off2 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v55 : Index := Scalar.indexCast v45
  let c0_31 : Index := 0#32
  ![v55.toNat, 0]
def k0_off3 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v64 : Index := Scalar.indexCast v45
  let c256 : Index := 256#32
  ![v64.toNat, 256]
def k0_off4 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v73 : Index := Scalar.indexCast v45
  let c512 : Index := 512#32
  ![v73.toNat, 512]
def k0_off5 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v145 : Index := Scalar.indexCast v45
  let c1024 : Index := 1024#32
  ![v145.toNat, 1024]
def k0_off6 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v151 : Index := Scalar.indexCast v45
  let c0_67 : Index := 0#32
  ![v151.toNat, 0]
def k0_off7 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v175 : Index := Scalar.indexCast v45
  let c1152 : Index := 1152#32
  ![v175.toNat, 1152]
def k0_off8 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v181 : Index := Scalar.indexCast v45
  let c128_74 : Index := 128#32
  ![v181.toNat, 128]
def k0_off9 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v185 : Index := Scalar.indexCast v45
  let c128_75 : Index := 128#32
  ![v185.toNat, 128]
def k0_off10 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v194 : Index := Scalar.indexCast v45
  let c384 : Index := 384#32
  ![v194.toNat, 384]
def k0_off11 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v203 : Index := Scalar.indexCast v45
  let c768 : Index := 768#32
  ![v203.toNat, 768]
def k0_off12 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v275 : Index := Scalar.indexCast v45
  let c1280 : Index := 1280#32
  ![v275.toNat, 1280]
def k0_off13 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v281 : Index := Scalar.indexCast v45
  let c256_112 : Index := 256#32
  ![v281.toNat, 256]
def k0_off14 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v305 : Index := Scalar.indexCast v45
  let c1408 : Index := 1408#32
  ![v305.toNat, 1408]
def k0_off15 (k0_t1 : Fin k0_t1_loop.trips) : Fin 2 → Nat :=
  let c0_i32_15 : BitVec 32 := 0#32
  let c1_i32 : BitVec 32 := 1#32
  let arg27 : BitVec 32 := Scf.iv c0_i32_15 c1_i32 k0_t1
  let c128_i32 : BitVec 32 := 128#32
  let v44 : BitVec 32 := Scalar.muli arg27 c128_i32
  let v45 : BitVec 32 := v44
  let v311 : Index := Scalar.indexCast v45
  let c384_120 : Index := 384#32
  ![v311.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== RetentionRefIdeal.lean ====
abbrev S8x2048x1024 : Shape := ⟨3, ![8, 2048, 1024]⟩
abbrev S1024 : Shape := ⟨1, ![1024]⟩
abbrev S1024x2816 : Shape := ⟨2, ![1024, 2816]⟩
abbrev S512 : Shape := ⟨1, ![512]⟩
abbrev S64 : Shape := ⟨1, ![64]⟩
abbrev S8 : Shape := ⟨1, ![8]⟩
abbrev S32x8 : Shape := ⟨2, ![32, 8]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2048x256 : Shape := ⟨3, ![8, 2048, 256]⟩
abbrev S8x2048x512 : Shape := ⟨3, ![8, 2048, 512]⟩
abbrev S8x2048x128 : Shape := ⟨3, ![8, 2048, 128]⟩
abbrev S8x2048x4x64 : Shape := ⟨4, ![8, 2048, 4, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S8x2048x4x128 : Shape := ⟨4, ![8, 2048, 4, 128]⟩
abbrev S8x16x128x4x64 : Shape := ⟨5, ![8, 16, 128, 4, 64]⟩
abbrev S8x4x16x128x64 : Shape := ⟨5, ![8, 4, 16, 128, 64]⟩
abbrev S8x16x128x4x128 : Shape := ⟨5, ![8, 16, 128, 4, 128]⟩
abbrev S8x4x16x128x128 : Shape := ⟨5, ![8, 4, 16, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S16x8x4x64x128 : Shape := ⟨5, ![16, 8, 4, 64, 128]⟩
abbrev S1x4x1x1 : Shape := ⟨4, ![1, 4, 1, 1]⟩
abbrev S8x4x64x128 : Shape := ⟨4, ![8, 4, 64, 128]⟩
abbrev S1x8x4x64x128 : Shape := ⟨5, ![1, 8, 4, 64, 128]⟩
abbrev S8x2048x4 : Shape := ⟨3, ![8, 2048, 4]⟩
abbrev S8x2048x4x1 : Shape := ⟨4, ![8, 2048, 4, 1]⟩
abbrev S1x1x512 : Shape := ⟨3, ![1, 1, 512]⟩
abbrev S512x1024 : Shape := ⟨2, ![512, 1024]⟩

abbrev nBuf : Space → Nat
  | .hbm => 321
  | .vmem => 0
  | .smem => 0
  | _ => 0

abbrev hbmTy0_0 (i : Nat) : BufTy := match i % 128 with
  | 0 => ⟨S8x2048x1024, .f32⟩
  | 1 => ⟨S1024, .f32⟩
  | 2 => ⟨S1024x2816, .f32⟩
  | 3 => ⟨S512, .f32⟩
  | 4 => ⟨S64, .f32⟩
  | 5 => ⟨S64, .f32⟩
  | 6 => ⟨S8, .f32⟩
  | 7 => ⟨S32x8, .f32⟩
  | 8 => ⟨S1024x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x2048x2816, .f32⟩
  | 26 => ⟨S8x2048x256, .f32⟩
  | 27 => ⟨S8x2048x256, .f32⟩
  | 28 => ⟨S8x2048x512, .f32⟩
  | 29 => ⟨S8x2048x512, .f32⟩
  | 30 => ⟨S8x2048x512, .f32⟩
  | 31 => ⟨S8x2048x128, .f32⟩
  | 32 => ⟨S8x2048x128, .f32⟩
  | 33 => ⟨S8x2048x512, .f32⟩
  | 34 => ⟨S8x2048x4x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S2048, .f32⟩
  | 44 => ⟨S2048x1, .f32⟩
  | 45 => ⟨S1x32, .f32⟩
  | 46 => ⟨S2048x32, .f32⟩
  | 47 => ⟨S2048x32, .f32⟩
  | 48 => ⟨S2048x32, .f32⟩
  | 49 => ⟨S2048x32, .f32⟩
  | 50 => ⟨S1x2048x1x32, .f32⟩
  | 51 => ⟨S2048x32, .f32⟩
  | 52 => ⟨S1x2048x1x32, .f32⟩
  | 53 => ⟨S8x2048x4x32, .f32⟩
  | 54 => ⟨S8x2048x4x32, .f32⟩
  | 55 => ⟨S8x2048x4x32, .f32⟩
  | 56 => ⟨S8x2048x4x32, .f32⟩
  | 57 => ⟨S8x2048x4x32, .f32⟩
  | 58 => ⟨S8x2048x4x32, .f32⟩
  | 59 => ⟨S8x2048x4x32, .f32⟩
  | 60 => ⟨S8x2048x4x32, .f32⟩
  | 61 => ⟨S8x2048x4x32, .f32⟩
  | 62 => ⟨S8x2048x4x32, .f32⟩
  | 63 => ⟨S8x2048x4x32, .f32⟩
  | 64 => ⟨S8x2048x4x32, .f32⟩
  | 65 => ⟨S8x2048x4x64, .f32⟩
  | 66 => ⟨S8x2048x4x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S2048, .f32⟩
  | 76 => ⟨S2048x1, .f32⟩
  | 77 => ⟨S1x32, .f32⟩
  | 78 => ⟨S2048x32, .f32⟩
  | 79 => ⟨S2048x32, .f32⟩
  | 80 => ⟨S2048x32, .f32⟩
  | 81 => ⟨S2048x32, .f32⟩
  | 82 => ⟨S1x2048x1x32, .f32⟩
  | 83 => ⟨S2048x32, .f32⟩
  | 84 => ⟨S1x2048x1x32, .f32⟩
  | 85 => ⟨S8x2048x4x32, .f32⟩
  | 86 => ⟨S8x2048x4x32, .f32⟩
  | 87 => ⟨S8x2048x4x32, .f32⟩
  | 88 => ⟨S8x2048x4x32, .f32⟩
  | 89 => ⟨S8x2048x4x32, .f32⟩
  | 90 => ⟨S8x2048x4x32, .f32⟩
  | 91 => ⟨S8x2048x4x32, .f32⟩
  | 92 => ⟨S8x2048x4x32, .f32⟩
  | 93 => ⟨S8x2048x4x32, .f32⟩
  | 94 => ⟨S8x2048x4x32, .f32⟩
  | 95 => ⟨S8x2048x4x32, .f32⟩
  | 96 => ⟨S8x2048x4x32, .f32⟩
  | 97 => ⟨S8x2048x4x64, .f32⟩
  | 98 => ⟨S8x2048x4x128, .f32⟩
  | 99 => ⟨S_, .f32⟩
  | 100 => ⟨S8x2048x4x64, .f32⟩
  | 101 => ⟨S8x2048x4x64, .f32⟩
  | 102 => ⟨S8x16x128x4x64, .f32⟩
  | 103 => ⟨S8x4x16x128x64, .f32⟩
  | 104 => ⟨S8x16x128x4x64, .f32⟩
  | 105 => ⟨S8x4x16x128x64, .f32⟩
  | 106 => ⟨S8x16x128x4x128, .f32⟩
  | 107 => ⟨S8x4x16x128x128, .f32⟩
  | 108 => ⟨S4, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S4, .f32⟩
  | 116 => ⟨S_, .f32⟩
  | 117 => ⟨S4, .f32⟩
  | 118 => ⟨S4, .f32⟩
  | 119 => ⟨S4, .f32⟩
  | 120 => ⟨S128, .f32⟩
  | 121 => ⟨S128x1, .f32⟩
  | 122 => ⟨S1x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S8x2048x1024, .f32⟩

abbrev hbmTy0_1 (i : Nat) : BufTy := match i % 128 with
  | 0 => ⟨S128x128, .i1⟩
  | 1 => ⟨S4x1x1, .f32⟩
  | 2 => ⟨S_, .f32⟩
  | 3 => ⟨S128x128, .f32⟩
  | 4 => ⟨S128x128, .f32⟩
  | 5 => ⟨S1x128x128, .f32⟩
  | 6 => ⟨S4x128x128, .f32⟩
  | 7 => ⟨S4x128x128, .f32⟩
  | 8 => ⟨S4x128x128, .f32⟩
  | 9 => ⟨S4x128x128, .f32⟩
  | 10 => ⟨S_, .f32⟩
  | 11 => ⟨S_, .f32⟩
  | 12 => ⟨S4x128x128, .i1⟩
  | 13 => ⟨S4x128x128, .f32⟩
  | 14 => ⟨S4x128x128, .f32⟩
  | 15 => ⟨S8x4x16x128x128, .f32⟩
  | 16 => ⟨S1x4x1x128x128, .f32⟩
  | 17 => ⟨S8x4x16x128x128, .f32⟩
  | 18 => ⟨S8x4x16x128x128, .f32⟩
  | 19 => ⟨S8x4x16x128x128, .f32⟩
  | 20 => ⟨S4x1, .f32⟩
  | 21 => ⟨S_, .f32⟩
  | 22 => ⟨S128, .f32⟩
  | 23 => ⟨S128, .f32⟩
  | 24 => ⟨S1x128, .f32⟩
  | 25 => ⟨S4x128, .f32⟩
  | 26 => ⟨S4x128, .f32⟩
  | 27 => ⟨S4x128, .f32⟩
  | 28 => ⟨S4x128, .f32⟩
  | 29 => ⟨S1x4x1x128x1, .f32⟩
  | 30 => ⟨S8x4x16x128x64, .f32⟩
  | 31 => ⟨S8x4x16x128x64, .f32⟩
  | 32 => ⟨S16x8x4x64x128, .f32⟩
  | 33 => ⟨S_, .f32⟩
  | 34 => ⟨S4, .f32⟩
  | 35 => ⟨S4, .f32⟩
  | 36 => ⟨S4, .f32⟩
  | 37 => ⟨S1x4x1x1, .f32⟩
  | 38 => ⟨S_, .f32⟩
  | 39 => ⟨S8x4x64x128, .f32⟩
  | 40 => ⟨S8x4x64x128, .f32⟩
  | 41 => ⟨S8x4x64x128, .f32⟩
  | 42 => ⟨S1x8x4x64x128, .f32⟩
  | 43 => ⟨S8x4x64x128, .f32⟩
  | 44 => ⟨S8x4x64x128, .f32⟩
  | 45 => ⟨S8x4x64x128, .f32⟩
  | 46 => ⟨S8x4x64x128, .f32⟩
  | 47 => ⟨S1x8x4x64x128, .f32⟩
  | 48 => ⟨S8x4x64x128, .f32⟩
  | 49 => ⟨S8x4x64x128, .f32⟩
  | 50 => ⟨S8x4x64x128, .f32⟩
  | 51 => ⟨S8x4x64x128, .f32⟩
  | 52 => ⟨S1x8x4x64x128, .f32⟩
  | 53 => ⟨S8x4x64x128, .f32⟩
  | 54 => ⟨S8x4x64x128, .f32⟩
  | 55 => ⟨S8x4x64x128, .f32⟩
  | 56 => ⟨S8x4x64x128, .f32⟩
  | 57 => ⟨S1x8x4x64x128, .f32⟩
  | 58 => ⟨S8x4x64x128, .f32⟩
  | 59 => ⟨S8x4x64x128, .f32⟩
  | 60 => ⟨S8x4x64x128, .f32⟩
  | 61 => ⟨S8x4x64x128, .f32⟩
  | 62 => ⟨S1x8x4x64x128, .f32⟩
  | 63 => ⟨S8x4x64x128, .f32⟩
  | 64 => ⟨S8x4x64x128, .f32⟩
  | 65 => ⟨S8x4x64x128, .f32⟩
  | 66 => ⟨S8x4x64x128, .f32⟩
  | 67 => ⟨S1x8x4x64x128, .f32⟩
  | 68 => ⟨S8x4x64x128, .f32⟩
  | 69 => ⟨S8x4x64x128, .f32⟩
  | 70 => ⟨S8x4x64x128, .f32⟩
  | 71 => ⟨S8x4x64x128, .f32⟩
  | 72 => ⟨S1x8x4x64x128, .f32⟩
  | 73 => ⟨S8x4x64x128, .f32⟩
  | 74 => ⟨S8x4x64x128, .f32⟩
  | 75 => ⟨S8x4x64x128, .f32⟩
  | 76 => ⟨S8x4x64x128, .f32⟩
  | 77 => ⟨S1x8x4x64x128, .f32⟩
  | 78 => ⟨S8x4x64x128, .f32⟩
  | 79 => ⟨S8x4x64x128, .f32⟩
  | 80 => ⟨S8x4x64x128, .f32⟩
  | 81 => ⟨S8x4x64x128, .f32⟩
  | 82 => ⟨S1x8x4x64x128, .f32⟩
  | 83 => ⟨S8x4x64x128, .f32⟩
  | 84 => ⟨S8x4x64x128, .f32⟩
  | 85 => ⟨S8x4x64x128, .f32⟩
  | 86 => ⟨S8x4x64x128, .f32⟩
  | 87 => ⟨S1x8x4x64x128, .f32⟩
  | 88 => ⟨S8x4x64x128, .f32⟩
  | 89 => ⟨S8x4x64x128, .f32⟩
  | 90 => ⟨S8x4x64x128, .f32⟩
  | 91 => ⟨S8x4x64x128, .f32⟩
  | 92 => ⟨S1x8x4x64x128, .f32⟩
  | 93 => ⟨S8x4x64x128, .f32⟩
  | 94 => ⟨S8x4x64x128, .f32⟩
  | 95 => ⟨S8x4x64x128, .f32⟩
  | 96 => ⟨S8x4x64x128, .f32⟩
  | 97 => ⟨S1x8x4x64x128, .f32⟩
  | 98 => ⟨S8x4x64x128, .f32⟩
  | 99 => ⟨S8x4x64x128, .f32⟩
  | 100 => ⟨S8x4x64x128, .f32⟩
  | 101 => ⟨S8x4x64x128, .f32⟩
  | 102 => ⟨S1x8x4x64x128, .f32⟩
  | 103 => ⟨S8x4x64x128, .f32⟩
  | 104 => ⟨S8x4x64x128, .f32⟩
  | 105 => ⟨S8x4x64x128, .f32⟩
  | 106 => ⟨S8x4x64x128, .f32⟩
  | 107 => ⟨S1x8x4x64x128, .f32⟩
  | 108 => ⟨S8x4x64x128, .f32⟩
  | 109 => ⟨S8x4x64x128, .f32⟩
  | 110 => ⟨S8x4x64x128, .f32⟩
  | 111 => ⟨S8x4x64x128, .f32⟩
  | 112 => ⟨S1x8x4x64x128, .f32⟩
  | 113 => ⟨S8x4x64x128, .f32⟩
  | 114 => ⟨S8x4x64x128, .f32⟩
  | 115 => ⟨S8x4x64x128, .f32⟩
  | 116 => ⟨S8x4x64x128, .f32⟩
  | 117 => ⟨S1x8x4x64x128, .f32⟩
  | 118 => ⟨S8x4x64x128, .f32⟩
  | 119 => ⟨S8x4x64x128, .f32⟩
  | 120 => ⟨S1x8x4x64x128, .f32⟩
  | 121 => ⟨S1x8x4x64x128, .f32⟩
  | 122 => ⟨S1x8x4x64x128, .f32⟩
  | 123 => ⟨S1x8x4x64x128, .f32⟩
  | 124 => ⟨S1x8x4x64x128, .f32⟩
  | 125 => ⟨S1x8x4x64x128, .f32⟩
  | 126 => ⟨S1x8x4x64x128, .f32⟩
  | 127 => ⟨S1x8x4x64x128, .f32⟩
  | _ => ⟨S8x2048x1024, .f32⟩

abbrev hbmTy0_2 (i : Nat) : BufTy := match i % 128 with
  | 0 => ⟨S1x8x4x64x128, .f32⟩
  | 1 => ⟨S1x8x4x64x128, .f32⟩
  | 2 => ⟨S1x8x4x64x128, .f32⟩
  | 3 => ⟨S1x8x4x64x128, .f32⟩
  | 4 => ⟨S1x8x4x64x128, .f32⟩
  | 5 => ⟨S1x8x4x64x128, .f32⟩
  | 6 => ⟨S1x8x4x64x128, .f32⟩
  | 7 => ⟨S1x8x4x64x128, .f32⟩
  | 8 => ⟨S16x8x4x64x128, .f32⟩
  | 9 => ⟨S4x1, .f32⟩
  | 10 => ⟨S_, .f32⟩
  | 11 => ⟨S128, .f32⟩
  | 12 => ⟨S128, .f32⟩
  | 13 => ⟨S1x128, .f32⟩
  | 14 => ⟨S4x128, .f32⟩
  | 15 => ⟨S4x128, .f32⟩
  | 16 => ⟨S4x128, .f32⟩
  | 17 => ⟨S4x128, .f32⟩
  | 18 => ⟨S1x4x1x128x1, .f32⟩
  | 19 => ⟨S8x4x16x128x64, .f32⟩
  | 20 => ⟨S8x4x16x128x64, .f32⟩
  | 21 => ⟨S8x4x16x128x128, .f32⟩
  | 22 => ⟨S8x4x16x128x128, .f32⟩
  | 23 => ⟨S8x16x128x4x128, .f32⟩
  | 24 => ⟨S8x2048x4x128, .f32⟩
  | 25 => ⟨S_, .f32⟩
  | 26 => ⟨S8x2048x4, .f32⟩
  | 27 => ⟨S8x2048x4x1, .f32⟩
  | 28 => ⟨S_, .f32⟩
  | 29 => ⟨S8x2048x4x1, .f32⟩
  | 30 => ⟨S8x2048x4x1, .f32⟩
  | 31 => ⟨S8x2048x4x128, .f32⟩
  | 32 => ⟨S8x2048x4x128, .f32⟩
  | 33 => ⟨S8x2048x4x128, .f32⟩
  | 34 => ⟨S_, .f32⟩
  | 35 => ⟨S8x2048x4, .f32⟩
  | 36 => ⟨S8x2048x4x1, .f32⟩
  | 37 => ⟨S_, .f32⟩
  | 38 => ⟨S8x2048x4x1, .f32⟩
  | 39 => ⟨S8x2048x4x1, .f32⟩
  | 40 => ⟨S8x2048x4x128, .f32⟩
  | 41 => ⟨S8x2048x4x128, .f32⟩
  | 42 => ⟨S_, .f32⟩
  | 43 => ⟨S8x2048x4x1, .f32⟩
  | 44 => ⟨S8x2048x4x1, .f32⟩
  | 45 => ⟨S8x2048x4x1, .f32⟩
  | 46 => ⟨S8x2048x4x128, .f32⟩
  | 47 => ⟨S8x2048x4x128, .f32⟩
  | 48 => ⟨S8x2048x512, .f32⟩
  | 49 => ⟨S1x1x512, .f32⟩
  | 50 => ⟨S8x2048x512, .f32⟩
  | 51 => ⟨S8x2048x512, .f32⟩
  | 52 => ⟨S8x2048x512, .f32⟩
  | 53 => ⟨S8x2048x512, .f32⟩
  | 54 => ⟨S_, .f32⟩
  | 55 => ⟨S8x2048x512, .f32⟩
  | 56 => ⟨S8x2048x512, .f32⟩
  | 57 => ⟨S_, .f32⟩
  | 58 => ⟨S8x2048x512, .f32⟩
  | 59 => ⟨S8x2048x512, .f32⟩
  | 60 => ⟨S8x2048x512, .f32⟩
  | 61 => ⟨S8x2048x512, .f32⟩
  | 62 => ⟨S512x1024, .f32⟩
  | 63 => ⟨S8x2048x1024, .f32⟩
  | 64 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_6 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_7 : Ref sig .tc := ⟨.hbm, 109, rfl⟩
abbrev main_v92 : Ref sig .tc := ⟨.hbm, 110, rfl⟩
abbrev main_v93 : Ref sig .tc := ⟨.hbm, 111, rfl⟩
abbrev main_cst_8 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_9 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_11 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_12 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_13 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_14 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_15 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_cst_16 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_cst_17 : Ref sig .tc := ⟨.hbm, 281, rfl⟩
abbrev main_v251 : Ref sig .tc := ⟨.hbm, 282, rfl⟩
abbrev main_v252 : Ref sig .tc := ⟨.hbm, 283, rfl⟩
abbrev main_cst_18 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_cst_19 : Ref sig .tc := ⟨.hbm, 290, rfl⟩
abbrev main_v258 : Ref sig .tc := ⟨.hbm, 291, rfl⟩
abbrev main_v259 : Ref sig .tc := ⟨.hbm, 292, rfl⟩
abbrev main_cst_20 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_cst_21 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_call1_v0 : Ref sig .tc := ⟨.hbm, 308, rfl⟩
abbrev main_call1_v1 : Ref sig .tc := ⟨.hbm, 309, rfl⟩
abbrev main_call1_cst : Ref sig .tc := ⟨.hbm, 310, rfl⟩
abbrev main_call1_v2 : Ref sig .tc := ⟨.hbm, 311, rfl⟩
abbrev main_call1_v3 : Ref sig .tc := ⟨.hbm, 312, rfl⟩
abbrev main_call1_cst_0 : Ref sig .tc := ⟨.hbm, 313, rfl⟩
abbrev main_call1_v4 : Ref sig .tc := ⟨.hbm, 314, rfl⟩
abbrev main_call1_v5 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩

abbrev nD : Nat := 1
abbrev τ : Topo := Topo.v7x

variable {F : FTy → Type} [FloatOps F]
-- ==== Proof.KernelIdealBody.lean ====
/-
  The kernel body's run at one grid point, for any staging buffers. The body has two conditionals: at the very first
  point it builds the bias table, and at the first tile of a sequence it clears the carried state and bands. So there
  are three cases — the very first point, a later sequence's first tile, any other tile — and in each one the run is
  from the inputs at given contents, the result's buffer at anything and the six scratch buffers at given contents,
  to the same inputs, with what was written into the result's buffer listed as pieces and the scratch buffers' new contents.
-/
module

public import proofs.«01_k».proof.Proof.Gen.KernelIdeal.Loops
public import proofs.«01_k».proof.Proof.Gen.KernelIdeal.Frame
public import proofs.«01_k».proof.Proof.Gen.KernelIdeal.Points
public import Idealize.ShloMosaic.Lib.Tactic
public import Idealize.ShloMosaic.Lib.WordCmp

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the bias table's conditional: both grid coordinates are zero. -/
abbrev condA (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1
/-- The condition of the clearing conditional: the tile coordinate is zero. -/
abbrev condB (i : grid0.Coords) : Prop :=
  (Scalar.cmpi .ne (Scalar.extui (Scalar.cmpi .eq (BitVec.ofNat 32 (i 1).val) 0#32)) 0#32) = 1#1

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x2816 .bf16) (harg4 : arg4.IsWhole)
  (arg5 : Memref sig .tc .vmem S1024x1024 .bf16) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S2x128x256 .f32) (harg9 : arg9.IsWhole)
  (arg10 : Memref sig .tc .vmem S2x128x128 .f32) (harg10 : arg10.IsWhole)
  (arg11 : Memref sig .tc .vmem S2x128x128 .f32) (harg11 : arg11.IsWhole)
  (arg12 : Memref sig .tc .vmem S2x1x256 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x128 .f32) (harg15 : arg15.IsWhole)
  (arg16 : Memref sig .tc .vmem S256x256 .bf16) (harg16 : arg16.IsWhole)
  (arg17 : Memref sig .tc .vmem S128x128 .i32) (harg17 : arg17.IsWhole)
  (arg18 : Memref sig .tc .smem S32x8 .f32) (harg18 : arg18.IsWhole)
  (arg19 : Memref sig .tc .smem S8 .f32) (harg19 : arg19.IsWhole)
  (arg20 : Memref sig .tc .vmem S1x512x1024 .f32) (harg20 : arg20.IsWhole)
  (arg21 : Memref sig .tc .vmem S512x2816 .f32) (harg21 : arg21.IsWhole)
  (arg22 : Memref sig .tc .vmem S512x1024 .bf16) (harg22 : arg22.IsWhole)
  (arg23 : Memref sig .tc .vmem S2x128x256 .f32) (harg23 : arg23.IsWhole)
  (arg24 : Memref sig .tc .vmem S2x640x128 .bf16) (harg24 : arg24.IsWhole)
  (arg25 : Memref sig .tc .vmem S2x2x640x128 .bf16) (harg25 : arg25.IsWhole)
  (arg26 : Memref sig .tc .vmem S8x128x128 .f32) (harg26 : arg26.IsWhole)
  (x0 : Vec F S1x512x1024 .f32)
  (x1 : Vec F S1x1024 .f32)
  (x2 : Vec F S1024x2816 .bf16)
  (x3 : Vec F S1024x1024 .bf16)
  (x4 : Vec F S512x128 .f32)
  (x5 : Vec F S512x128 .f32)
  (x6 : Vec F S512x128 .f32)
  (x7 : Vec F S2x128x256 .f32)
  (x8 : Vec F S2x128x128 .f32)
  (x9 : Vec F S2x128x128 .f32)
  (x10 : Vec F S2x1x256 .f32)
  (x11 : Vec F S1x512 .f32)
  (x12 : Vec F S1x512 .f32)
  (x13 : Vec F S1x128 .f32)
  (x14 : Vec F S256x256 .bf16)
  (x15 : Vec F S128x128 .i32)
  (x16 : Vec F S32x8 .f32)
  (x17 : Vec F S8 .f32)
  (f22 : BufTy.Contents (Elt F) arg22.view.ty)
  (f23 : BufTy.Contents (Elt F) arg23.view.ty)
  (f24 : BufTy.Contents (Elt F) arg24.view.ty)
  (f25 : BufTy.Contents (Elt F) arg25.view.ty)
  (f26 : BufTy.Contents (Elt F) arg26.view.ty)

/-- The inputs' buffers at their contents. -/
abbrev insAt : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17)

/-- The scratch buffers: the projections' at anything, the other five at their contents. -/
abbrev scrAt : sProp 𝕄 :=
  iprop((∃ f, (arg21.view.loc (c : Thread nD τ) ↦[arg21.view.set]{fullShare} f)) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26))

/-- The same with each whole buffer's raw contents. -/
abbrev rawAt : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17))

omit [FloatOps F] [Named F] in
/-- A whole buffer owned at contents read through it holds the contents that read so. -/
theorem owns_raw {sp : Space} {s : Shape} {e : EltTy} (a : Memref sig .tc sp s e) (h : a.IsWhole) (x : Vec F s e) :
    (owns (c : Thread nD τ) a fullShare x : sProp 𝕄) ⊢ (a.view.loc (c : Thread nD τ) ↦[a.view.set]{fullShare} h.unread x) := by
  unfold owns
  iintro ⟨%g, %hg, H⟩
  obtain rfl := h.eq_unread hg
  iexact H
omit [FloatOps F] [Named F] in
theorem raw_owns {sp : Space} {s : Shape} {e : EltTy} (a : Memref sig .tc sp s e) (h : a.IsWhole) (x : Vec F s e) :
    (a.view.loc (c : Thread nD τ) ↦[a.view.set]{fullShare} h.unread x) ⊢ (owns (c : Thread nD τ) a fullShare x : sProp 𝕄) := by
  unfold owns
  iintro H
  iexists _; isplitr; · ipureintro; exact h.read_unread _
  iexact H

omit [FloatOps F] [Named F] in
theorem insAt_raw : (insAt c arg2 arg3 arg4 arg5 arg6 arg7 arg8 arg9 arg10 arg11 arg12 arg13 arg14 arg15 arg16 arg17 arg18 arg19 x0 x1 x2 x3 x4 x5 x6 x7 x8 x9 x10 x11 x12 x13 x14 x15 x16 x17 : sProp 𝕄) ⊢ rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 := by
  unfold insAt rawAt
  iintro ⟨H2, H3, H4, H5, H6, H7, H8, H9, H10, H11, H12, H13, H14, H15, H16, H17, H18, H19⟩
  isplitl [H2]; · iapply (owns_raw c arg2 harg2); iexact H2
  isplitl [H3]; · iapply (owns_raw c arg3 harg3); iexact H3
  isplitl [H4]; · iapply (owns_raw c arg4 harg4); iexact H4
  isplitl [H5]; · iapply (owns_raw c arg5 harg5); iexact H5
  isplitl [H6]; · iapply (owns_raw c arg6 harg6); iexact H6
  isplitl [H7]; · iapply (owns_raw c arg7 harg7); iexact H7
  isplitl [H8]; · iapply (owns_raw c arg8 harg8); iexact H8
  isplitl [H9]; · iapply (owns_raw c arg9 harg9); iexact H9
  isplitl [H10]; · iapply (owns_raw c arg10 harg10); iexact H10
  isplitl [H11]; · iapply (owns_raw c arg11 harg11); iexact H11
  isplitl [H12]; · iapply (owns_raw c arg12 harg12); iexact H12
  isplitl [H13]; · iapply (owns_raw c arg13 harg13); iexact H13
  isplitl [H14]; · iapply (owns_raw c arg14 harg14); iexact H14
  isplitl [H15]; · iapply (owns_raw c arg15 harg15); iexact H15
  isplitl [H16]; · iapply (owns_raw c arg16 harg16); iexact H16
  isplitl [H17]; · iapply (owns_raw c arg17 harg17); iexact H17
  isplitl [H18]; · iapply (owns_raw c arg18 harg18); iexact H18
  iapply (owns_raw c arg19 harg19); iexact H19

omit [FloatOps F] [Named F] in
theorem raw_insAt : (rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 : sProp 𝕄) ⊢ insAt c arg2 arg3 arg4 arg5 arg6 arg7 arg8 arg9 arg10 arg11 arg12 arg13 arg14 arg15 arg16 arg17 arg18 arg19 x0 x1 x2 x3 x4 x5 x6 x7 x8 x9 x10 x11 x12 x13 x14 x15 x16 x17 := by
  unfold insAt rawAt
  iintro ⟨H2, H3, H4, H5, H6, H7, H8, H9, H10, H11, H12, H13, H14, H15, H16, H17, H18, H19⟩
  isplitl [H2]; · iapply (raw_owns c arg2 harg2); iexact H2
  isplitl [H3]; · iapply (raw_owns c arg3 harg3); iexact H3
  isplitl [H4]; · iapply (raw_owns c arg4 harg4); iexact H4
  isplitl [H5]; · iapply (raw_owns c arg5 harg5); iexact H5
  isplitl [H6]; · iapply (raw_owns c arg6 harg6); iexact H6
  isplitl [H7]; · iapply (raw_owns c arg7 harg7); iexact H7
  isplitl [H8]; · iapply (raw_owns c arg8 harg8); iexact H8
  isplitl [H9]; · iapply (raw_owns c arg9 harg9); iexact H9
  isplitl [H10]; · iapply (raw_owns c arg10 harg10); iexact H10
  isplitl [H11]; · iapply (raw_owns c arg11 harg11); iexact H11
  isplitl [H12]; · iapply (raw_owns c arg12 harg12); iexact H12
  isplitl [H13]; · iapply (raw_owns c arg13 harg13); iexact H13
  isplitl [H14]; · iapply (raw_owns c arg14 harg14); iexact H14
  isplitl [H15]; · iapply (raw_owns c arg15 harg15); iexact H15
  isplitl [H16]; · iapply (raw_owns c arg16 harg16); iexact H16
  isplitl [H17]; · iapply (raw_owns c arg17 harg17); iexact H17
  isplitl [H18]; · iapply (raw_owns c arg18 harg18); iexact H18
  iapply (raw_owns c arg19 harg19); iexact H19

set_option maxHeartbeats 4000000 in
/-- The body's run at the very first point: both conditionals taken. -/
def runA (hA : condA i) (hB : condB i) :
    Σ' (L20 : List (View.Piece (Elt F) S1x512x1024 .f32)) (g22 : BufTy.Contents (Elt F) arg22.view.ty) (g23 : BufTy.Contents (Elt F) arg23.view.ty) (g24 : BufTy.Contents (Elt F) arg24.view.ty) (g25 : BufTy.Contents (Elt F) arg25.view.ty), { g26 : BufTy.Contents (Elt F) arg26.view.ty //
      ∀ (E : Set ℕ) (K : PUnit → sProp 𝕄),
        iprop(rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ∗ (∃ d, owns (c : Thread nD τ) arg20 fullShare d)
            ∗ scrAt c arg21 arg22 arg23 arg24 arg25 arg26 f22 f23 f24 f25 f26
            ∗ (iprop(rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ∗ (∃ f, arg20.view.loc (c : Thread nD τ) ↦[arg20.view.set]{fullShare} arg20.view.writes (Elt F) f L20)
                ∗ scrAt c arg21 arg22 arg23 arg24 arg25 arg26 g22 g23 g24 g25 g26) -∗ K ⟨⟩))
          ⊢ wp frame (wpE (defs₀ (F := F)) Variants.none c none) E
              (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, fun E K => ?run⟩
  case run =>
    simp only [cc0__layer_kernel_eq_skeleton]; unfold cc0__layer_kernel_skel
    unfold rawAt scrAt owns
    iintro ⟨⟨H2, H3, H4, H5, H6, H7, H8, H9, H10, H11, H12, H13, H14, H15, H16, H17, H18, H19⟩, ⟨%d20, %g20, -, H20⟩, ⟨⟨%f21, H21⟩, H22, H23, H24, H25, H26⟩, Hk⟩
    sl_exec (disch := first | sl_exact hA | sl_exact hB)
    sl_step
    iapply Hk
    isplitl [H2 H3 H4 H5 H6 H7 H8 H9 H10 H11 H12 H13 H14 H15 H16 H17 H18 H19]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [H20]; · iexists _; iexact H20
    isplitl [H21]; · iexists _; iexact H21
    isplitl [H22]; · iexact H22
    isplitl [H23]; · iexact H23
    isplitl [H24]; · iexact H24
    isplitl [H25]; · iexact H25
    iexact H26

set_option maxHeartbeats 4000000 in
/-- The body's run at a later sequence's first tile: only the clearing conditional taken. -/
def runB (hA : ¬condA i) (hB : condB i) :
    Σ' (L20 : List (View.Piece (Elt F) S1x512x1024 .f32)) (g22 : BufTy.Contents (Elt F) arg22.view.ty) (g23 : BufTy.Contents (Elt F) arg23.view.ty) (g24 : BufTy.Contents (Elt F) arg24.view.ty) (g25 : BufTy.Contents (Elt F) arg25.view.ty), { g26 : BufTy.Contents (Elt F) arg26.view.ty //
      ∀ (E : Set ℕ) (K : PUnit → sProp 𝕄),
        iprop(rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ∗ (∃ d, owns (c : Thread nD τ) arg20 fullShare d)
            ∗ scrAt c arg21 arg22 arg23 arg24 arg25 arg26 f22 f23 f24 f25 f26
            ∗ (iprop(rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ∗ (∃ f, arg20.view.loc (c : Thread nD τ) ↦[arg20.view.set]{fullShare} arg20.view.writes (Elt F) f L20)
                ∗ scrAt c arg21 arg22 arg23 arg24 arg25 arg26 g22 g23 g24 g25 g26) -∗ K ⟨⟩))
          ⊢ wp frame (wpE (defs₀ (F := F)) Variants.none c none) E
              (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, fun E K => ?run⟩
  case run =>
    simp only [cc0__layer_kernel_eq_skeleton]; unfold cc0__layer_kernel_skel
    unfold rawAt scrAt owns
    iintro ⟨⟨H2, H3, H4, H5, H6, H7, H8, H9, H10, H11, H12, H13, H14, H15, H16, H17, H18, H19⟩, ⟨%d20, %g20, -, H20⟩, ⟨⟨%f21, H21⟩, H22, H23, H24, H25, H26⟩, Hk⟩
    sl_exec (disch := first | sl_exact hA | sl_exact hB)
    sl_step
    iapply Hk
    isplitl [H2 H3 H4 H5 H6 H7 H8 H9 H10 H11 H12 H13 H14 H15 H16 H17 H18 H19]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [H20]; · iexists _; iexact H20
    isplitl [H21]; · iexists _; iexact H21
    isplitl [H22]; · iexact H22
    isplitl [H23]; · iexact H23
    isplitl [H24]; · iexact H24
    isplitl [H25]; · iexact H25
    iexact H26

set_option maxHeartbeats 4000000 in
/-- The body's run at any other tile: no conditional taken. -/
def runC (hA : ¬condA i) (hB : ¬condB i) :
    Σ' (L20 : List (View.Piece (Elt F) S1x512x1024 .f32)) (g22 : BufTy.Contents (Elt F) arg22.view.ty) (g23 : BufTy.Contents (Elt F) arg23.view.ty) (g24 : BufTy.Contents (Elt F) arg24.view.ty) (g25 : BufTy.Contents (Elt F) arg25.view.ty), { g26 : BufTy.Contents (Elt F) arg26.view.ty //
      ∀ (E : Set ℕ) (K : PUnit → sProp 𝕄),
        iprop(rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ∗ (∃ d, owns (c : Thread nD τ) arg20 fullShare d)
            ∗ scrAt c arg21 arg22 arg23 arg24 arg25 arg26 f22 f23 f24 f25 f26
            ∗ (iprop(rawAt c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 x17 ∗ (∃ f, arg20.view.loc (c : Thread nD τ) ↦[arg20.view.set]{fullShare} arg20.view.writes (Elt F) f L20)
                ∗ scrAt c arg21 arg22 arg23 arg24 arg25 arg26 g22 g23 g24 g25 g26) -∗ K ⟨⟩))
          ⊢ wp frame (wpE (defs₀ (F := F)) Variants.none c none) E
              (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, fun E K => ?run⟩
  case run =>
    simp only [cc0__layer_kernel_eq_skeleton]; unfold cc0__layer_kernel_skel
    unfold rawAt scrAt owns
    iintro ⟨⟨H2, H3, H4, H5, H6, H7, H8, H9, H10, H11, H12, H13, H14, H15, H16, H17, H18, H19⟩, ⟨%d20, %g20, -, H20⟩, ⟨⟨%f21, H21⟩, H22, H23, H24, H25, H26⟩, Hk⟩
    sl_exec (disch := first | sl_exact hA | sl_exact hB)
    sl_step
    iapply Hk
    isplitl [H2 H3 H4 H5 H6 H7 H8 H9 H10 H11 H12 H13 H14 H15 H16 H17 H18 H19]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    isplitl [H20]; · iexists _; iexact H20
    isplitl [H21]; · iexists _; iexact H21
    isplitl [H22]; · iexact H22
    isplitl [H23]; · iexact H23
    isplitl [H24]; · iexact H24
    isplitl [H25]; · iexact H25
    iexact H26

end Cert.KernelIdeal.Layer

end
-- ==== Proof.KernelIdealFrame.lean ====
/-
  The launch of the layer's kernel: what the scratch buffers hold is carried from one grid point to the next, as the
  body's runs (KernelIdealBody.lean) say. From it the frame — the arguments end as they began, every semaphore counter at
  zero — with the result's contents left unnamed.
-/
module

public import proofs.«01_k».proof.Proof.KernelIdealBody
public import Idealize.ShloMosaic.Lib.Pipeline.FrameBody

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions over the grid -/

/-- The bias table is built at the first point of the grid only. -/
theorem condA_iff : ∀ t : Fin cfg0.N, condA (grid0.coords t) ↔ t.val = 0 := fun t => by
  have ht : t.val < 32 := lt_of_lt_of_eq t.isLt (show cfg0.N = 32 from N_0)
  have e0 : (grid0.coords t 0).val = t.val / 4 % 8 := Pipeline.Grid.coords_val t 0 (by decide) rfl
  have e1 : (grid0.coords t 1).val = t.val / 1 % 4 := Pipeline.Grid.coords_val t 1 (by decide) rfl
  simp only [condA, e0, e1]
  word_cmp

/-- The carried scratch is cleared at the first tile of each sequence. -/
theorem condB_iff : ∀ t : Fin cfg0.N, condB (grid0.coords t) ↔ t.val % 4 = 0 := fun t => by
  have ht : t.val < 32 := lt_of_lt_of_eq t.isLt (show cfg0.N = 32 from N_0)
  have e1 : (grid0.coords t 1).val = t.val / 1 % 4 := Pipeline.Grid.coords_val t 1 (by decide) rfl
  simp only [condB, e1]
  word_cmp

theorem condB_of_condA (t : Fin cfg0.N) (h : condA (grid0.coords t)) : condB (grid0.coords t) :=
  (condB_iff t).mpr (by rw [(condA_iff t).mp h])

/-! ## The staging buffers at a point -/

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)
abbrev ms0_7 (t : Fin cfg0.N) := win0_7.stage (cfg0.slots t 7)
theorem hs0_7 (t : Fin cfg0.N) : (ms0_7 t).IsWhole := hstage0_7 ((cfg0.slots t 7).cast nbuf0_7)
abbrev ms0_8 (t : Fin cfg0.N) := win0_8.stage (cfg0.slots t 8)
theorem hs0_8 (t : Fin cfg0.N) : (ms0_8 t).IsWhole := hstage0_8 ((cfg0.slots t 8).cast nbuf0_8)
abbrev ms0_9 (t : Fin cfg0.N) := win0_9.stage (cfg0.slots t 9)
theorem hs0_9 (t : Fin cfg0.N) : (ms0_9 t).IsWhole := hstage0_9 ((cfg0.slots t 9).cast nbuf0_9)
abbrev ms0_10 (t : Fin cfg0.N) := win0_10.stage (cfg0.slots t 10)
theorem hs0_10 (t : Fin cfg0.N) : (ms0_10 t).IsWhole := hstage0_10 ((cfg0.slots t 10).cast nbuf0_10)
abbrev ms0_11 (t : Fin cfg0.N) := win0_11.stage (cfg0.slots t 11)
theorem hs0_11 (t : Fin cfg0.N) : (ms0_11 t).IsWhole := hstage0_11 ((cfg0.slots t 11).cast nbuf0_11)
abbrev ms0_12 (t : Fin cfg0.N) := win0_12.stage (cfg0.slots t 12)
theorem hs0_12 (t : Fin cfg0.N) : (ms0_12 t).IsWhole := hstage0_12 ((cfg0.slots t 12).cast nbuf0_12)
abbrev ms0_13 (t : Fin cfg0.N) := win0_13.stage (cfg0.slots t 13)
theorem hs0_13 (t : Fin cfg0.N) : (ms0_13 t).IsWhole := hstage0_13 ((cfg0.slots t 13).cast nbuf0_13)
abbrev ms0_14 (t : Fin cfg0.N) := win0_14.stage (cfg0.slots t 14)
theorem hs0_14 (t : Fin cfg0.N) : (ms0_14 t).IsWhole := hstage0_14 ((cfg0.slots t 14).cast nbuf0_14)
abbrev ms0_15 (t : Fin cfg0.N) := win0_15.stage (cfg0.slots t 15)
theorem hs0_15 (t : Fin cfg0.N) : (ms0_15 t).IsWhole := hstage0_15 ((cfg0.slots t 15).cast nbuf0_15)
abbrev ms0_16 (t : Fin cfg0.N) := win0_16.stage (cfg0.slots t 16)
theorem hs0_16 (t : Fin cfg0.N) : (ms0_16 t).IsWhole := hstage0_16 ((cfg0.slots t 16).cast nbuf0_16)
abbrev ms0_17 (t : Fin cfg0.N) := win0_17.stage (cfg0.slots t 17)
theorem hs0_17 (t : Fin cfg0.N) : (ms0_17 t).IsWhole := hstage0_17 ((cfg0.slots t 17).cast nbuf0_17)
abbrev ms0_18 (t : Fin cfg0.N) := win0_18.stage (cfg0.slots t 18)
theorem hs0_18 (t : Fin cfg0.N) : (ms0_18 t).IsWhole := hstage0_18 ((cfg0.slots t 18).cast nbuf0_18)

/-- What the five scratch buffers carried between points hold. -/
structure Scr (F : FTy → Type) [FloatOps F] [Named F] where
  f22 : BufTy.Contents (Elt F) (Memref.whole (sig := sig) cc0_scratch1).view.ty
  f23 : BufTy.Contents (Elt F) (Memref.whole (sig := sig) cc0_scratch2).view.ty
  f24 : BufTy.Contents (Elt F) (Memref.whole (sig := sig) cc0_scratch3).view.ty
  f25 : BufTy.Contents (Elt F) (Memref.whole (sig := sig) cc0_scratch4).view.ty
  f26 : BufTy.Contents (Elt F) (Memref.whole (sig := sig) cc0_scratch5).view.ty

/-- What the body leaves at one point: the pieces written into the result's staging buffer, and the scratch. -/
structure Ends (F : FTy → Type) [FloatOps F] [Named F] where
  L20 : List (View.Piece (Elt F) S1x512x1024 .f32)
  scr : Scr F

/-- The three runs at a point's buffers and blocks. -/
abbrev runAAt (c : Dev nD) (t : Fin cfg0.N) (s : Scr F) (hA : condA (grid0.coords t)) (hB : condB (grid0.coords t)) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) s.f22 s.f23 s.f24 s.f25 s.f26 hA hB
abbrev runBAt (c : Dev nD) (t : Fin cfg0.N) (s : Scr F) (hA : ¬condA (grid0.coords t)) (hB : condB (grid0.coords t)) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) s.f22 s.f23 s.f24 s.f25 s.f26 hA hB
abbrev runCAt (c : Dev nD) (t : Fin cfg0.N) (s : Scr F) (hA : ¬condA (grid0.coords t)) (hB : ¬condB (grid0.coords t)) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) s.f22 s.f23 s.f24 s.f25 s.f26 hA hB
/-- What run A leaves. -/
def endsA (c : Dev nD) (t : Fin cfg0.N) (s : Scr F) (hA : condA (grid0.coords t)) (hB : condB (grid0.coords t)) : Ends F :=
  ⟨(runAAt m c t s hA hB).1, ⟨(runAAt m c t s hA hB).2.1, (runAAt m c t s hA hB).2.2.1, (runAAt m c t s hA hB).2.2.2.1, (runAAt m c t s hA hB).2.2.2.2.1, (runAAt m c t s hA hB).2.2.2.2.2.1⟩⟩
/-- What run B leaves. -/
def endsB (c : Dev nD) (t : Fin cfg0.N) (s : Scr F) (hA : ¬condA (grid0.coords t)) (hB : condB (grid0.coords t)) : Ends F :=
  ⟨(runBAt m c t s hA hB).1, ⟨(runBAt m c t s hA hB).2.1, (runBAt m c t s hA hB).2.2.1, (runBAt m c t s hA hB).2.2.2.1, (runBAt m c t s hA hB).2.2.2.2.1, (runBAt m c t s hA hB).2.2.2.2.2.1⟩⟩
/-- What run C leaves. -/
def endsC (c : Dev nD) (t : Fin cfg0.N) (s : Scr F) (hA : ¬condA (grid0.coords t)) (hB : ¬condB (grid0.coords t)) : Ends F :=
  ⟨(runCAt m c t s hA hB).1, ⟨(runCAt m c t s hA hB).2.1, (runCAt m c t s hA hB).2.2.1, (runCAt m c t s hA hB).2.2.2.1, (runCAt m c t s hA hB).2.2.2.2.1, (runCAt m c t s hA hB).2.2.2.2.2.1⟩⟩

open Classical in
/-- What the body leaves at a point, by the case the point is in. -/
def ends (c : Dev nD) (t : Fin cfg0.N) (s : Scr F) : Ends F :=
  if hA : condA (grid0.coords t) then endsA m c t s hA (condB_of_condA t hA)
  else if hB : condB (grid0.coords t) then endsB m c t s hA hB
  else endsC m c t s hA hB

/-- What the scratch buffers hold after the point. -/
def next (c : Dev nD) (t : Fin cfg0.N) (s : Scr F) : Scr F := (ends m c t s).scr

/-- The inputs' staging buffers at their blocks. -/
abbrev insPts (c : Dev nD) (t : Fin cfg0.N) : sProp 𝕄 := insAt c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
/-- The scratch buffers at their contents. -/
abbrev scrPts (c : Dev nD) (s : Scr F) : sProp 𝕄 := scrAt c (Memref.whole cc0_scratch0) (Memref.whole cc0_scratch1) (Memref.whole cc0_scratch2) (Memref.whole cc0_scratch3) (Memref.whole cc0_scratch4) (Memref.whole cc0_scratch5) s.f22 s.f23 s.f24 s.f25 s.f26

set_option maxHeartbeats 4000000 in
/-- The body at any point, from any scratch contents. -/
theorem body_run (c : Dev nD) (t : Fin cfg0.N) (s : Scr F) (E : Set ℕ) (K : PUnit → sProp 𝕄) :
    iprop(insPts m c t ∗ (∃ d, owns (c : Thread nD τ) (ms0_18 t) fullShare d) ∗ scrPts c s
        ∗ (iprop(insPts m c t ∗ (∃ f, (ms0_18 t).view.loc (c : Thread nD τ) ↦[(ms0_18 t).view.set]{fullShare} (ms0_18 t).view.writes (Elt F) f (ends m c t s).L20)
            ∗ scrPts c (next m c t s)) -∗ K ⟨⟩))
      ⊢ wp frame (wpE (defs₀ (F := F)) Variants.none c none) E (bodyAt0 t) K := by
  unfold bodyAt0
  by_cases hA : condA (grid0.coords t)
  · have he : ends m c t s = endsA m c t s hA (condB_of_condA t hA) := dif_pos hA
    unfold next; simp only [he]
    iintro ⟨HI, HO, HS, Hk⟩
    iapply ((runAAt m c t s hA (condB_of_condA t hA)).2.2.2.2.2.2 E K)
    isplitl [HI]; · iapply (insAt_raw c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)); iexact HI
    isplitl [HO]; · iexact HO
    isplitl [HS]; · iexact HS
    iintro ⟨HI, HO, HS⟩
    iapply Hk
    isplitl [HI]; · iapply (raw_insAt c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)); iexact HI
    isplitl [HO]; · iexact HO
    iexact HS
  · by_cases hB : condB (grid0.coords t)
    · have he : ends m c t s = endsB m c t s hA hB := (dif_neg hA).trans (dif_pos hB)
      unfold next; simp only [he]
      iintro ⟨HI, HO, HS, Hk⟩
      iapply ((runBAt m c t s hA hB).2.2.2.2.2.2 E K)
      isplitl [HI]; · iapply (insAt_raw c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)); iexact HI
      isplitl [HO]; · iexact HO
      isplitl [HS]; · iexact HS
      iintro ⟨HI, HO, HS⟩
      iapply Hk
      isplitl [HI]; · iapply (raw_insAt c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)); iexact HI
      isplitl [HO]; · iexact HO
      iexact HS
    · have he : ends m c t s = endsC m c t s hA hB := (dif_neg hA).trans (dif_neg hB)
      unfold next; simp only [he]
      iintro ⟨HI, HO, HS, Hk⟩
      iapply ((runCAt m c t s hA hB).2.2.2.2.2.2 E K)
      isplitl [HI]; · iapply (insAt_raw c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)); iexact HI
      isplitl [HO]; · iexact HO
      isplitl [HS]; · iexact HS
      iintro ⟨HI, HO, HS⟩
      iapply Hk
      isplitl [HI]; · iapply (raw_insAt c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)); iexact HI
      isplitl [HO]; · iexact HO
      iexact HS

/-! ## The pipeline's proof data -/

section Data

variable (Inv : (c : Dev nD) → Fin (cfg0.N + 1) → Scr F → Prop)
  (out : (c : Dev nD) → (t : Fin cfg0.N) → Vec F S1x512x1024 .f32)

/-- What holds between points: the scratch buffers at contents of which `Inv` holds, and the generator register. -/
def carried (c : Dev nD) (t : Fin (cfg0.N + 1)) : sProp 𝕄 :=
  iprop((∃ s, ⌜Inv c t s⌝ ∗ scrPts c s) ∗ ∃ r, prngReg c r)

/-- The proof data: the arrays as the region finds them; after the body each input's buffer at its block and the
    result's at `out`; the scratch buffers carried; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out c t
    | ⟨n + 19, h⟩ => absurd (show n + 19 < 19 from h) (by omega)
  Φ t := carried Inv c t
  q _ := fullShare
  owed _ := 0

theorem A_eq (c : Dev nD) (w : Fin cfg0.W) : (dats m Inv out 0 c).A w = V m c (Pipeline.arrRef spec0 w) := by
  dsimp only [dats]

theorem after0_0 (c : Dev nD) (t : Fin cfg0.N) : (dats m Inv out 0 c).after 0 t = iblk m c 0 t := by dsimp only [dats]
theorem after0_1 (c : Dev nD) (t : Fin cfg0.N) : (dats m Inv out 0 c).after 1 t = iblk m c 1 t := by dsimp only [dats]
theorem after0_2 (c : Dev nD) (t : Fin cfg0.N) : (dats m Inv out 0 c).after 2 t = iblk m c 2 t := by dsimp only [dats]
theorem after0_3 (c : Dev nD) (t : Fin cfg0.N) : (dats m Inv out 0 c).after 3 t = iblk m c 3 t := by dsimp only [dats]
theorem after0_4 (c : Dev nD) (t : Fin cfg0.N) : (dats m Inv out 0 c).after 4 t = iblk m c 4 t := by dsimp only [dats]
theorem after0_5 (c : Dev nD) (t : Fin cfg0.N) : (dats m Inv out 0 c).after 5 t = iblk m c 5 t := by dsimp only [dats]
theorem after0_6 (c : Dev nD) (t : Fin cfg0.N) : (dats m Inv out 0 c).after 6 t = iblk m c 6 t := by dsimp only [dats]
theorem after0_7 (c : Dev nD) (t : Fin cfg0.N) : (dats m Inv out 0 c).after 7 t = iblk m c 7 t := by dsimp only [dats]
theorem after0_8 (c : Dev nD) (t : Fin cfg0.N) : (dats m Inv out 0 c).after 8 t = iblk m c 8 t := by dsimp only [dats]
theorem after0_9 (c : Dev nD) (t : Fin cfg0.N) : (dats m Inv out 0 c).after 9 t = iblk m c 9 t := by dsimp only [dats]
theorem after0_10 (c : Dev nD) (t : Fin cfg0.N) : (dats m Inv out 0 c).after 10 t = iblk m c 10 t := by dsimp only [dats]
theorem after0_11 (c : Dev nD) (t : Fin cfg0.N) : (dats m Inv out 0 c).after 11 t = iblk m c 11 t := by dsimp only [dats]
theorem after0_12 (c : Dev nD) (t : Fin cfg0.N) : (dats m Inv out 0 c).after 12 t = iblk m c 12 t := by dsimp only [dats]
theorem after0_13 (c : Dev nD) (t : Fin cfg0.N) : (dats m Inv out 0 c).after 13 t = iblk m c 13 t := by dsimp only [dats]
theorem after0_14 (c : Dev nD) (t : Fin cfg0.N) : (dats m Inv out 0 c).after 14 t = iblk m c 14 t := by dsimp only [dats]
theorem after0_15 (c : Dev nD) (t : Fin cfg0.N) : (dats m Inv out 0 c).after 15 t = iblk m c 15 t := by dsimp only [dats]
theorem after0_16 (c : Dev nD) (t : Fin cfg0.N) : (dats m Inv out 0 c).after 16 t = iblk m c 16 t := by dsimp only [dats]
theorem after0_17 (c : Dev nD) (t : Fin cfg0.N) : (dats m Inv out 0 c).after 17 t = iblk m c 17 t := by dsimp only [dats]
theorem after0_18 (c : Dev nD) (t : Fin cfg0.N) : (dats m Inv out 0 c).after 18 t = out c t := by dsimp only [dats]
theorem before0_0 (c : Dev nD) (t : Fin cfg0.N) (d) : (dats m Inv out 0 c).before 0 t d = iblk m c 0 t :=
  before0_0_of m (dats m Inv out 0 c) (A_eq m Inv out c 0) (after0_0 m Inv out c) t d
theorem before0_1 (c : Dev nD) (t : Fin cfg0.N) (d) : (dats m Inv out 0 c).before 1 t d = iblk m c 1 t :=
  before0_1_of m (dats m Inv out 0 c) (A_eq m Inv out c 1) (after0_1 m Inv out c) t d
theorem before0_2 (c : Dev nD) (t : Fin cfg0.N) (d) : (dats m Inv out 0 c).before 2 t d = iblk m c 2 t :=
  before0_2_of m (dats m Inv out 0 c) (A_eq m Inv out c 2) (after0_2 m Inv out c) t d
theorem before0_3 (c : Dev nD) (t : Fin cfg0.N) (d) : (dats m Inv out 0 c).before 3 t d = iblk m c 3 t :=
  before0_3_of m (dats m Inv out 0 c) (A_eq m Inv out c 3) (after0_3 m Inv out c) t d
theorem before0_4 (c : Dev nD) (t : Fin cfg0.N) (d) : (dats m Inv out 0 c).before 4 t d = iblk m c 4 t :=
  before0_4_of m (dats m Inv out 0 c) (A_eq m Inv out c 4) (after0_4 m Inv out c) t d
theorem before0_5 (c : Dev nD) (t : Fin cfg0.N) (d) : (dats m Inv out 0 c).before 5 t d = iblk m c 5 t :=
  before0_5_of m (dats m Inv out 0 c) (A_eq m Inv out c 5) (after0_5 m Inv out c) t d
theorem before0_6 (c : Dev nD) (t : Fin cfg0.N) (d) : (dats m Inv out 0 c).before 6 t d = iblk m c 6 t :=
  before0_6_of m (dats m Inv out 0 c) (A_eq m Inv out c 6) (after0_6 m Inv out c) t d
theorem before0_7 (c : Dev nD) (t : Fin cfg0.N) (d) : (dats m Inv out 0 c).before 7 t d = iblk m c 7 t :=
  before0_7_of m (dats m Inv out 0 c) (A_eq m Inv out c 7) (after0_7 m Inv out c) t d
theorem before0_8 (c : Dev nD) (t : Fin cfg0.N) (d) : (dats m Inv out 0 c).before 8 t d = iblk m c 8 t :=
  before0_8_of m (dats m Inv out 0 c) (A_eq m Inv out c 8) (after0_8 m Inv out c) t d
theorem before0_9 (c : Dev nD) (t : Fin cfg0.N) (d) : (dats m Inv out 0 c).before 9 t d = iblk m c 9 t :=
  before0_9_of m (dats m Inv out 0 c) (A_eq m Inv out c 9) (after0_9 m Inv out c) t d
theorem before0_10 (c : Dev nD) (t : Fin cfg0.N) (d) : (dats m Inv out 0 c).before 10 t d = iblk m c 10 t :=
  before0_10_of m (dats m Inv out 0 c) (A_eq m Inv out c 10) (after0_10 m Inv out c) t d
theorem before0_11 (c : Dev nD) (t : Fin cfg0.N) (d) : (dats m Inv out 0 c).before 11 t d = iblk m c 11 t :=
  before0_11_of m (dats m Inv out 0 c) (A_eq m Inv out c 11) (after0_11 m Inv out c) t d
theorem before0_12 (c : Dev nD) (t : Fin cfg0.N) (d) : (dats m Inv out 0 c).before 12 t d = iblk m c 12 t :=
  before0_12_of m (dats m Inv out 0 c) (A_eq m Inv out c 12) (after0_12 m Inv out c) t d
theorem before0_13 (c : Dev nD) (t : Fin cfg0.N) (d) : (dats m Inv out 0 c).before 13 t d = iblk m c 13 t :=
  before0_13_of m (dats m Inv out 0 c) (A_eq m Inv out c 13) (after0_13 m Inv out c) t d
theorem before0_14 (c : Dev nD) (t : Fin cfg0.N) (d) : (dats m Inv out 0 c).before 14 t d = iblk m c 14 t :=
  before0_14_of m (dats m Inv out 0 c) (A_eq m Inv out c 14) (after0_14 m Inv out c) t d
theorem before0_15 (c : Dev nD) (t : Fin cfg0.N) (d) : (dats m Inv out 0 c).before 15 t d = iblk m c 15 t :=
  before0_15_of m (dats m Inv out 0 c) (A_eq m Inv out c 15) (after0_15 m Inv out c) t d
theorem before0_16 (c : Dev nD) (t : Fin cfg0.N) (d) : (dats m Inv out 0 c).before 16 t d = iblk m c 16 t :=
  before0_16_of m (dats m Inv out 0 c) (A_eq m Inv out c 16) (after0_16 m Inv out c) t d
theorem before0_17 (c : Dev nD) (t : Fin cfg0.N) (d) : (dats m Inv out 0 c).before 17 t d = iblk m c 17 t :=
  before0_17_of m (dats m Inv out 0 c) (A_eq m Inv out c 17) (after0_17 m Inv out c) t d

/-! ## The body obligation with the result forgotten -/

/-- The result's window forgotten: nothing said of what the body leaves there. -/
def forgets0 : Fin 19 → Bool := fun w => decide (w = 18)

def bodyPre (c : Dev nD) (t : Fin cfg0.N) : sProp 𝕄 :=
  iprop((dats m Inv out 0 c).Φ t.castSucc ∗ (dats m Inv out 0 c).owesAt () t.castSucc
    ∗ (∃ d, owns (c : Thread nD τ) (ms0_0 t) fullShare ((dats m Inv out 0 c).before 0 t d))
    ∗ (∃ d, owns (c : Thread nD τ) (ms0_1 t) fullShare ((dats m Inv out 0 c).before 1 t d))
    ∗ (∃ d, owns (c : Thread nD τ) (ms0_2 t) fullShare ((dats m Inv out 0 c).before 2 t d))
    ∗ (∃ d, owns (c : Thread nD τ) (ms0_3 t) fullShare ((dats m Inv out 0 c).before 3 t d))
    ∗ (∃ d, owns (c : Thread nD τ) (ms0_4 t) fullShare ((dats m Inv out 0 c).before 4 t d))
    ∗ (∃ d, owns (c : Thread nD τ) (ms0_5 t) fullShare ((dats m Inv out 0 c).before 5 t d))
    ∗ (∃ d, owns (c : Thread nD τ) (ms0_6 t) fullShare ((dats m Inv out 0 c).before 6 t d))
    ∗ (∃ d, owns (c : Thread nD τ) (ms0_7 t) fullShare ((dats m Inv out 0 c).before 7 t d))
    ∗ (∃ d, owns (c : Thread nD τ) (ms0_8 t) fullShare ((dats m Inv out 0 c).before 8 t d))
    ∗ (∃ d, owns (c : Thread nD τ) (ms0_9 t) fullShare ((dats m Inv out 0 c).before 9 t d))
    ∗ (∃ d, owns (c : Thread nD τ) (ms0_10 t) fullShare ((dats m Inv out 0 c).before 10 t d))
    ∗ (∃ d, owns (c : Thread nD τ) (ms0_11 t) fullShare ((dats m Inv out 0 c).before 11 t d))
    ∗ (∃ d, owns (c : Thread nD τ) (ms0_12 t) fullShare ((dats m Inv out 0 c).before 12 t d))
    ∗ (∃ d, owns (c : Thread nD τ) (ms0_13 t) fullShare ((dats m Inv out 0 c).before 13 t d))
    ∗ (∃ d, owns (c : Thread nD τ) (ms0_14 t) fullShare ((dats m Inv out 0 c).before 14 t d))
    ∗ (∃ d, owns (c : Thread nD τ) (ms0_15 t) fullShare ((dats m Inv out 0 c).before 15 t d))
    ∗ (∃ d, owns (c : Thread nD τ) (ms0_16 t) fullShare ((dats m Inv out 0 c).before 16 t d))
    ∗ (∃ d, owns (c : Thread nD τ) (ms0_17 t) fullShare ((dats m Inv out 0 c).before 17 t d))
    ∗ (∃ d, owns (c : Thread nD τ) (ms0_18 t) fullShare d))
def bodyPost (c : Dev nD) (t : Fin cfg0.N) : sProp 𝕄 :=
  iprop((dats m Inv out 0 c).Φ t.succ ∗ (dats m Inv out 0 c).owesAt () t.succ
    ∗ owns (c : Thread nD τ) (ms0_0 t) fullShare ((dats m Inv out 0 c).after 0 t)
    ∗ owns (c : Thread nD τ) (ms0_1 t) fullShare ((dats m Inv out 0 c).after 1 t)
    ∗ owns (c : Thread nD τ) (ms0_2 t) fullShare ((dats m Inv out 0 c).after 2 t)
    ∗ owns (c : Thread nD τ) (ms0_3 t) fullShare ((dats m Inv out 0 c).after 3 t)
    ∗ owns (c : Thread nD τ) (ms0_4 t) fullShare ((dats m Inv out 0 c).after 4 t)
    ∗ owns (c : Thread nD τ) (ms0_5 t) fullShare ((dats m Inv out 0 c).after 5 t)
    ∗ owns (c : Thread nD τ) (ms0_6 t) fullShare ((dats m Inv out 0 c).after 6 t)
    ∗ owns (c : Thread nD τ) (ms0_7 t) fullShare ((dats m Inv out 0 c).after 7 t)
    ∗ owns (c : Thread nD τ) (ms0_8 t) fullShare ((dats m Inv out 0 c).after 8 t)
    ∗ owns (c : Thread nD τ) (ms0_9 t) fullShare ((dats m Inv out 0 c).after 9 t)
    ∗ owns (c : Thread nD τ) (ms0_10 t) fullShare ((dats m Inv out 0 c).after 10 t)
    ∗ owns (c : Thread nD τ) (ms0_11 t) fullShare ((dats m Inv out 0 c).after 11 t)
    ∗ owns (c : Thread nD τ) (ms0_12 t) fullShare ((dats m Inv out 0 c).after 12 t)
    ∗ owns (c : Thread nD τ) (ms0_13 t) fullShare ((dats m Inv out 0 c).after 13 t)
    ∗ owns (c : Thread nD τ) (ms0_14 t) fullShare ((dats m Inv out 0 c).after 14 t)
    ∗ owns (c : Thread nD τ) (ms0_15 t) fullShare ((dats m Inv out 0 c).after 15 t)
    ∗ owns (c : Thread nD τ) (ms0_16 t) fullShare ((dats m Inv out 0 c).after 16 t)
    ∗ owns (c : Thread nD τ) (ms0_17 t) fullShare ((dats m Inv out 0 c).after 17 t)
    ∗ (∃ d, owns (c : Thread nD τ) (ms0_18 t) fullShare d))

/-- The body at any point, the scratch carried by an invariant every point keeps. -/
theorem sound_body (hinv : ∀ c t s, Inv c t.castSucc s → Inv c t.succ (next m c t s)) (c : Dev nD) (t : Fin cfg0.N) :
    bodyPre m Inv out c t ⊢ wp frame (wpE (defs₀ (F := F)) Variants.none c none) Set.univ (bodyAt0 t) (fun _ => bodyPost m Inv out c t) := by
  unfold bodyPre bodyPost
  simp only [before0_0 m Inv out, before0_1 m Inv out, before0_2 m Inv out, before0_3 m Inv out, before0_4 m Inv out, before0_5 m Inv out, before0_6 m Inv out, before0_7 m Inv out, before0_8 m Inv out, before0_9 m Inv out, before0_10 m Inv out, before0_11 m Inv out, before0_12 m Inv out, before0_13 m Inv out, before0_14 m Inv out, before0_15 m Inv out, before0_16 m Inv out, before0_17 m Inv out]
  rw [show (dats m Inv out 0 c).Φ t.succ = carried Inv c t.succ from rfl,
    show (dats m Inv out 0 c).Φ t.castSucc = carried Inv c t.castSucc from rfl,
    show (dats m Inv out 0 c).owesAt () t.succ = (dats m Inv out 0 c).owesAt () t.castSucc from rfl,
    after0_0, after0_1, after0_2, after0_3, after0_4, after0_5, after0_6, after0_7, after0_8, after0_9, after0_10, after0_11, after0_12, after0_13, after0_14, after0_15, after0_16, after0_17]
  unfold carried
  iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run m c t s Set.univ _)
  isplitl [H0 H1 H2 H3 H4 H5 H6 H7 H8 H9 H10 H11 H12 H13 H14 H15 H16 H17]
  · unfold insPts insAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [HS]; · iexact HS
  iintro ⟨HI, ⟨%g, H18⟩, HS⟩
  isplitl [HS Hr]
  · isplitl [HS]
    · iexists (next m c t s); isplitr
      · ipureintro; exact hinv c t s hs
      iexact HS
    iexact Hr
  isplitl [Ho]; · iexact Ho
  unfold insPts insAt
  icases HI with ⟨H0, H1, H2, H3, H4, H5, H6, H7, H8, H9, H10, H11, H12, H13, H14, H15, H16, H17⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexists _; unfold owns; iexists _; isplitr
  swap; · iexact H18
  ipureintro; rfl

/-- The body table's row at the point is the body at the point's buffers. -/
theorem defs₀_row (t : Fin cfg0.N) : defs₀ (F := F) .tc cfg0.body (cfg0.bodyArgs t (cfg0.slots t)) = bodyAt0 t := by
  unfold defs₀; rw [Defs.onTc_tc]

theorem body_obligation (hinv : ∀ c t s, Inv c t.castSucc s → Inv c t.succ (next m c t s)) (c : Dev nD) :
    BodyObligation (dats m Inv out 0 c) (defs₀ (F := F)) Variants.none () Set.univ forgets0 := fun t => by
  rw [bigSep_W0, bigSep_W0, defs₀_row]
  exact triple_restated (sound_body m Inv out hinv c t) rfl .rfl fun _ => .rfl

/-! ## The body obligation with the result named -/

def bodyPreV (c : Dev nD) (t : Fin cfg0.N) : sProp 𝕄 :=
  iprop((dats m Inv out 0 c).Φ t.castSucc ∗ (dats m Inv out 0 c).owesAt () t.castSucc
    ∗ (∃ d, owns (c : Thread nD τ) (ms0_0 t) fullShare ((dats m Inv out 0 c).before 0 t d))
    ∗ (∃ d, owns (c : Thread nD τ) (ms0_1 t) fullShare ((dats m Inv out 0 c).before 1 t d))
    ∗ (∃ d, owns (c : Thread nD τ) (ms0_2 t) fullShare ((dats m Inv out 0 c).before 2 t d))
    ∗ (∃ d, owns (c : Thread nD τ) (ms0_3 t) fullShare ((dats m Inv out 0 c).before 3 t d))
    ∗ (∃ d, owns (c : Thread nD τ) (ms0_4 t) fullShare ((dats m Inv out 0 c).before 4 t d))
    ∗ (∃ d, owns (c : Thread nD τ) (ms0_5 t) fullShare ((dats m Inv out 0 c).before 5 t d))
    ∗ (∃ d, owns (c : Thread nD τ) (ms0_6 t) fullShare ((dats m Inv out 0 c).before 6 t d))
    ∗ (∃ d, owns (c : Thread nD τ) (ms0_7 t) fullShare ((dats m Inv out 0 c).before 7 t d))
    ∗ (∃ d, owns (c : Thread nD τ) (ms0_8 t) fullShare ((dats m Inv out 0 c).before 8 t d))
    ∗ (∃ d, owns (c : Thread nD τ) (ms0_9 t) fullShare ((dats m Inv out 0 c).before 9 t d))
    ∗ (∃ d, owns (c : Thread nD τ) (ms0_10 t) fullShare ((dats m Inv out 0 c).before 10 t d))
    ∗ (∃ d, owns (c : Thread nD τ) (ms0_11 t) fullShare ((dats m Inv out 0 c).before 11 t d))
    ∗ (∃ d, owns (c : Thread nD τ) (ms0_12 t) fullShare ((dats m Inv out 0 c).before 12 t d))
    ∗ (∃ d, owns (c : Thread nD τ) (ms0_13 t) fullShare ((dats m Inv out 0 c).before 13 t d))
    ∗ (∃ d, owns (c : Thread nD τ) (ms0_14 t) fullShare ((dats m Inv out 0 c).before 14 t d))
    ∗ (∃ d, owns (c : Thread nD τ) (ms0_15 t) fullShare ((dats m Inv out 0 c).before 15 t d))
    ∗ (∃ d, owns (c : Thread nD τ) (ms0_16 t) fullShare ((dats m Inv out 0 c).before 16 t d))
    ∗ (∃ d, owns (c : Thread nD τ) (ms0_17 t) fullShare ((dats m Inv out 0 c).before 17 t d))
    ∗ (∃ d, owns (c : Thread nD τ) (ms0_18 t) fullShare ((dats m Inv out 0 c).before 18 t d)))
def bodyPostV (c : Dev nD) (t : Fin cfg0.N) : sProp 𝕄 :=
  iprop((dats m Inv out 0 c).Φ t.succ ∗ (dats m Inv out 0 c).owesAt () t.succ
    ∗ owns (c : Thread nD τ) (ms0_0 t) fullShare ((dats m Inv out 0 c).after 0 t)
    ∗ owns (c : Thread nD τ) (ms0_1 t) fullShare ((dats m Inv out 0 c).after 1 t)
    ∗ owns (c : Thread nD τ) (ms0_2 t) fullShare ((dats m Inv out 0 c).after 2 t)
    ∗ owns (c : Thread nD τ) (ms0_3 t) fullShare ((dats m Inv out 0 c).after 3 t)
    ∗ owns (c : Thread nD τ) (ms0_4 t) fullShare ((dats m Inv out 0 c).after 4 t)
    ∗ owns (c : Thread nD τ) (ms0_5 t) fullShare ((dats m Inv out 0 c).after 5 t)
    ∗ owns (c : Thread nD τ) (ms0_6 t) fullShare ((dats m Inv out 0 c).after 6 t)
    ∗ owns (c : Thread nD τ) (ms0_7 t) fullShare ((dats m Inv out 0 c).after 7 t)
    ∗ owns (c : Thread nD τ) (ms0_8 t) fullShare ((dats m Inv out 0 c).after 8 t)
    ∗ owns (c : Thread nD τ) (ms0_9 t) fullShare ((dats m Inv out 0 c).after 9 t)
    ∗ owns (c : Thread nD τ) (ms0_10 t) fullShare ((dats m Inv out 0 c).after 10 t)
    ∗ owns (c : Thread nD τ) (ms0_11 t) fullShare ((dats m Inv out 0 c).after 11 t)
    ∗ owns (c : Thread nD τ) (ms0_12 t) fullShare ((dats m Inv out 0 c).after 12 t)
    ∗ owns (c : Thread nD τ) (ms0_13 t) fullShare ((dats m Inv out 0 c).after 13 t)
    ∗ owns (c : Thread nD τ) (ms0_14 t) fullShare ((dats m Inv out 0 c).after 14 t)
    ∗ owns (c : Thread nD τ) (ms0_15 t) fullShare ((dats m Inv out 0 c).after 15 t)
    ∗ owns (c : Thread nD τ) (ms0_16 t) fullShare ((dats m Inv out 0 c).after 16 t)
    ∗ owns (c : Thread nD τ) (ms0_17 t) fullShare ((dats m Inv out 0 c).after 17 t)
    ∗ owns (c : Thread nD τ) (ms0_18 t) fullShare ((dats m Inv out 0 c).after 18 t))

/-- The body at any point, the scratch carried by an invariant every point keeps, and the result's block the named
    one whenever the invariant holds before the point. -/
theorem sound_bodyV (hinv : ∀ c t s, Inv c t.castSucc s → Inv c t.succ (next m c t s))
    (hout : ∀ c t s, Inv c t.castSucc s → ∀ f, (ms0_18 t).view.read (Elt F) ((ms0_18 t).view.writes (Elt F) f (ends m c t s).L20) = out c t)
    (c : Dev nD) (t : Fin cfg0.N) :
    bodyPreV m Inv out c t ⊢ wp frame (wpE (defs₀ (F := F)) Variants.none c none) Set.univ (bodyAt0 t) (fun _ => bodyPostV m Inv out c t) := by
  unfold bodyPreV bodyPostV
  simp only [before0_0 m Inv out, before0_1 m Inv out, before0_2 m Inv out, before0_3 m Inv out, before0_4 m Inv out, before0_5 m Inv out, before0_6 m Inv out, before0_7 m Inv out, before0_8 m Inv out, before0_9 m Inv out, before0_10 m Inv out, before0_11 m Inv out, before0_12 m Inv out, before0_13 m Inv out, before0_14 m Inv out, before0_15 m Inv out, before0_16 m Inv out, before0_17 m Inv out]
  rw [show (dats m Inv out 0 c).Φ t.succ = carried Inv c t.succ from rfl,
    show (dats m Inv out 0 c).Φ t.castSucc = carried Inv c t.castSucc from rfl,
    show (dats m Inv out 0 c).owesAt () t.succ = (dats m Inv out 0 c).owesAt () t.castSucc from rfl,
    after0_0, after0_1, after0_2, after0_3, after0_4, after0_5, after0_6, after0_7, after0_8, after0_9, after0_10, after0_11, after0_12, after0_13, after0_14, after0_15, after0_16, after0_17, after0_18]
  unfold carried
  iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run m c t s Set.univ _)
  isplitl [H0 H1 H2 H3 H4 H5 H6 H7 H8 H9 H10 H11 H12 H13 H14 H15 H16 H17]
  · unfold insPts insAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [HS]; · iexact HS
  iintro ⟨HI, ⟨%g, H18⟩, HS⟩
  isplitl [HS Hr]
  · isplitl [HS]
    · iexists (next m c t s); isplitr
      · ipureintro; exact hinv c t s hs
      iexact HS
    iexact Hr
  isplitl [Ho]; · iexact Ho
  unfold insPts insAt
  icases HI with ⟨H0, H1, H2, H3, H4, H5, H6, H7, H8, H9, H10, H11, H12, H13, H14, H15, H16, H17⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  unfold owns; iexists _; isplitr
  swap; · iexact H18
  ipureintro; exact hout c t s hs g

theorem body_obligationV (hinv : ∀ c t s, Inv c t.castSucc s → Inv c t.succ (next m c t s))
    (hout : ∀ c t s, Inv c t.castSucc s → ∀ f, (ms0_18 t).view.read (Elt F) ((ms0_18 t).view.writes (Elt F) f (ends m c t s).L20) = out c t)
    (c : Dev nD) :
    BodyObligation (dats m Inv out 0 c) (defs₀ (F := F)) Variants.none () Set.univ := fun t => by
  rw [bigSep_W0, bigSep_W0, defs₀_row]
  exact triple_restated (sound_bodyV m Inv out hinv hout c t) rfl .rfl fun _ => .rfl

/-! ## Into and out of the region -/

theorem carried_in (h0 : ∀ c s, Inv c 0 s) (c : Dev nD) : Pipeline.ΦA spec0 c ⊢ (dats m Inv out 0 c).Φ 0 := by
  rw [show (dats m Inv out 0 c).Φ 0 = carried Inv c 0 from rfl]
  unfold Pipeline.ΦA carried
  rw [scopedRest0_eq]
  iintro ⟨⟨⟨%f21, H21⟩, ⟨%f22, H22⟩, ⟨%f23, H23⟩, ⟨%f24, H24⟩, ⟨%f25, H25⟩, ⟨%f26, H26⟩⟩, Hr⟩
  isplitr [Hr]
  · iexists ⟨f22, f23, f24, f25, f26⟩
    isplitr; · ipureintro; exact h0 c _
    unfold scrPts scrAt
    simp only [Memref.view_whole, View.set_whole]
    isplitl [H21]; · iexists f21; iexact H21
    isplitl [H22]; · iexact H22
    isplitl [H23]; · iexact H23
    isplitl [H24]; · iexact H24
    isplitl [H25]; · iexact H25
    iexact H26
  iexact Hr

theorem carried_out (c : Dev nD) : (dats m Inv out 0 c).Φ (Fin.last cfg0.N) ⊢ Pipeline.ΦA spec0 c := by
  rw [show (dats m Inv out 0 c).Φ (Fin.last cfg0.N) = carried Inv c (Fin.last cfg0.N) from rfl]
  unfold Pipeline.ΦA carried
  rw [scopedRest0_eq]
  iintro ⟨⟨%s, -, HS⟩, Hr⟩
  unfold scrPts scrAt
  simp only [Memref.view_whole, View.set_whole]
  icases HS with ⟨⟨%f21, H21⟩, H22, H23, H24, H25, H26⟩
  isplitr [Hr]
  · isplitl [H21]; · iexists _; iexact H21
    isplitl [H22]; · iexists _; iexact H22
    isplitl [H23]; · iexists _; iexact H23
    isplitl [H24]; · iexists _; iexact H24
    isplitl [H25]; · iexists _; iexact H25
    iexists _; iexact H26
  iexact Hr

end Data

/-! ## The runs -/

/-- The frame's proof data: nothing said of the scratch or of the result. -/
abbrev datsF := dats m (fun _ _ _ => True) (fun _ t => Pipeline.Dat.unnamed (cfg := cfg0) 18 t)

theorem A_eqF (c : Dev nD) (w : Fin cfg0.W) : (datsF m 0 c).A w = V m c (Pipeline.arrRef spec0 w) := A_eq m _ _ c w

-- the launch theorem's implicit arguments are found by unifying its conclusion with this statement, which takes
-- unfolding plain definitions in a metavariable's type
set_option backward.isDefEq.respectTransparency.types false in
/-- Every weakly fair execution terminates, and every final state has the inputs' arrays and every other buffer
    outside the region as the region found them, every counter at zero. -/
theorem run_frame : θ_run defs (onTc (τ := τ) (main (F := F))) (s₀ m ρ)
    (fun r => Pipeline.RDat.FramePost (cfgs 0) (fun c => (datsF m 0 c).toRForget forgets0) (V m) r ∧ r.2.sem = fun _ => 0) :=
  Pipeline.θ_run_frame_track_forget (Q' := _) cfgs (datsF m) (0 : Fin 1) launch0 defs₀ Variants.none forgets0 m ρ main
    (hbody := fun c => (body_obligation m _ _ (fun _ _ _ _ => trivial) c).loose) (hshare := fun c => (datsF m 0 c).share_full fun _ => rfl)
    (howed := fun _ _ => rfl) (V := V m) (hmain := hmain m Variants.none) (hA := A_eq m _ _)
    (hin := carried_in m _ _ fun _ _ => trivial) (hout := carried_out m _ _)

set_option maxHeartbeats 4000000 in
/-- The frame: the arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1.arr_in c 0 rfl).trans ((A_eqF m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 17 rfl).trans ((A_eqF m c 17).trans (V_main_arg6 m c)),
      (h.1.arr_in c 16 rfl).trans ((A_eqF m c 16).trans (V_main_arg7 m c)),
      ((h.1 c).2 main_arg8 (Pipeline.mem_restRefs_of main_arg8 (by decide) (by decide))).trans (V_main_arg8 m c)⟩, h.2⟩) (run_frame m ρ)

end Cert.KernelIdeal.Layer

end
-- ==== Proof.Layer.lean ====
/- What the layer's projections compute, over the extended reals, for one token: the normalised row, one column of the
   input projection, the gates, and one column of the output projection of the gates added to the row. The rows and the
   columns are plain functions, so that the kernels' blocks and the references' whole arrays are both read into them. -/
module

public import Idealize.ShloMosaic.Lib.Pointwise
public import Idealize.ShloMosaic.Lib.Pipeline.Value

@[expose] public section

noncomputable section

namespace Cert.Layer

open Idealize.ShloMosaic

/-- A load of what a list of stores left reads what the list leaves, through the load's rectangle. -/
theorem readCov_eq_ld {sig : RefSig} {κ : Kind} {sp : Space} {s : Shape} {e : EltTy} {Val : EltTy → Type} [∀ e, Nonempty (Val e)]
    (v : View sig κ sp s e) (L : List (View.Piece Val s e)) (r : Rect s) : v.readCov L r.toLoadRect = View.ld (View.canon L) r :=
  View.readCov_eq_canon' v L _

/-- One element of the normalised row: the row over the root of its mean square plus 1e-6, times the weight. -/
def normed (x w : Fin 1024 → EReal) (k : Fin 1024) : EReal :=
  x k * Ideal.rsqrt (Ideal.div (∑ j, x j * x j) (Ideal.ofBits .f32 0x44800000#32) + Ideal.ofBits .f32 0x358637BD#32) * w k

/-- One column of the input projection of a row. -/
def proj (x w : Fin 1024 → EReal) (col : Fin 1024 → EReal) : EReal := ∑ k, normed x w k * col k

/-- `y · σ(y)`. -/
def silu (y : EReal) : EReal := y * Ideal.logistic y

/-- One element of the row plus the output projection of its gates: the retention heads' columns of the input projection,
    1024 and on, meet the first half of the output weight's rows, the attention heads', 2304 and on, the second. -/
def gated (x w : Fin 1024 → EReal) (win : Fin 1024 → Fin 2816 → EReal) (col : Fin 1024 → EReal) (d : Fin 1024) : EReal :=
  x d + (∑ e : Fin 512, silu (proj x w fun k => win k ⟨1024 + e.val, by omega⟩) * col ⟨e.val, by omega⟩
    + ∑ e : Fin 512, silu (proj x w fun k => win k ⟨2304 + e.val, by omega⟩) * col ⟨512 + e.val, by omega⟩)

/-! ## Indices -/

theorem hz2 : (![0, 0] : Fin 2 → Nat) = fun _ => 0 := funext fun a => by fin_cases a <;> rfl
theorem hz3 : (![0, 0, 0] : Fin 3 → Nat) = fun _ => 0 := funext fun a => by fin_cases a <;> rfl

theorem ix3_eta {a b d : ℕ} (i : (⟨3, ![a, b, d]⟩ : Shape).Idx) : i = ix3 (i 0) (i 1) (i 2) :=
  funext fun x => by match x with | ⟨0, _⟩ => rfl | ⟨1, _⟩ => rfl | ⟨2, _⟩ => rfl

theorem ix3_one {b d : ℕ} (i : (⟨3, ![1, b, d]⟩ : Shape).Idx) : ∃ (r : Fin b) (e : Fin d), i = ix3 0 r e :=
  ⟨i 1, i 2, (ix3_eta i).trans (congrArg (fun z : Fin 1 => ix3 z (i 1) (i 2)) (Subsingleton.elim (α := Fin 1) _ _))⟩

/-- The batch of the grid's point `t`, and row `r` of its tile. -/
def bat (t : Fin 32) : Fin 8 := ⟨t.val / 4, by omega⟩
def row (t : Fin 32) (r : Fin 512) : Fin 2048 := ⟨512 * (t.val % 4) + r.val, by omega⟩

end Cert.Layer

end
-- ==== Proof.GatesValue.lean ====
/- The gates slice: its result array as one function of the arguments (`G`, `final`), that the reference's result is the
   same function, and so the claim. A grid point writes one block of 512 rows, one store whose payload reads what the two
   scratch stores before it left (`outs_eq`); read at an index it is `Layer.gated` of a row (`block_apply`). -/
module

public import proofs.«01_k».proof.Defs
public import proofs.«01_k».proof.Proof.Gen.GatesIdeal.Value
public import proofs.«01_k».proof.Proof.Gen.GatesRefIdeal.Run
public import proofs.«01_k».proof.Proof.Gen.GatesRefIdeal.Read
public import proofs.«01_k».proof.Proof.Layer
public import Idealize.ShloMosaic.Lib.StableHlo.ReadAt
public import Idealize.ShloMosaic.Lib.Pipeline.ValueKit.Tiles

@[expose] public section

set_option maxRecDepth 16384

noncomputable section

namespace Cert.Layer.Gates

open Cert.GatesIdeal Cert.GatesIdeal.Gen Cert.GatesIdeal.Value Idealize.ShloMosaic Idealize.ShloMosaic.TcCoe Idealize.SL.Sem

variable (m : (ℓ : Loc nD τ sig) → Buf (Elt Ideal) ℓ) (ρ : Dev nD → PrngReg) (c : Dev nD)

/-- The result array as one function of the argument arrays. -/
def G (a0 : Vec Ideal S8x2048x1024 .f32) (a1 : Vec Ideal S1024 .f32) (a2 : Vec Ideal S1024x2816 .f32) (a8 : Vec Ideal S1024x1024 .f32) :
    Vec Ideal S8x2048x1024 .f32 := fun i =>
  gated (fun k => a0 (ix3 (i 0) (i 1) k)) (fun k => a1 (ix1 k)) (fun k e => a2 (ix2 k e)) (fun e => a8 (ix2 e (i 2))) (i 2)

/-! ## The kernel's blocks -/

theorem pay2_apply (x0 : Vec Ideal S1x512x1024 .f32) (x1 : Vec Ideal S1x1024 .f32) (x2 : Vec Ideal S1024x2816 .bf16) (r : Fin 512) (e : Fin 2816) :
    k0_pay2 x0 x1 x2 (ix2 r e) = proj (fun k => x0 (ix3 0 r k)) (fun k => x1 (ix2 0 k)) (fun k => x2 (ix2 k e)) := by
  pointwise [k0_pay2]
  rfl

/-- What a point leaves in the output's block. -/
theorem outs_eq (t : Fin cfg0.N) : outsAt0 m c t = k0_pay1 (F := Ideal) (iblk m c 0 t)
    (k0_pay3 (F := Ideal) (View.ld (k0_pay2 (F := Ideal) (iblk m c 0 t) (iblk m c 1 t) (iblk m c 2 t)) (Rect.unit (s := S512x2816) ![0, 1024] S512x512.size inb_S512x2816_S512x512_0_1024))
      (View.ld (k0_pay2 (F := Ideal) (iblk m c 0 t) (iblk m c 1 t) (iblk m c 2 t)) (Rect.unit (s := S512x2816) ![0, 2304] S512x512.size inb_S512x2816_S512x512_0_2304)))
    (iblk m c 3 t) := by
  unfold outsAt0 out0_A_18 kernelRun0_A
  rw [View.read_writes_junk_eq_canon]
  refine (View.canon_unit_zero hz3 _ _).trans ?_
  unfold kernelRun0_A.sl.v36 kernelRun0_A.sl.HS1_1
  rw [readCov_eq_ld, View.canon_unit_zero hz2]
  unfold kernelRun0_A.sl.v23 kernelRun0_A.sl.v26 kernelRun0_A.sl.HS0_1
  rw [readCov_eq_ld, readCov_eq_ld, View.canon_unit_zero hz2]
  simp only [View.readAt_eq_ld, Memref.IsWhole.read_unread]
  rw [View.ld_unit_zero (S := S1x512x1024) hz3, View.ld_unit_zero (S := S512x1024) hz2, View.ld_unit_zero (S := S1x1024) hz2,
    View.ld_unit_zero (S := S1024x2816) hz2, View.ld_unit_zero (S := S1024x1024) hz2]

/-- 512 of the projected columns, from column `off` on. -/
theorem cols_apply (x0 : Vec Ideal S1x512x1024 .f32) (x1 : Vec Ideal S1x1024 .f32) (x2 : Vec Ideal S1024x2816 .f32) (off : ℕ)
    (hoff : off + 512 ≤ 2816) (inb : ∀ a, ![0, off] a + S512x512.size a ≤ S512x2816.size a) (r e : Fin 512) :
    (View.ld (Val := Elt Ideal) (e' := .f32) (k0_pay2 (F := Ideal) x0 x1 x2) (Rect.unit (s := S512x2816) ![0, off] S512x512.size inb) : Vec Ideal S512x512 .f32) (ix2 r e)
      = proj (fun k => x0 (ix3 0 r k)) (fun k => x1 (ix2 0 k)) (fun k => x2 (ix2 k ⟨off + e.val, by omega⟩)) := by
  rw [View.ld_unit_apply_of (Val := Elt Ideal) (e := .f32) (S := S512x2816) (k0_pay2 (F := Ideal) x0 x1 x2) ![0, off] S512x512.size inb (ix2 r e)
    (ix2 r ⟨off + e.val, by omega⟩) (fun a => by fin_cases a <;> simp)]
  exact pay2_apply x0 x1 x2 r _

/-- What a point leaves in the output's block, at an index. -/
theorem block_apply (t : Fin cfg0.N) (r : Fin 512) (e : Fin 1024) : outsAt0 m c t (ix3 0 r e)
    = gated (fun k => iblk m c 0 t (ix3 0 r k)) (fun k => iblk m c 1 t (ix2 0 k)) (fun k e => iblk m c 2 t (ix2 k e))
      (fun k => iblk m c 3 t (ix2 k e)) e := by
  rw [outs_eq]
  generalize iblk m c 0 t = x0, iblk m c 1 t = x1, iblk m c 2 t = x2, iblk m c 3 t = x3
  have h1 := fun e => cols_apply x0 x1 x2 1024 (by omega) inb_S512x2816_S512x512_0_1024 r e
  have h2 := fun e => cols_apply x0 x1 x2 2304 (by omega) inb_S512x2816_S512x512_0_2304 r e
  generalize View.ld (Val := Elt Ideal) (e' := .f32) (k0_pay2 (F := Ideal) x0 x1 x2) (Rect.unit (s := S512x2816) ![0, 1024] S512x512.size inb_S512x2816_S512x512_0_1024) = y1 at h1 ⊢
  generalize View.ld (Val := Elt Ideal) (e' := .f32) (k0_pay2 (F := Ideal) x0 x1 x2) (Rect.unit (s := S512x2816) ![0, 2304] S512x512.size inb_S512x2816_S512x512_0_2304) = y2 at h2 ⊢
  pointwise [k0_pay1, k0_pay3]
  simp only [h1, h2]
  rfl

/-! ## The windows -/

theorem V1 (k : Fin 1024) : V m c main_v202 (ix2 0 k) = m ((c : Thread nD τ).loc main_arg1) (ix1 k) := by
  unfold V
  after_reads_at

theorem V2 (k : Fin 1024) (e : Fin 2816) : V m c main_v203 (ix2 k e) = m ((c : Thread nD τ).loc main_arg2) (ix2 k e) := by
  unfold V
  after_reads_at

theorem V3 (k e : Fin 1024) : V m c main_v204 (ix2 k e) = m ((c : Thread nD τ).loc main_arg8) (ix2 k e) := by
  unfold V
  after_reads_at

/-- The block indices at a point: the point's batch and tile for the rows, zero for the weights. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx18 : ∀ t : Fin cfg0.N, win0_18.index t (0 : Fin 3) = t.val / 4 ∧ win0_18.index t (1 : Fin 3) = t.val % 4 ∧ win0_18.index t (2 : Fin 3) = 0 :=
  (by decide +kernel : ∀ t : Fin grid0.N, _)

theorem iblk0_apply (t : Fin cfg0.N) (r : Fin 512) (k : Fin 1024) :
    iblk m c 0 t (ix3 0 r k) = m ((c : Thread nD τ).loc main_arg0) (ix3 (bat t) (row t r) k) := by
  rw [← V_main_arg0 m c]
  obtain ⟨e0, e1, e2⟩ := idx0 t
  show V m c main_arg0 (((cfg0.win 0).blk t).view.emb (ix3 0 r k)) = _
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * k.val = k.val; omega

theorem iblk1_apply (t : Fin cfg0.N) (k : Fin 1024) : iblk m c 1 t (ix2 0 k) = m ((c : Thread nD τ).loc main_arg1) (ix1 k) := by
  rw [← V1 m c]
  obtain ⟨e0, e1⟩ := idx1 t
  show V m c main_v202 (((cfg0.win 1).blk t).view.emb (ix2 0 k)) = _
  congr 1; funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk2_apply (t : Fin cfg0.N) (k : Fin 1024) (e : Fin 2816) : iblk m c 2 t (ix2 k e) = m ((c : Thread nD τ).loc main_arg2) (ix2 k e) := by
  rw [← V2 m c]
  obtain ⟨e0, e1⟩ := idx2 t
  show V m c main_v203 (((cfg0.win 2).blk t).view.emb (ix2 k e)) = _
  congr 1; funext a; apply Fin.ext
  match a with
  | ⟨0, _⟩ => show win0_2.index t (0 : Fin 2) * 1024 + 1 * k.val = k.val; omega
  | ⟨1, _⟩ => show win0_2.index t (1 : Fin 2) * 2816 + 1 * e.val = e.val; omega

theorem iblk3_apply (t : Fin cfg0.N) (k e : Fin 1024) : iblk m c 3 t (ix2 k e) = m ((c : Thread nD τ).loc main_arg8) (ix2 k e) := by
  rw [← V3 m c]
  obtain ⟨e0, e1⟩ := idx3 t
  show V m c main_v204 (((cfg0.win 3).blk t).view.emb (ix2 k e)) = _
  congr 1; funext a; apply Fin.ext
  match a with
  | ⟨0, _⟩ => show win0_3.index t (0 : Fin 2) * 1024 + 1 * k.val = k.val; omega
  | ⟨1, _⟩ => show win0_3.index t (1 : Fin 2) * 1024 + 1 * e.val = e.val; omega

theorem emb18 (t : Fin cfg0.N) (r : Fin 512) (e : Fin 1024) :
    ((cfg0.win 18).blk t).view.emb (ix3 0 r e) = ix3 (bat t) (row t r) e := by
  obtain ⟨e0, e1, e2⟩ := idx18 t
  funext a; apply Fin.ext
  match a with
  | ⟨0, _⟩ => show win0_18.index t (0 : Fin 3) * 1 + 1 * 0 = t.val / 4; omega
  | ⟨1, _⟩ => show win0_18.index t (1 : Fin 3) * 512 + 1 * r.val = 512 * (t.val % 4) + r.val; omega
  | ⟨2, _⟩ => show win0_18.index t (2 : Fin 3) * 1024 + 1 * e.val = e.val; omega

/-! ## The result array -/

/-- `G` of the arguments as launched. -/
abbrev res : Vec Ideal S8x2048x1024 .f32 := G (m ((c : Thread nD τ).loc main_arg0)) (m ((c : Thread nD τ).loc main_arg1))
  (m ((c : Thread nD τ).loc main_arg2)) (m ((c : Thread nD τ).loc main_arg8))

theorem flushed_eq (t : Fin cfg0.N) : (dats m 0 c).flushed 18 t = ((cfg0.win 18).blk t).view.read (Elt Ideal) (res m c) := by
  rw [flushed18]
  funext j
  obtain ⟨r, e, rfl⟩ := ix3_one (b := 512) (d := 1024) j
  show outsAt0 m c t (ix3 0 r e) = res m c (((cfg0.win 18).blk t).view.emb (ix3 0 r e))
  rw [emb18, block_apply]
  simp only [iblk0_apply, iblk1_apply, iblk2_apply, iblk3_apply]
  rfl

theorem covered (i : S8x2048x1024.Idx) : ∃ t : Fin cfg0.N, (cfg0.win 18).flush t = true ∧ i ∈ ((cfg0.win 18).blk t).view.set := by
  have h0 : (i 0).val < 8 := (i 0).isLt
  have h1 : (i 1).val < 2048 := (i 1).isLt
  let t : Fin cfg0.N := ⟨4 * (i 0).val + (i 1).val / 512, by show _ < 32; omega⟩
  let r : Fin 512 := ⟨(i 1).val % 512, by omega⟩
  let e : Fin 1024 := i 2
  refine ⟨t, flush0_18 _, ?_⟩
  have h := ((cfg0.win 18).blk t).view.emb_mem_set (ix3 0 r e)
  rw [emb18 t r e] at h
  refine Eq.mp (congrArg (· ∈ _) (funext fun a => Fin.ext ?_)) h
  match a with
  | ⟨0, _⟩ => show (4 * (i 0).val + (i 1).val / 512) / 4 = (i 0).val; omega
  | ⟨1, _⟩ => show 512 * ((4 * (i 0).val + (i 1).val / 512) % 4) + (i 1).val % 512 = (i 1).val; omega
  | ⟨2, _⟩ => rfl

theorem final : (dats m 0 c).arrAt 18 cfg0.N = res m c :=
  (dats m 0 c).arrAt_eq_of_cover 18 (res m c) (fun t _ => flushed_eq m c t) covered

theorem run : θ_run defs (onTc (τ := τ) (main (F := Ideal))) ⟨m, fun _ => 0, ρ⟩ fun r => ∀ c : Dev nD,
      r.2.mem ((c : Thread nD τ).loc main_v214) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Layer.Gates

/-! ## The reference -/

namespace Cert.Layer.Gates

open Cert.GatesRefIdeal Cert.GatesRefIdeal.Gen Cert.GatesRefIdeal.Read Idealize.ShloMosaic Idealize.ShloMosaic.TcCoe Idealize.SL.Sem

theorem v13_apply (x0 x1 x2) (b : Fin 8) (s : Fin 2048) (c : Fin 2816) : val_main_v13 (F := Ideal) x0 x1 x2 (ix3 b s c)
   = proj (fun k => x0 (ix3 b s k)) (fun k => x1 (ix1 k)) (fun k => x2 (ix2 k c)) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl
theorem v26_apply (x0 x1 x2 x8) (b : Fin 8) (s : Fin 2048) (e : Fin 1024) : val_main_v26 (F := Ideal) x0 x1 x2 x8 (ix3 b s e)
   = gated (fun k => x0 (ix3 b s k)) (fun k => x1 (ix1 k)) (fun k c => x2 (ix2 k c)) (fun k => x8 (ix2 k e)) e := by
  have h := v13_apply x0 x1 x2 b s
  unfold val_main_v26 val_main_v25 val_main_v24 val_main_v22 val_main_v23 val_main_v17 val_main_call0_v5 val_main_call0_v3 val_main_call0_v1 val_main_call0_v0 val_main_v17 val_main_call1_v5 val_main_call1_v3 val_main_call1_v1 val_main_call1_v0 val_main_v21
  generalize val_main_v13 (F := Ideal) x0 x1 x2 = y at h ⊢
  pointwise [val_main_call0_v2, val_main_call0_v4, val_main_call1_v2, val_main_call1_v4, val_main_call0_cst, val_main_call0_cst_0, val_main_call1_cst, val_main_call1_cst_0]
  simp only [h]
  rfl

theorem ref_eq (x0 x1 x2 x8) : val_main_v26 (F := Ideal) x0 x1 x2 x8 = G x0 x1 x2 x8 := by
  funext i
  rw [ix3_eta i]
  exact v26_apply x0 x1 x2 x8 (i 0) (i 1) (i 2)

theorem quiescent_reference : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem algebraic : Cert.algebraic_GatesIdeal_GatesRefIdeal := by
  intro m ρ m' ρ' _ hagree
  refine ⟨_, run m ρ, (θ_run Cert.GatesRefIdeal.defs _ _).mono (fun _ h c => ⟨(h c).1.trans ?_, (h c).2⟩)
    (Cert.GatesRefIdeal.Value.run (F := Ideal) m' ρ')⟩
  obtain ⟨h0, h1, h2, -, -, -, -, -, h8⟩ := hagree c
  rw [val_main_v26_eq, ref_eq, res, ← h0, ← h1, ← h2, ← h8]

end Cert.Layer.Gates

end
-- ==== Proof.RetQkvValue.lean ====
/- The slice of the retention's q, k and v: its result array as one function of the arguments (`G`, `final`), that the
   reference's result is the same function, and so the claim. A grid point writes one block of 512 rows, a load of what
   the scratch store before it left (`outs_eq`); read at an index it is `Layer.proj` of a row (`block_apply`). -/
module

public import proofs.«01_k».proof.Defs
public import proofs.«01_k».proof.Proof.Gen.RetQkvIdeal.Value
public import proofs.«01_k».proof.Proof.Gen.RetQkvRefIdeal.Run
public import proofs.«01_k».proof.Proof.Gen.RetQkvRefIdeal.Read
public import proofs.«01_k».proof.Proof.Layer
public import Idealize.ShloMosaic.Lib.StableHlo.ReadAt
public import Idealize.ShloMosaic.Lib.Pipeline.ValueKit.Tiles

@[expose] public section

set_option maxRecDepth 16384

noncomputable section

namespace Cert.Layer.RetQkv

open Cert.RetQkvIdeal Cert.RetQkvIdeal.Gen Cert.RetQkvIdeal.Value Idealize.ShloMosaic Idealize.ShloMosaic.TcCoe Idealize.SL.Sem

variable (m : (ℓ : Loc nD τ sig) → Buf (Elt Ideal) ℓ) (ρ : Dev nD → PrngReg) (c : Dev nD)

/-- The result array as one function of the argument arrays: 1024 columns of the input projection, from column 0 on. -/
def G (a0 : Vec Ideal S8x2048x1024 .f32) (a1 : Vec Ideal S1024 .f32) (a2 : Vec Ideal S1024x2816 .f32) : Vec Ideal S8x2048x1024 .f32 := fun i =>
  proj (fun k => a0 (ix3 (i 0) (i 1) k)) (fun k => a1 (ix1 k)) (fun k => a2 (ix2 k ⟨(i 2).val, by have h : (i 2).val < 1024 := (i 2).isLt; omega⟩))

/-! ## The kernel's blocks -/

theorem pay1_apply (x0 : Vec Ideal S1x512x1024 .f32) (x1 : Vec Ideal S1x1024 .f32) (x2 : Vec Ideal S1024x2816 .bf16) (r : Fin 512) (e : Fin 2816) :
    k0_pay1 x0 x1 x2 (ix2 r e) = proj (fun k => x0 (ix3 0 r k)) (fun k => x1 (ix2 0 k)) (fun k => x2 (ix2 k e)) := by
  pointwise [k0_pay1]
  rfl

/-- 1024 of the projected columns, from column 0 on. -/
theorem cols_apply (x0 : Vec Ideal S1x512x1024 .f32) (x1 : Vec Ideal S1x1024 .f32) (x2 : Vec Ideal S1024x2816 .f32) (r : Fin 512) (e : Fin 1024) :
    (View.ld (Val := Elt Ideal) (e' := .f32) (k0_pay1 (F := Ideal) x0 x1 x2) (Rect.unit (s := S512x2816) ![0, 0] S512x1024.size inb_S512x2816_S512x1024_0_0) : Vec Ideal S512x1024 .f32) (ix2 r e)
      = proj (fun k => x0 (ix3 0 r k)) (fun k => x1 (ix2 0 k)) (fun k => x2 (ix2 k ⟨e.val, by omega⟩)) := by
  rw [View.ld_unit_apply_of (Val := Elt Ideal) (e := .f32) (S := S512x2816) (k0_pay1 (F := Ideal) x0 x1 x2) ![0, 0] S512x1024.size _ (ix2 r e)
    (ix2 r ⟨e.val, by omega⟩) (fun a => by fin_cases a <;> simp)]
  exact pay1_apply x0 x1 x2 r _

/-- What a point leaves in the output's block. -/
theorem outs_eq (t : Fin cfg0.N) : outsAt0 m c t = k0_pay2 (F := Ideal)
    (View.ld (k0_pay1 (F := Ideal) (iblk m c 0 t) (iblk m c 1 t) (iblk m c 2 t)) (Rect.unit (s := S512x2816) ![0, 0] S512x1024.size inb_S512x2816_S512x1024_0_0)) := by
  unfold outsAt0 out0_A_18 kernelRun0_A
  rw [View.read_writes_junk_eq_canon]
  refine (View.canon_unit_zero hz3 _ _).trans ?_
  unfold kernelRun0_A.sl.v23 kernelRun0_A.sl.HS0_1
  rw [readCov_eq_ld, View.canon_unit_zero hz2]
  simp only [View.readAt_eq_ld, Memref.IsWhole.read_unread]
  rw [View.ld_unit_zero (S := S1x512x1024) hz3, View.ld_unit_zero (S := S1x1024) hz2, View.ld_unit_zero (S := S1024x2816) hz2]

/-- What a point leaves in the output's block, at an index. -/
theorem block_apply (t : Fin cfg0.N) (r : Fin 512) (e : Fin 1024) : outsAt0 m c t (ix3 0 r e)
    = proj (fun k => iblk m c 0 t (ix3 0 r k)) (fun k => iblk m c 1 t (ix2 0 k)) (fun k => iblk m c 2 t (ix2 k ⟨e.val, by omega⟩)) := by
  rw [outs_eq]
  generalize iblk m c 0 t = x0, iblk m c 1 t = x1, iblk m c 2 t = x2
  have h := cols_apply x0 x1 x2 r e
  generalize View.ld (Val := Elt Ideal) (e' := .f32) (k0_pay1 (F := Ideal) x0 x1 x2) (Rect.unit (s := S512x2816) ![0, 0] S512x1024.size inb_S512x2816_S512x1024_0_0) = y at h ⊢
  pointwise [k0_pay2]
  exact h

/-! ## The windows -/

theorem V1 (k : Fin 1024) : V m c main_v202 (ix2 0 k) = m ((c : Thread nD τ).loc main_arg1) (ix1 k) := by
  unfold V
  after_reads_at

theorem V2 (k : Fin 1024) (e : Fin 2816) : V m c main_v203 (ix2 k e) = m ((c : Thread nD τ).loc main_arg2) (ix2 k e) := by
  unfold V
  after_reads_at

/-- The block indices at a point: the point's batch and tile for the rows, zero for the weights. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx18 : ∀ t : Fin cfg0.N, win0_18.index t (0 : Fin 3) = t.val / 4 ∧ win0_18.index t (1 : Fin 3) = t.val % 4 ∧ win0_18.index t (2 : Fin 3) = 0 :=
  (by decide +kernel : ∀ t : Fin grid0.N, _)

theorem iblk0_apply (t : Fin cfg0.N) (r : Fin 512) (k : Fin 1024) :
    iblk m c 0 t (ix3 0 r k) = m ((c : Thread nD τ).loc main_arg0) (ix3 (bat t) (row t r) k) := by
  rw [← V_main_arg0 m c]
  obtain ⟨e0, e1, e2⟩ := idx0 t
  show V m c main_arg0 (((cfg0.win 0).blk t).view.emb (ix3 0 r k)) = _
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * k.val = k.val; omega

theorem iblk1_apply (t : Fin cfg0.N) (k : Fin 1024) : iblk m c 1 t (ix2 0 k) = m ((c : Thread nD τ).loc main_arg1) (ix1 k) := by
  rw [← V1 m c]
  obtain ⟨e0, e1⟩ := idx1 t
  show V m c main_v202 (((cfg0.win 1).blk t).view.emb (ix2 0 k)) = _
  congr 1; funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk2_apply (t : Fin cfg0.N) (k : Fin 1024) (e : Fin 2816) : iblk m c 2 t (ix2 k e) = m ((c : Thread nD τ).loc main_arg2) (ix2 k e) := by
  rw [← V2 m c]
  obtain ⟨e0, e1⟩ := idx2 t
  show V m c main_v203 (((cfg0.win 2).blk t).view.emb (ix2 k e)) = _
  congr 1; funext a; apply Fin.ext
  match a with
  | ⟨0, _⟩ => show win0_2.index t (0 : Fin 2) * 1024 + 1 * k.val = k.val; omega
  | ⟨1, _⟩ => show win0_2.index t (1 : Fin 2) * 2816 + 1 * e.val = e.val; omega

theorem emb18 (t : Fin cfg0.N) (r : Fin 512) (e : Fin 1024) :
    ((cfg0.win 18).blk t).view.emb (ix3 0 r e) = ix3 (bat t) (row t r) e := by
  obtain ⟨e0, e1, e2⟩ := idx18 t
  funext a; apply Fin.ext
  match a with
  | ⟨0, _⟩ => show win0_18.index t (0 : Fin 3) * 1 + 1 * 0 = t.val / 4; omega
  | ⟨1, _⟩ => show win0_18.index t (1 : Fin 3) * 512 + 1 * r.val = 512 * (t.val % 4) + r.val; omega
  | ⟨2, _⟩ => show win0_18.index t (2 : Fin 3) * 1024 + 1 * e.val = e.val; omega

/-! ## The result array -/

/-- `G` of the arguments as launched. -/
abbrev res : Vec Ideal S8x2048x1024 .f32 := G (m ((c : Thread nD τ).loc main_arg0)) (m ((c : Thread nD τ).loc main_arg1))
  (m ((c : Thread nD τ).loc main_arg2))

theorem flushed_eq (t : Fin cfg0.N) : (dats m 0 c).flushed 18 t = ((cfg0.win 18).blk t).view.read (Elt Ideal) (res m c) := by
  rw [flushed18]
  funext j
  obtain ⟨r, e, rfl⟩ := ix3_one (b := 512) (d := 1024) j
  show outsAt0 m c t (ix3 0 r e) = res m c (((cfg0.win 18).blk t).view.emb (ix3 0 r e))
  rw [emb18, block_apply]
  simp only [iblk0_apply, iblk1_apply, iblk2_apply]
  rfl

theorem covered (i : S8x2048x1024.Idx) : ∃ t : Fin cfg0.N, (cfg0.win 18).flush t = true ∧ i ∈ ((cfg0.win 18).blk t).view.set := by
  have h0 : (i 0).val < 8 := (i 0).isLt
  have h1 : (i 1).val < 2048 := (i 1).isLt
  let t : Fin cfg0.N := ⟨4 * (i 0).val + (i 1).val / 512, by show _ < 32; omega⟩
  let r : Fin 512 := ⟨(i 1).val % 512, by omega⟩
  let e : Fin 1024 := i 2
  refine ⟨t, flush0_18 _, ?_⟩
  have h := ((cfg0.win 18).blk t).view.emb_mem_set (ix3 0 r e)
  rw [emb18 t r e] at h
  refine Eq.mp (congrArg (· ∈ _) (funext fun a => Fin.ext ?_)) h
  match a with
  | ⟨0, _⟩ => show (4 * (i 0).val + (i 1).val / 512) / 4 = (i 0).val; omega
  | ⟨1, _⟩ => show 512 * ((4 * (i 0).val + (i 1).val / 512) % 4) + (i 1).val % 512 = (i 1).val; omega
  | ⟨2, _⟩ => rfl

theorem final : (dats m 0 c).arrAt 18 cfg0.N = res m c :=
  (dats m 0 c).arrAt_eq_of_cover 18 (res m c) (fun t _ => flushed_eq m c t) covered

theorem run : θ_run defs (onTc (τ := τ) (main (F := Ideal))) ⟨m, fun _ => 0, ρ⟩ fun r => ∀ c : Dev nD,
      r.2.mem ((c : Thread nD τ).loc main_v214) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Layer.RetQkv

/-! ## The reference -/

namespace Cert.Layer.RetQkv

open Cert.RetQkvRefIdeal Cert.RetQkvRefIdeal.Gen Cert.RetQkvRefIdeal.Read Idealize.ShloMosaic Idealize.ShloMosaic.TcCoe Idealize.SL.Sem

theorem v13_apply (x0 x1 x2) (b : Fin 8) (s : Fin 2048) (c : Fin 2816) : val_main_v13 (F := Ideal) x0 x1 x2 (ix3 b s c)
   = proj (fun k => x0 (ix3 b s k)) (fun k => x1 (ix1 k)) (fun k => x2 (ix2 k c)) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl
theorem ref_eq (x0 x1 x2) : val_main_v14 (F := Ideal) x0 x1 x2 = G x0 x1 x2 := by
  funext i
  rw [ix3_eta i]
  have h := v13_apply x0 x1 x2 (i 0) (i 1)
  unfold val_main_v14 G
  generalize val_main_v13 (F := Ideal) x0 x1 x2 = y at h ⊢
  generalize i 0 = b, i 1 = s, i 2 = e at h ⊢
  pointwise []
  rw [h]

theorem quiescent_reference : Cert.quiescent_RetQkvRefIdeal := fun m ρ _ =>
  (θ_run Cert.RetQkvRefIdeal.defs _ _).mono (fun r h => ⟨fun c => (h c).2, sem_eq_zero_of_no_sems (by decide) r.2⟩)
    (Cert.RetQkvRefIdeal.Value.run (F := Ideal) m ρ)

theorem algebraic : Cert.algebraic_RetQkvIdeal_RetQkvRefIdeal := by
  intro m ρ m' ρ' _ hagree
  refine ⟨_, run m ρ, (θ_run Cert.RetQkvRefIdeal.defs _ _).mono (fun _ h c => ⟨(h c).1.trans ?_, (h c).2⟩)
    (Cert.RetQkvRefIdeal.Value.run (F := Ideal) m' ρ')⟩
  obtain ⟨h0, h1, h2, -⟩ := hagree c
  rw [val_main_v14_eq, ref_eq, res, ← h0, ← h1, ← h2]

end Cert.Layer.RetQkv

end
-- ==== Proof.SwaQkvValue.lean ====
/- The slice of the attention's q, k and v: its result array as one function of the arguments (`G`, `final`), that the
   reference's result is the same function, and so the claim. A grid point writes one block of 512 rows, a load of what
   the scratch store before it left (`outs_eq`); read at an index it is `Layer.proj` of a row (`block_apply`). -/
module

public import proofs.«01_k».proof.Defs
public import proofs.«01_k».proof.Proof.Gen.SwaQkvIdeal.Value
public import proofs.«01_k».proof.Proof.Gen.SwaQkvRefIdeal.Run
public import proofs.«01_k».proof.Proof.Gen.SwaQkvRefIdeal.Read
public import proofs.«01_k».proof.Proof.Layer
public import Idealize.ShloMosaic.Lib.StableHlo.ReadAt
public import Idealize.ShloMosaic.Lib.Pipeline.ValueKit.Tiles

@[expose] public section

set_option maxRecDepth 16384

noncomputable section

namespace Cert.Layer.SwaQkv

open Cert.SwaQkvIdeal Cert.SwaQkvIdeal.Gen Cert.SwaQkvIdeal.Value Idealize.ShloMosaic Idealize.ShloMosaic.TcCoe Idealize.SL.Sem

variable (m : (ℓ : Loc nD τ sig) → Buf (Elt Ideal) ℓ) (ρ : Dev nD → PrngReg) (c : Dev nD)

/-- The result array as one function of the argument arrays: 1024 columns of the input projection, from column 1280 on. -/
def G (a0 : Vec Ideal S8x2048x1024 .f32) (a1 : Vec Ideal S1024 .f32) (a2 : Vec Ideal S1024x2816 .f32) : Vec Ideal S8x2048x1024 .f32 := fun i =>
  proj (fun k => a0 (ix3 (i 0) (i 1) k)) (fun k => a1 (ix1 k)) (fun k => a2 (ix2 k ⟨1280 + (i 2).val, by have h : (i 2).val < 1024 := (i 2).isLt; omega⟩))

/-! ## The kernel's blocks -/

theorem pay1_apply (x0 : Vec Ideal S1x512x1024 .f32) (x1 : Vec Ideal S1x1024 .f32) (x2 : Vec Ideal S1024x2816 .bf16) (r : Fin 512) (e : Fin 2816) :
    k0_pay1 x0 x1 x2 (ix2 r e) = proj (fun k => x0 (ix3 0 r k)) (fun k => x1 (ix2 0 k)) (fun k => x2 (ix2 k e)) := by
  pointwise [k0_pay1]
  rfl

/-- 1024 of the projected columns, from column 1280 on. -/
theorem cols_apply (x0 : Vec Ideal S1x512x1024 .f32) (x1 : Vec Ideal S1x1024 .f32) (x2 : Vec Ideal S1024x2816 .f32) (r : Fin 512) (e : Fin 1024) :
    (View.ld (Val := Elt Ideal) (e' := .f32) (k0_pay1 (F := Ideal) x0 x1 x2) (Rect.unit (s := S512x2816) ![0, 1280] S512x1024.size inb_S512x2816_S512x1024_0_1280) : Vec Ideal S512x1024 .f32) (ix2 r e)
      = proj (fun k => x0 (ix3 0 r k)) (fun k => x1 (ix2 0 k)) (fun k => x2 (ix2 k ⟨1280 + e.val, by omega⟩)) := by
  rw [View.ld_unit_apply_of (Val := Elt Ideal) (e := .f32) (S := S512x2816) (k0_pay1 (F := Ideal) x0 x1 x2) ![0, 1280] S512x1024.size _ (ix2 r e)
    (ix2 r ⟨1280 + e.val, by omega⟩) (fun a => by fin_cases a <;> simp)]
  exact pay1_apply x0 x1 x2 r _

/-- What a point leaves in the output's block. -/
theorem outs_eq (t : Fin cfg0.N) : outsAt0 m c t = k0_pay2 (F := Ideal)
    (View.ld (k0_pay1 (F := Ideal) (iblk m c 0 t) (iblk m c 1 t) (iblk m c 2 t)) (Rect.unit (s := S512x2816) ![0, 1280] S512x1024.size inb_S512x2816_S512x1024_0_1280)) := by
  unfold outsAt0 out0_A_18 kernelRun0_A
  rw [View.read_writes_junk_eq_canon]
  refine (View.canon_unit_zero hz3 _ _).trans ?_
  unfold kernelRun0_A.sl.v23 kernelRun0_A.sl.HS0_1
  rw [readCov_eq_ld, View.canon_unit_zero hz2]
  simp only [View.readAt_eq_ld, Memref.IsWhole.read_unread]
  rw [View.ld_unit_zero (S := S1x512x1024) hz3, View.ld_unit_zero (S := S1x1024) hz2, View.ld_unit_zero (S := S1024x2816) hz2]

/-- What a point leaves in the output's block, at an index. -/
theorem block_apply (t : Fin cfg0.N) (r : Fin 512) (e : Fin 1024) : outsAt0 m c t (ix3 0 r e)
    = proj (fun k => iblk m c 0 t (ix3 0 r k)) (fun k => iblk m c 1 t (ix2 0 k)) (fun k => iblk m c 2 t (ix2 k ⟨1280 + e.val, by omega⟩)) := by
  rw [outs_eq]
  generalize iblk m c 0 t = x0, iblk m c 1 t = x1, iblk m c 2 t = x2
  have h := cols_apply x0 x1 x2 r e
  generalize View.ld (Val := Elt Ideal) (e' := .f32) (k0_pay1 (F := Ideal) x0 x1 x2) (Rect.unit (s := S512x2816) ![0, 1280] S512x1024.size inb_S512x2816_S512x1024_0_1280) = y at h ⊢
  pointwise [k0_pay2]
  exact h

/-! ## The windows -/

theorem V1 (k : Fin 1024) : V m c main_v202 (ix2 0 k) = m ((c : Thread nD τ).loc main_arg1) (ix1 k) := by
  unfold V
  after_reads_at

theorem V2 (k : Fin 1024) (e : Fin 2816) : V m c main_v203 (ix2 k e) = m ((c : Thread nD τ).loc main_arg2) (ix2 k e) := by
  unfold V
  after_reads_at

/-- The block indices at a point: the point's batch and tile for the rows, zero for the weights. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx18 : ∀ t : Fin cfg0.N, win0_18.index t (0 : Fin 3) = t.val / 4 ∧ win0_18.index t (1 : Fin 3) = t.val % 4 ∧ win0_18.index t (2 : Fin 3) = 0 :=
  (by decide +kernel : ∀ t : Fin grid0.N, _)

theorem iblk0_apply (t : Fin cfg0.N) (r : Fin 512) (k : Fin 1024) :
    iblk m c 0 t (ix3 0 r k) = m ((c : Thread nD τ).loc main_arg0) (ix3 (bat t) (row t r) k) := by
  rw [← V_main_arg0 m c]
  obtain ⟨e0, e1, e2⟩ := idx0 t
  show V m c main_arg0 (((cfg0.win 0).blk t).view.emb (ix3 0 r k)) = _
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * k.val = k.val; omega

theorem iblk1_apply (t : Fin cfg0.N) (k : Fin 1024) : iblk m c 1 t (ix2 0 k) = m ((c : Thread nD τ).loc main_arg1) (ix1 k) := by
  rw [← V1 m c]
  obtain ⟨e0, e1⟩ := idx1 t
  show V m c main_v202 (((cfg0.win 1).blk t).view.emb (ix2 0 k)) = _
  congr 1; funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk2_apply (t : Fin cfg0.N) (k : Fin 1024) (e : Fin 2816) : iblk m c 2 t (ix2 k e) = m ((c : Thread nD τ).loc main_arg2) (ix2 k e) := by
  rw [← V2 m c]
  obtain ⟨e0, e1⟩ := idx2 t
  show V m c main_v203 (((cfg0.win 2).blk t).view.emb (ix2 k e)) = _
  congr 1; funext a; apply Fin.ext
  match a with
  | ⟨0, _⟩ => show win0_2.index t (0 : Fin 2) * 1024 + 1 * k.val = k.val; omega
  | ⟨1, _⟩ => show win0_2.index t (1 : Fin 2) * 2816 + 1 * e.val = e.val; omega

theorem emb18 (t : Fin cfg0.N) (r : Fin 512) (e : Fin 1024) :
    ((cfg0.win 18).blk t).view.emb (ix3 0 r e) = ix3 (bat t) (row t r) e := by
  obtain ⟨e0, e1, e2⟩ := idx18 t
  funext a; apply Fin.ext
  match a with
  | ⟨0, _⟩ => show win0_18.index t (0 : Fin 3) * 1 + 1 * 0 = t.val / 4; omega
  | ⟨1, _⟩ => show win0_18.index t (1 : Fin 3) * 512 + 1 * r.val = 512 * (t.val % 4) + r.val; omega
  | ⟨2, _⟩ => show win0_18.index t (2 : Fin 3) * 1024 + 1 * e.val = e.val; omega

/-! ## The result array -/

/-- `G` of the arguments as launched. -/
abbrev res : Vec Ideal S8x2048x1024 .f32 := G (m ((c : Thread nD τ).loc main_arg0)) (m ((c : Thread nD τ).loc main_arg1))
  (m ((c : Thread nD τ).loc main_arg2))

theorem flushed_eq (t : Fin cfg0.N) : (dats m 0 c).flushed 18 t = ((cfg0.win 18).blk t).view.read (Elt Ideal) (res m c) := by
  rw [flushed18]
  funext j
  obtain ⟨r, e, rfl⟩ := ix3_one (b := 512) (d := 1024) j
  show outsAt0 m c t (ix3 0 r e) = res m c (((cfg0.win 18).blk t).view.emb (ix3 0 r e))
  rw [emb18, block_apply]
  simp only [iblk0_apply, iblk1_apply, iblk2_apply]
  rfl

theorem covered (i : S8x2048x1024.Idx) : ∃ t : Fin cfg0.N, (cfg0.win 18).flush t = true ∧ i ∈ ((cfg0.win 18).blk t).view.set := by
  have h0 : (i 0).val < 8 := (i 0).isLt
  have h1 : (i 1).val < 2048 := (i 1).isLt
  let t : Fin cfg0.N := ⟨4 * (i 0).val + (i 1).val / 512, by show _ < 32; omega⟩
  let r : Fin 512 := ⟨(i 1).val % 512, by omega⟩
  let e : Fin 1024 := i 2
  refine ⟨t, flush0_18 _, ?_⟩
  have h := ((cfg0.win 18).blk t).view.emb_mem_set (ix3 0 r e)
  rw [emb18 t r e] at h
  refine Eq.mp (congrArg (· ∈ _) (funext fun a => Fin.ext ?_)) h
  match a with
  | ⟨0, _⟩ => show (4 * (i 0).val + (i 1).val / 512) / 4 = (i 0).val; omega
  | ⟨1, _⟩ => show 512 * ((4 * (i 0).val + (i 1).val / 512) % 4) + (i 1).val % 512 = (i 1).val; omega
  | ⟨2, _⟩ => rfl

theorem final : (dats m 0 c).arrAt 18 cfg0.N = res m c :=
  (dats m 0 c).arrAt_eq_of_cover 18 (res m c) (fun t _ => flushed_eq m c t) covered

theorem run : θ_run defs (onTc (τ := τ) (main (F := Ideal))) ⟨m, fun _ => 0, ρ⟩ fun r => ∀ c : Dev nD,
      r.2.mem ((c : Thread nD τ).loc main_v214) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Layer.SwaQkv

/-! ## The reference -/

namespace Cert.Layer.SwaQkv

open Cert.SwaQkvRefIdeal Cert.SwaQkvRefIdeal.Gen Cert.SwaQkvRefIdeal.Read Idealize.ShloMosaic Idealize.ShloMosaic.TcCoe Idealize.SL.Sem

theorem v13_apply (x0 x1 x2) (b : Fin 8) (s : Fin 2048) (c : Fin 2816) : val_main_v13 (F := Ideal) x0 x1 x2 (ix3 b s c)
   = proj (fun k => x0 (ix3 b s k)) (fun k => x1 (ix1 k)) (fun k => x2 (ix2 k c)) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl
theorem ref_eq (x0 x1 x2) : val_main_v14 (F := Ideal) x0 x1 x2 = G x0 x1 x2 := by
  funext i
  rw [ix3_eta i]
  have h := v13_apply x0 x1 x2 (i 0) (i 1)
  unfold val_main_v14 G
  generalize val_main_v13 (F := Ideal) x0 x1 x2 = y at h ⊢
  generalize i 0 = b, i 1 = s, i 2 = e at h ⊢
  pointwise []
  rw [h]

theorem quiescent_reference : Cert.quiescent_SwaQkvRefIdeal := fun m ρ _ =>
  (θ_run Cert.SwaQkvRefIdeal.defs _ _).mono (fun r h => ⟨fun c => (h c).2, sem_eq_zero_of_no_sems (by decide) r.2⟩)
    (Cert.SwaQkvRefIdeal.Value.run (F := Ideal) m ρ)

theorem algebraic : Cert.algebraic_SwaQkvIdeal_SwaQkvRefIdeal := by
  intro m ρ m' ρ' _ hagree
  refine ⟨_, run m ρ, (θ_run Cert.SwaQkvRefIdeal.defs _ _).mono (fun _ h c => ⟨(h c).1.trans ?_, (h c).2⟩)
    (Cert.SwaQkvRefIdeal.Value.run (F := Ideal) m' ρ')⟩
  obtain ⟨h0, h1, h2, -⟩ := hagree c
  rw [val_main_v14_eq, ref_eq, res, ← h0, ← h1, ← h2]

end Cert.Layer.SwaQkv

end
-- ==== Proof.RetentionSpec.lean ====
/- What the retention heads compute, over the extended reals, as plain functions of one batch's projected rows and of the
   tables of positions and decays: rotated queries and keys, the state after each chunk of 128 tokens, the output of a
   token, its group norm and gate. The kernel's blocks and the reference's whole arrays are both read into them. -/
module

public import proofs.«01_k».proof.Proof.Layer

@[expose] public section

noncomputable section

namespace Cert.Layer

open Idealize.ShloMosaic

/-- The tables: cosine and sine of a position's angles, the decay inside a chunk, the decays from a key to the chunk's end
    and from its start to a query, and a whole chunk's. -/
structure Tables where
  cos : Fin 2048 → Fin 32 → EReal
  sin : Fin 2048 → Fin 32 → EReal
  dec : Fin 4 → Fin 128 → Fin 128 → EReal
  zeta : Fin 4 → Fin 128 → EReal
  xi : Fin 4 → Fin 128 → EReal
  cd : Fin 4 → EReal

/-- Token `j` of chunk `n`. -/
def tok (n : ℕ) (j : Fin 128) : Fin 2048 := ⟨(128 * n + j.val) % 2048, by omega⟩

/-- One element of a head's row, rotated by its position's angles, the halves of the row paired. -/
def rotated (T : Tables) (s : Fin 2048) (u : Fin 64 → EReal) (d : Fin 64) : EReal :=
  if h : d.val < 32 then u d * T.cos s ⟨d.val, h⟩ - u ⟨32 + d.val, by omega⟩ * T.sin s ⟨d.val, h⟩
  else u ⟨d.val - 32, by omega⟩ * T.sin s ⟨d.val - 32, by omega⟩ + u d * T.cos s ⟨d.val - 32, by omega⟩

variable (T : Tables) (P : Fin 2048 → Fin 2816 → EReal)

/-- The query of head `h` at token `s`. -/
def query (h : Fin 4) (s : Fin 2048) (d : Fin 64) : EReal := rotated T s (fun d => P s ⟨64 * h.val + d.val, by omega⟩) d

/-- The key of head `h` at token `s`, before its scale. -/
def key (h : Fin 4) (s : Fin 2048) (d : Fin 64) : EReal := rotated T s (fun d => P s ⟨256 + (64 * h.val + d.val), by omega⟩) d

/-- The value of head `h` at token `s`. -/
def value (h : Fin 4) (s : Fin 2048) (e : Fin 128) : EReal := P s ⟨512 + (128 * h.val + e.val), by omega⟩

/-- The keys' scale, an eighth. -/
def scale : EReal := Ideal.ofBits .f32 0x3E000000#32

/-- What chunk `n` adds to the state. -/
def added (h : Fin 4) (n : ℕ) (d : Fin 64) (e : Fin 128) : EReal :=
  ∑ j, key T P h (tok n j) d * scale * T.zeta h j * value P h (tok n j) e

/-- The state before chunk `n`. -/
def state (h : Fin 4) : ℕ → Fin 64 → Fin 128 → EReal
  | 0 => fun _ _ => 0
  | n + 1 => fun d e => T.cd h * state h n d e + added T P h n d e

/-- The output of token `i` of chunk `n`: what the chunk's own keys give and what the state gives. -/
def retained (h : Fin 4) (n : ℕ) (i : Fin 128) (e : Fin 128) : EReal :=
  (∑ j, (∑ d, query T P h (tok n i) d * (key T P h (tok n j) d * scale)) * T.dec h i j * value P h (tok n j) e)
    + ∑ d, query T P h (tok n i) d * T.xi h i * state T P h n d e

/-- A row less its mean. -/
def centred (o : Fin 128 → EReal) (e : Fin 128) : EReal := o e - Ideal.div (∑ j, o j) (Ideal.ofBits .f32 0x43000000#32)

/-- One element of a row's group norm. -/
def grouped (o : Fin 128 → EReal) (e : Fin 128) : EReal :=
  centred o e * Ideal.rsqrt (Ideal.div (∑ j, centred o j * centred o j) (Ideal.ofBits .f32 0x43000000#32) + Ideal.ofBits .f32 0x3727C5AC#32)

/-- One element of the mixed row: the head's normalised output, its weight, and the gate. -/
def mixed (w : Fin 512 → EReal) (n : ℕ) (i : Fin 128) (h : Fin 4) (e : Fin 128) : EReal :=
  grouped (retained T P h n i) e * w ⟨128 * h.val + e.val, by omega⟩ * silu (P (tok n i) ⟨1024 + (128 * h.val + e.val), by omega⟩)

end Cert.Layer

end
-- ==== Proof.RetentionTrip.lean ====
/- One trip of the retention kernel's loop over the extended reals: what its payloads are at an index, from what the trip
   loads. A pair of heads shares the 128 lanes of a slab, head `j` of the pair the lanes `64 j` and on. -/
module

public import proofs.«01_k».proof.Proof.Gen.RetentionIdeal.Skeleton
public import proofs.«01_k».proof.Proof.RetentionSpec

@[expose] public section

set_option maxRecDepth 16384

noncomputable section

namespace Cert.Layer.Retention

open Cert.RetentionIdeal Cert.RetentionIdeal.Gen Idealize.ShloMosaic

/-- Lane `d` of the pair's head `j`. -/
def lane (j : Fin 2) (d : Fin 64) : Fin 128 := ⟨64 * j.val + d.val, by omega⟩

theorem sum_lanes (f : Fin 128 → EReal) : ∑ l, f l = ∑ d, f (lane 0 d) + ∑ d, f (lane 1 d) := by
  refine (Fin.sum_univ_add (a := 64) (b := 64) f).trans (congrArg₂ (· + ·) (Finset.sum_congr rfl fun d _ => congrArg f (Fin.ext ?_)) (Finset.sum_congr rfl fun d _ => congrArg f (Fin.ext ?_)))
  · simp [lane]
  · simp [lane, Nat.add_comm]

/-- A sum over the lanes that a mask keeps for the first head, and for the second. -/
theorem sum_first {m : Fin 128 → BitVec 1} (h0 : ∀ d, m (lane 0 d) = 1#1) (h1 : ∀ d, m (lane 1 d) = 0#1) (f : Fin 128 → EReal) :
    ∑ l, Scalar.select (m l) (f l) 0 = ∑ d, f (lane 0 d) := by
  rw [sum_lanes]
  simp only [h0, h1]
  exact (congrArg (_ + ·) Finset.sum_const_zero).trans (add_zero _)

theorem sum_second {m : Fin 128 → BitVec 1} (h0 : ∀ d, m (lane 0 d) = 1#1) (h1 : ∀ d, m (lane 1 d) = 0#1) (f : Fin 128 → EReal) :
    ∑ l, Scalar.select (m l) 0 (f l) = ∑ d, f (lane 1 d) := by
  rw [sum_lanes]
  simp only [h0, h1]
  exact (congrArg (· + _) Finset.sum_const_zero).trans (zero_add _)

theorem scale_eq : scale = ((1 / 8 : ℝ) : EReal) := by
  unfold scale
  simp [Ideal.ofBits, Ideal.ieee]
  rw [← EReal.coe_mul]
  norm_num

theorem sum_scale {n : ℕ} (f : Fin n → EReal) : (∑ d, f d) * scale = ∑ d, f d * scale := by
  have h0 : (0 : EReal) ≤ scale := by rw [scale_eq]; exact_mod_cast (by norm_num : (0 : ℝ) ≤ 1 / 8)
  have h1 : scale ≠ ⊤ := by rw [scale_eq]; exact EReal.coe_ne_top _
  induction (Finset.univ : Finset (Fin n)) using Finset.cons_induction with
  | empty => simp
  | cons a t ha ih => rw [Finset.sum_cons, Finset.sum_cons, EReal.right_distrib_of_nonneg_of_ne_top h0 h1, ih]

/-! ## The payloads at an index -/

theorem pay6_apply (c a b u : Vec Ideal S128x128 .f32) (i l : Fin 128) : k0_pay6 c a b u (ix2 i l)
    = u (ix2 i l) * c (ix2 i l) + u (ix2 i ⟨(l.val + 128 - 96) % 128, by omega⟩) * a (ix2 i l) + u (ix2 i ⟨(l.val + 128 - 32) % 128, by omega⟩) * b (ix2 i l) := by
  pointwise [k0_pay6, k0_pay3, k0_pay4, k0_pay5]

theorem pay9_apply0 (v28 : IVec S128x128 1) (c a b u w : Vec Ideal S128x128 .f32) (i j : Fin 128) : k0_pay9 v28 c a b u w (ix2 i ⟨j.val, by omega⟩)
    = ∑ l, Scalar.select (v28 (ix2 j l)) (k0_pay6 c a b u (ix2 i l) * k0_pay7 c a b w (ix2 j l)) 0 := by
  pointwise [k0_pay9]

theorem pay9_apply1 (v28 : IVec S128x128 1) (c a b u w : Vec Ideal S128x128 .f32) (i j : Fin 128) : k0_pay9 v28 c a b u w (ix2 i ⟨128 + j.val, by omega⟩)
    = ∑ l, Scalar.select (v28 (ix2 j l)) 0 (k0_pay6 c a b u (ix2 i l) * k0_pay7 c a b w (ix2 j l)) := by
  pointwise [k0_pay9]

theorem pay15_apply (v28 : IVec S128x128 1) (q : Vec Ideal S128x128 .f32) (v : Vec Ideal S128x256 .f32) (s : Vec Ideal S128x256 .f32)
    (d st : Vec Ideal S1x128x256 .f32) (xi : Vec Ideal S1x128x128 .f32) (i e : Fin 128) :
    k0_pay15 v28 q (k0_pay8 v) s (k0_pay10 d) st xi (ix2 i e)
      = ∑ j : Fin 128, s (ix2 i ⟨j.val, by omega⟩) * d (ix3 0 i ⟨j.val, by omega⟩) * v (ix2 j ⟨e.val, by omega⟩)
        + ∑ l, Scalar.select (v28 (ix2 i l)) (q (ix2 i l) * xi (ix3 0 i l) * st (ix3 0 l ⟨e.val, by omega⟩)) 0 := by
  pointwise [k0_pay15, k0_pay11, k0_pay13, k0_pay14, k0_pay12, k0_pay8, k0_pay10]

theorem pay16_apply (v28 : IVec S128x128 1) (q : Vec Ideal S128x128 .f32) (v : Vec Ideal S128x256 .f32) (s : Vec Ideal S128x256 .f32)
    (d st : Vec Ideal S1x128x256 .f32) (xi : Vec Ideal S1x128x128 .f32) (i e : Fin 128) :
    k0_pay16 v28 q (k0_pay8 v) s (k0_pay10 d) st xi (ix2 i e)
      = ∑ j : Fin 128, s (ix2 i ⟨128 + j.val, by omega⟩) * d (ix3 0 i ⟨128 + j.val, by omega⟩) * v (ix2 j ⟨128 + e.val, by omega⟩)
        + ∑ l, Scalar.select (v28 (ix2 i l)) 0 (q (ix2 i l) * xi (ix3 0 i l) * st (ix3 0 l ⟨128 + e.val, by omega⟩)) := by
  pointwise [k0_pay16, k0_pay11, k0_pay13, k0_pay14, k0_pay12, k0_pay8, k0_pay10]

theorem pay17_apply (k : Vec Ideal S128x128 .f32) (v : Vec Ideal S128x256 .f32) (st : Vec Ideal S1x128x256 .f32) (z : Vec Ideal S1x128x128 .f32)
    (cd : Vec Ideal S1x1x256 .f32) (l : Fin 128) (e : Fin 256) : k0_pay17 k (k0_pay8 v) st z cd (ix3 0 l e)
      = st (ix3 0 l e) * cd (ix3 0 0 e) + ∑ x, k (ix2 x l) * z (ix3 0 x l) * v (ix2 x e) := by
  pointwise [k0_pay17, k0_pay12, k0_pay8]

theorem pay18_apply (o : Vec Ideal S128x128 .f32) (w : Vec Ideal S1x128 .f32) (g : Vec Ideal S128x128 .f32) (i e : Fin 128) :
    k0_pay18 o w g (ix2 i e) = grouped (fun e => o (ix2 i e)) e * w (ix2 0 e) * silu (g (ix2 i e)) := by
  pointwise [k0_pay18]
  rfl

/-! ## A pair of heads -/

/-- Head `j` of pair `p`. -/
def head (p j : Fin 2) : Fin 4 := ⟨2 * p.val + j.val, by omega⟩

/-- Column `e` of head `j` in the pair's 256 value columns. -/
def vcol (j : Fin 2) (e : Fin 128) : Fin 256 := ⟨128 * j.val + e.val, by omega⟩

/-- The tables' lanes a trip loads for chunk `n`: cosines, and sines with their sign and mask. -/
structure Angles (T : Tables) (n : ℕ) (c a b : Vec Ideal S128x128 .f32) : Prop where
  cos : ∀ i j d, c (ix2 i (lane j d)) = T.cos (tok n i) ⟨d.val % 32, by omega⟩
  sinLo : ∀ i j d, (h : d.val < 32) → a (ix2 i (lane j d)) = -T.sin (tok n i) ⟨d.val, h⟩
  zeroLo : ∀ i j d, ¬ d.val < 32 → a (ix2 i (lane j d)) = 0
  zeroHi : ∀ i j d, d.val < 32 → b (ix2 i (lane j d)) = 0
  sinHi : ∀ i j d, (h : ¬ d.val < 32) → b (ix2 i (lane j d)) = T.sin (tok n i) ⟨d.val - 32, by omega⟩

/-- What a trip loads for pair `p` of chunk `n`. -/
structure Loads (T : Tables) (P : Fin 2048 → Fin 2816 → EReal) (n : ℕ) (p : Fin 2) (u w : Vec Ideal S128x128 .f32) (v : Vec Ideal S128x256 .f32)
    (dec : Vec Ideal S1x128x256 .f32) (xi zeta : Vec Ideal S1x128x128 .f32) (cd : Vec Ideal S1x1x256 .f32) : Prop where
  u : ∀ i (l : Fin 128), u (ix2 i l) = P (tok n i) ⟨128 * p.val + l.val, by omega⟩
  w : ∀ i (l : Fin 128), w (ix2 i l) = P (tok n i) ⟨256 + (128 * p.val + l.val), by omega⟩
  v : ∀ i (e : Fin 256), v (ix2 i e) = P (tok n i) ⟨512 + (256 * p.val + e.val), by omega⟩
  dec : ∀ j i i', dec (ix3 0 i (vcol j i')) = T.dec (head p j) i i' * scale
  xi : ∀ j i d, xi (ix3 0 i (lane j d)) = T.xi (head p j) i
  zeta : ∀ j i d, zeta (ix3 0 i (lane j d)) = T.zeta (head p j) i * scale
  cd : ∀ j e, cd (ix3 0 0 (vcol j e)) = T.cd (head p j)

/-- The state's block of pair `p` holds, for each head of the pair, the head's state before chunk `n` in the block its
    lanes and its columns share. -/
def Holds (T : Tables) (P : Fin 2048 → Fin 2816 → EReal) (n : ℕ) (p : Fin 2) (st : Vec Ideal S1x128x256 .f32) : Prop :=
  ∀ j d e, st (ix3 0 (lane j d) (vcol j e)) = state T P (head p j) n d e

variable {T : Tables} {P : Fin 2048 → Fin 2816 → EReal} {n : ℕ} {p : Fin 2} {v28 : IVec S128x128 1} {c a b u w : Vec Ideal S128x128 .f32}
  {v : Vec Ideal S128x256 .f32} {dec st : Vec Ideal S1x128x256 .f32} {xi zeta : Vec Ideal S1x128x128 .f32} {cd : Vec Ideal S1x1x256 .f32}

/-- The rotation by lane rolls is the rotation of the head's row. -/
theorem rot_apply (A : Angles T n c a b) (x : Vec Ideal S128x128 .f32) (f : Fin 128 → EReal) (i : Fin 128) (hx : ∀ l, x (ix2 i l) = f l) (j : Fin 2) (d : Fin 64) :
    k0_pay6 c a b x (ix2 i (lane j d)) = rotated T (tok n i) (fun d => f (lane j d)) d := by
  rw [pay6_apply, A.cos, hx, hx, hx]
  unfold rotated
  by_cases h : d.val < 32
  · rw [dif_pos h, A.sinLo _ _ _ h, A.zeroHi _ _ _ h, mul_zero, add_zero, mul_neg, ← sub_eq_add_neg]
    refine congrArg₂ (fun x y => f (lane j d) * T.cos (tok n i) x - f y * _) (Fin.ext ?_) (Fin.ext ?_)
    · show d.val % 32 = d.val; omega
    · show (64 * j.val + d.val + 128 - 96) % 128 = 64 * j.val + (32 + d.val); omega
  · rw [dif_neg h, A.zeroLo _ _ _ h, A.sinHi _ _ _ h, mul_zero, add_zero, add_comm]
    refine congrArg₂ (fun x y => f y * _ + f (lane j d) * T.cos (tok n i) x) (Fin.ext ?_) (Fin.ext ?_)
    · show d.val % 32 = d.val - 32; omega
    · show (64 * j.val + d.val + 128 - 32) % 128 = 64 * j.val + (d.val - 32); omega

theorem query_apply (A : Angles T n c a b) (L : Loads T P n p u w v dec xi zeta cd) (i : Fin 128) (j : Fin 2) (d : Fin 64) :
    k0_pay6 c a b u (ix2 i (lane j d)) = query T P (head p j) (tok n i) d := by
  rw [rot_apply A u _ i (L.u i)]
  refine congrArg (fun g => rotated T (tok n i) g d) (funext fun d => congrArg (P (tok n i)) (Fin.ext ?_))
  show 128 * p.val + (64 * j.val + d.val) = 64 * (2 * p.val + j.val) + d.val
  omega

theorem key_apply (A : Angles T n c a b) (L : Loads T P n p u w v dec xi zeta cd) (i : Fin 128) (j : Fin 2) (d : Fin 64) :
    k0_pay7 c a b w (ix2 i (lane j d)) = key T P (head p j) (tok n i) d := by
  refine (rot_apply A w _ i (L.w i) j d).trans ?_
  refine congrArg (fun g => rotated T (tok n i) g d) (funext fun d => congrArg (P (tok n i)) (Fin.ext ?_))
  show 256 + (128 * p.val + (64 * j.val + d.val)) = 256 + (64 * (2 * p.val + j.val) + d.val)
  omega

theorem value_apply (L : Loads T P n p u w v dec xi zeta cd) (i : Fin 128) (j : Fin 2) (e : Fin 128) :
    v (ix2 i (vcol j e)) = value P (head p j) (tok n i) e := by
  rw [L.v]
  refine congrArg (P (tok n i)) (Fin.ext ?_)
  show 512 + (256 * p.val + (128 * j.val + e.val)) = 512 + (128 * (2 * p.val + j.val) + e.val)
  omega

/-- A score times its decay: the keys' scale is met in the sum or in the decay. -/
theorem score_eq (f g : Fin 64 → EReal) (t : EReal) : (∑ d, f d * g d) * (t * scale) = (∑ d, f d * (g d * scale)) * t := by
  rw [mul_comm t, ← mul_assoc, sum_scale]
  simp only [mul_assoc]

/-- The first head's output is the retention's. -/
theorem out0_apply (hv0 : ∀ i d, v28 (ix2 i (lane 0 d)) = 1#1) (hv1 : ∀ i d, v28 (ix2 i (lane 1 d)) = 0#1) (A : Angles T n c a b)
    (L : Loads T P n p u w v dec xi zeta cd) (H : Holds T P n p st) (i e : Fin 128) :
    k0_pay15 v28 (k0_pay6 c a b u) (k0_pay8 v) (k0_pay9 v28 c a b u w) (k0_pay10 dec) st xi (ix2 i e) = retained T P (head p 0) n i e := by
  have e0 : ∀ j : Fin 128, (⟨j.val, by omega⟩ : Fin 256) = vcol 0 j := fun j => Fin.ext (by simp [vcol])
  rw [pay15_apply]
  simp only [pay9_apply0]
  have hs := fun (i : Fin 128) (f : Fin 128 → EReal) => sum_first (m := fun l => v28 (ix2 i l)) (hv0 i) (hv1 i) f
  simp only [hs, query_apply A L, key_apply A L, e0, L.dec, L.xi, value_apply L, score_eq]
  unfold retained
  simp only [H 0 _ _]

/-- The second head's output is the retention's. -/
theorem out1_apply (hv0 : ∀ i d, v28 (ix2 i (lane 0 d)) = 1#1) (hv1 : ∀ i d, v28 (ix2 i (lane 1 d)) = 0#1) (A : Angles T n c a b)
    (L : Loads T P n p u w v dec xi zeta cd) (H : Holds T P n p st) (i e : Fin 128) :
    k0_pay16 v28 (k0_pay6 c a b u) (k0_pay8 v) (k0_pay9 v28 c a b u w) (k0_pay10 dec) st xi (ix2 i e) = retained T P (head p 1) n i e := by
  have e1 : ∀ j : Fin 128, (⟨128 + j.val, by omega⟩ : Fin 256) = vcol 1 j := fun j => Fin.ext (by simp [vcol])
  rw [pay16_apply]
  simp only [pay9_apply1]
  have hs := fun (i : Fin 128) (f : Fin 128 → EReal) => sum_second (m := fun l => v28 (ix2 i l)) (hv0 i) (hv1 i) f
  simp only [hs, query_apply A L, key_apply A L, e1, L.dec, L.xi, value_apply L, score_eq]
  unfold retained
  simp only [H 1 _ _]

/-- The state the trip leaves is the state before the next chunk. -/
theorem state_apply (A : Angles T n c a b) (L : Loads T P n p u w v dec xi zeta cd) (H : Holds T P n p st) :
    Holds T P (n + 1) p (k0_pay17 (k0_pay7 c a b w) (k0_pay8 v) st zeta cd) := by
  intro j d e
  rw [pay17_apply, H, L.cd]
  simp only [key_apply A L, L.zeta, value_apply L]
  rw [mul_comm (state T P _ _ _ _)]
  show _ = T.cd (head p j) * state T P (head p j) n d e + ∑ x, _
  refine congrArg (T.cd (head p j) * state T P (head p j) n d e + ·) (Finset.sum_congr rfl fun x _ => ?_)
  rw [mul_comm (T.zeta _ _), ← mul_assoc]

end Cert.Layer.Retention

end
-- ==== Proof.RetentionLoop.lean ====
/- The kernel's loop over the four chunks of a block, for the retention slice: that each trip leaves the state of the chunk
   after it and the chunk's mixed rows (`trip_state`, `trip_mixed`), and so what the loop leaves (`loop`). -/
module

public import proofs.«01_k».proof.Defs
public import proofs.«01_k».proof.Proof.Gen.RetentionIdeal.Loops
public import proofs.«01_k».proof.Proof.RetentionTrip
public import Idealize.ShloMosaic.Lib.WritesUnit
public import Idealize.ShloMosaic.Lib.Pipeline.ValueKit.Tiles

@[expose] public section

set_option maxRecDepth 16384

noncomputable section

namespace Cert.Layer.Retention

open Cert.RetentionIdeal Cert.RetentionIdeal.Gen Idealize.ShloMosaic Idealize.ShloMosaic.TcCoe Idealize.SL.Sem

/-- Row `r` of block `q` as a token. -/
def row (q : ℕ) (r : Fin 512) : Fin 2048 := ⟨(512 * q + r.val) % 2048, by omega⟩

/-- Row `i` of the block's chunk `k`. -/
def at128 (k : ℕ) (hk : k < 4) (i : Fin 128) : Fin 512 := ⟨128 * k + i.val, by omega⟩

theorem row_at (q k : ℕ) (hk : k < 4) (i : Fin 128) : row q (at128 k hk i) = tok (4 * q + k) i := by
  refine Fin.ext ?_
  show (512 * q + (128 * k + i.val)) % 2048 = (128 * (4 * q + k) + i.val) % 2048
  rw [show 512 * q + (128 * k + i.val) = 128 * (4 * q + k) + i.val by omega]

/-- A load at a rectangle of a buffer whose contents read as `x`. -/
theorem load_apply {s : Shape} {sp : Space} {e : EltTy} (mr : Memref sig .tc sp s e) {f : BufTy.Contents (Elt Ideal) mr.view.ty} {x : s.Idx → Elt Ideal e}
    (h : mr.view.read (Elt Ideal) f = x) {off off' size : Fin s.rank → ℕ} (inb : ∀ a, off a + size a ≤ s.size a) (heq : off = off')
    (y : (Rect.unit off size inb).shape.Idx) (z : s.Idx) (hz : ∀ a, (z a).val = off' a + (y a).val) :
    View.readAt (Elt Ideal) mr.view (Rect.unit off size inb).toLoadRect f y = x z := by
  subst heq
  rw [View.readAt_eq_ld, h]
  exact View.ld_unit_apply_of x off size inb y z hz

theorem off1 : ∀ k : Fin k0_t1_loop.trips, k0_off1 k = ![128 * k.val, 0] := by decide +kernel
theorem off2 : ∀ k : Fin k0_t1_loop.trips, k0_off2 k = ![128 * k.val, 0] := by decide +kernel
theorem off3 : ∀ k : Fin k0_t1_loop.trips, k0_off3 k = ![128 * k.val, 256] := by decide +kernel
theorem off4 : ∀ k : Fin k0_t1_loop.trips, k0_off4 k = ![128 * k.val, 512] := by decide +kernel
theorem off5 : ∀ k : Fin k0_t1_loop.trips, k0_off5 k = ![128 * k.val, 1024] := by decide +kernel
theorem off6 : ∀ k : Fin k0_t1_loop.trips, k0_off6 k = ![128 * k.val, 0] := by decide +kernel
theorem off7 : ∀ k : Fin k0_t1_loop.trips, k0_off7 k = ![128 * k.val, 1152] := by decide +kernel
theorem off8 : ∀ k : Fin k0_t1_loop.trips, k0_off8 k = ![128 * k.val, 128] := by decide +kernel
theorem off9 : ∀ k : Fin k0_t1_loop.trips, k0_off9 k = ![128 * k.val, 128] := by decide +kernel
theorem off10 : ∀ k : Fin k0_t1_loop.trips, k0_off10 k = ![128 * k.val, 384] := by decide +kernel
theorem off11 : ∀ k : Fin k0_t1_loop.trips, k0_off11 k = ![128 * k.val, 768] := by decide +kernel
theorem off12 : ∀ k : Fin k0_t1_loop.trips, k0_off12 k = ![128 * k.val, 1280] := by decide +kernel
theorem off13 : ∀ k : Fin k0_t1_loop.trips, k0_off13 k = ![128 * k.val, 256] := by decide +kernel
theorem off14 : ∀ k : Fin k0_t1_loop.trips, k0_off14 k = ![128 * k.val, 1408] := by decide +kernel
theorem off15 : ∀ k : Fin k0_t1_loop.trips, k0_off15 k = ![128 * k.val, 384] := by decide +kernel

/-- What the block `q` of rows finds in its windows and in the projected rows. -/
structure Ready (T : Tables) (P : Fin 2048 → Fin 2816 → EReal) (w : Fin 512 → EReal) (q : ℕ) (x4 x5 x6 : Vec Ideal S512x128 .f32)
    (x7 : Vec Ideal S2x128x256 .f32) (x8 x9 : Vec Ideal S2x128x128 .f32) (x10 : Vec Ideal S2x1x256 .f32) (x11 : Vec Ideal S1x512 .f32)
    (y : Vec Ideal S512x2816 .f32) : Prop where
  cos : ∀ r j d, x4 (ix2 r (lane j d)) = T.cos (row q r) ⟨d.val % 32, by omega⟩
  sinLo : ∀ r j d, (h : d.val < 32) → x5 (ix2 r (lane j d)) = -T.sin (row q r) ⟨d.val, h⟩
  zeroLo : ∀ r j d, ¬ d.val < 32 → x5 (ix2 r (lane j d)) = 0
  zeroHi : ∀ r j d, d.val < 32 → x6 (ix2 r (lane j d)) = 0
  sinHi : ∀ r j d, (h : ¬ d.val < 32) → x6 (ix2 r (lane j d)) = T.sin (row q r) ⟨d.val - 32, by omega⟩
  dec : ∀ p j i i', x7 (ix3 p i (vcol j i')) = T.dec (head p j) i i' * scale
  xi : ∀ p j i d, x8 (ix3 p i (lane j d)) = T.xi (head p j) i
  zeta : ∀ p j i d, x9 (ix3 p i (lane j d)) = T.zeta (head p j) i * scale
  cd : ∀ p j e, x10 (ix3 p 0 (vcol j e)) = T.cd (head p j)
  weight : ∀ e, x11 (ix2 0 e) = w e
  rows : ∀ r c, y (ix2 r c) = P (row q r) c

/-- The state scratch holds every head's state before chunk `n`. -/
def Carried (T : Tables) (P : Fin 2048 → Fin 2816 → EReal) (n : ℕ) (s : Vec Ideal S2x128x256 .f32) : Prop :=
  ∀ p j d e, s (ix3 p (lane j d) (vcol j e)) = state T P (head p j) n d e

/-- The mixed rows of the block's chunks before chunk `k`, in the retention's columns; the other columns are zero. -/
structure Mixed (T : Tables) (P : Fin 2048 → Fin 2816 → EReal) (w : Fin 512 → EReal) (q k : ℕ) (x : Vec Ideal S512x1024 .bf16) : Prop where
  done : ∀ k' (hk : k' < 4), k' < k → ∀ i (h : Fin 4) (e : Fin 128),
    x (ix2 (at128 k' hk i) ⟨128 * h.val + e.val, by omega⟩) = mixed T P w (4 * q + k') i h e
  zero : ∀ r (c : Fin 1024), 512 ≤ c.val → x (ix2 r c) = 0

variable {T : Tables} {P : Fin 2048 → Fin 2816 → EReal} {w : Fin 512 → EReal} {q : ℕ} {x4 x5 x6 : Vec Ideal S512x128 .f32}
  {x7 : Vec Ideal S2x128x256 .f32} {x8 x9 : Vec Ideal S2x128x128 .f32} {x10 : Vec Ideal S2x1x256 .f32} {x11 : Vec Ideal S1x512 .f32}
  {y : Vec Ideal S512x2816 .f32}
  {𝒱 : Variants} {c : Dev nD} {bd : Option 𝒱.V} {i : grid0.Coords}
  {arg2 : Memref sig .tc .vmem S1x512x1024 .f32} {harg2 : arg2.IsWhole}
  {arg3 : Memref sig .tc .vmem S1x1024 .f32} {harg3 : arg3.IsWhole}
  {arg4 : Memref sig .tc .vmem S1024x2816 .bf16} {harg4 : arg4.IsWhole}
  {arg5 : Memref sig .tc .vmem S1024x1024 .bf16} {harg5 : arg5.IsWhole}
  {arg6 : Memref sig .tc .vmem S512x128 .f32} {harg6 : arg6.IsWhole}
  {arg7 : Memref sig .tc .vmem S512x128 .f32} {harg7 : arg7.IsWhole}
  {arg8 : Memref sig .tc .vmem S512x128 .f32} {harg8 : arg8.IsWhole}
  {arg9 : Memref sig .tc .vmem S2x128x256 .f32} {harg9 : arg9.IsWhole}
  {arg10 : Memref sig .tc .vmem S2x128x128 .f32} {harg10 : arg10.IsWhole}
  {arg11 : Memref sig .tc .vmem S2x128x128 .f32} {harg11 : arg11.IsWhole}
  {arg12 : Memref sig .tc .vmem S2x1x256 .f32} {harg12 : arg12.IsWhole}
  {arg13 : Memref sig .tc .vmem S1x512 .f32} {harg13 : arg13.IsWhole}
  {arg14 : Memref sig .tc .vmem S1x512 .f32} {harg14 : arg14.IsWhole}
  {arg15 : Memref sig .tc .vmem S1x128 .f32} {harg15 : arg15.IsWhole}
  {arg16 : Memref sig .tc .vmem S256x256 .bf16} {harg16 : arg16.IsWhole}
  {arg17 : Memref sig .tc .vmem S128x128 .i32} {harg17 : arg17.IsWhole}
  {arg18 : Memref sig .tc .smem S32x8 .f32} {harg18 : arg18.IsWhole}
  {arg19 : Memref sig .tc .smem S8 .f32} {harg19 : arg19.IsWhole}
  {arg20 : Memref sig .tc .vmem S1x512x1024 .f32} {harg20 : arg20.IsWhole}
  {arg21 : Memref sig .tc .vmem S512x2816 .f32} {harg21 : arg21.IsWhole}
  {arg22 : Memref sig .tc .vmem S512x1024 .bf16} {harg22 : arg22.IsWhole}
  {arg23 : Memref sig .tc .vmem S2x128x256 .f32} {harg23 : arg23.IsWhole}
  {arg24 : Memref sig .tc .vmem S2x640x128 .bf16} {harg24 : arg24.IsWhole}
  {arg25 : Memref sig .tc .vmem S2x2x640x128 .bf16} {harg25 : arg25.IsWhole}
  {arg26 : Memref sig .tc .vmem S8x128x128 .f32} {harg26 : arg26.IsWhole}
  {v28 : IVec S128x128 1} {c0 : BitVec 32}
  {X_arg6 : BufTy.Contents (Elt Ideal) arg6.view.ty}
  {X_arg7 : BufTy.Contents (Elt Ideal) arg7.view.ty}
  {X_arg8 : BufTy.Contents (Elt Ideal) arg8.view.ty}
  {X_arg9 : BufTy.Contents (Elt Ideal) arg9.view.ty}
  {X_arg10 : BufTy.Contents (Elt Ideal) arg10.view.ty}
  {X_arg11 : BufTy.Contents (Elt Ideal) arg11.view.ty}
  {X_arg12 : BufTy.Contents (Elt Ideal) arg12.view.ty}
  {X_arg13 : BufTy.Contents (Elt Ideal) arg13.view.ty}
  {X_arg21 : BufTy.Contents (Elt Ideal) arg21.view.ty}

/-- The contents the loop reads, by what they read as. -/
structure Reads (arg6 : Memref sig .tc .vmem S512x128 .f32) (arg7 : Memref sig .tc .vmem S512x128 .f32) (arg8 : Memref sig .tc .vmem S512x128 .f32)
    (arg9 : Memref sig .tc .vmem S2x128x256 .f32) (arg10 : Memref sig .tc .vmem S2x128x128 .f32) (arg11 : Memref sig .tc .vmem S2x128x128 .f32)
    (arg12 : Memref sig .tc .vmem S2x1x256 .f32) (arg13 : Memref sig .tc .vmem S1x512 .f32) (arg21 : Memref sig .tc .vmem S512x2816 .f32)
    (X_arg6 : BufTy.Contents (Elt Ideal) arg6.view.ty) (X_arg7 : BufTy.Contents (Elt Ideal) arg7.view.ty) (X_arg8 : BufTy.Contents (Elt Ideal) arg8.view.ty)
    (X_arg9 : BufTy.Contents (Elt Ideal) arg9.view.ty) (X_arg10 : BufTy.Contents (Elt Ideal) arg10.view.ty) (X_arg11 : BufTy.Contents (Elt Ideal) arg11.view.ty)
    (X_arg12 : BufTy.Contents (Elt Ideal) arg12.view.ty) (X_arg13 : BufTy.Contents (Elt Ideal) arg13.view.ty) (X_arg21 : BufTy.Contents (Elt Ideal) arg21.view.ty)
    (x4 x5 x6 : Vec Ideal S512x128 .f32) (x7 : Vec Ideal S2x128x256 .f32) (x8 x9 : Vec Ideal S2x128x128 .f32) (x10 : Vec Ideal S2x1x256 .f32)
    (x11 : Vec Ideal S1x512 .f32) (y : Vec Ideal S512x2816 .f32) : Prop where
  r4 : arg6.view.read (Elt Ideal) X_arg6 = x4
  r5 : arg7.view.read (Elt Ideal) X_arg7 = x5
  r6 : arg8.view.read (Elt Ideal) X_arg8 = x6
  r7 : arg9.view.read (Elt Ideal) X_arg9 = x7
  r8 : arg10.view.read (Elt Ideal) X_arg10 = x8
  r9 : arg11.view.read (Elt Ideal) X_arg11 = x9
  r10 : arg12.view.read (Elt Ideal) X_arg12 = x10
  r11 : arg13.view.read (Elt Ideal) X_arg13 = x11
  ry : arg21.view.read (Elt Ideal) X_arg21 = y

/-- A load of 128 rows of the chunk, at an index. -/
theorem rows_apply {C W : ℕ} {e : EltTy} {sp : Space} (mr : Memref sig .tc sp (⟨2, ![512, C]⟩ : Shape) e) {f : BufTy.Contents (Elt Ideal) mr.view.ty}
    {x : (⟨2, ![512, C]⟩ : Shape).Idx → Elt Ideal e} (h : mr.view.read (Elt Ideal) f = x) (k o : ℕ) (hk : k < 4) (ho : o + W ≤ C) {off : Fin 2 → ℕ}
    (inb : ∀ a, off a + (![128, W] : Fin 2 → ℕ) a ≤ (![512, C] : Fin 2 → ℕ) a) (heq : off = ![128 * k, o]) (i : Fin 128) (l : Fin W) :
    View.readAt (Elt Ideal) mr.view (Rect.unit (s := ⟨2, ![512, C]⟩) off ![128, W] inb).toLoadRect f (ix2 i l) = x (ix2 (at128 k hk i) ⟨o + l.val, by omega⟩) :=
  load_apply mr h inb heq _ _ (fun a => by fin_cases a <;> rfl)

/-- A load of one pair's plane, at an index. -/
theorem plane_apply {B C : ℕ} {e : EltTy} {sp : Space} (mr : Memref sig .tc sp (⟨3, ![2, B, C]⟩ : Shape) e) {f : BufTy.Contents (Elt Ideal) mr.view.ty}
    {x : (⟨3, ![2, B, C]⟩ : Shape).Idx → Elt Ideal e} (h : mr.view.read (Elt Ideal) f = x) (p : Fin 2)
    (inb : ∀ a, (![p.val, 0, 0] : Fin 3 → ℕ) a + (![1, B, C] : Fin 3 → ℕ) a ≤ (![2, B, C] : Fin 3 → ℕ) a) (i : Fin B) (l : Fin C) :
    View.readAt (Elt Ideal) mr.view (Rect.unit (s := ⟨3, ![2, B, C]⟩) ![p.val, 0, 0] ![1, B, C] inb).toLoadRect f (ix3 0 i l) = x (ix3 p i l) :=
  load_apply mr h inb rfl _ _ (fun a => by fin_cases a <;> simp)

theorem angles (R : Ready T P w q x4 x5 x6 x7 x8 x9 x10 x11 y) (k : Fin k0_t1_loop.trips) (hk : k.val < 4)
    (A : Reads arg6 arg7 arg8 arg9 arg10 arg11 arg12 arg13 arg21 X_arg6 X_arg7 X_arg8 X_arg9 X_arg10 X_arg11 X_arg12 X_arg13 X_arg21 x4 x5 x6 x7 x8 x9 x10 x11 y)
    (i6 : ∀ a, k0_off1 k a + S128x128.size a ≤ S512x128.size a) (i7 : ∀ a, k0_off1 k a + S128x128.size a ≤ S512x128.size a)
    (i8 : ∀ a, k0_off1 k a + S128x128.size a ≤ S512x128.size a) :
    Angles T (4 * q + k.val) (View.readAt (Elt Ideal) arg6.view (Rect.unit (s := S512x128) (k0_off1 k) S128x128.size i6).toLoadRect X_arg6)
      (View.readAt (Elt Ideal) arg7.view (Rect.unit (s := S512x128) (k0_off1 k) S128x128.size i7).toLoadRect X_arg7)
      (View.readAt (Elt Ideal) arg8.view (Rect.unit (s := S512x128) (k0_off1 k) S128x128.size i8).toLoadRect X_arg8) := by
  have h6 := fun i l => rows_apply arg6 A.r4 k.val 0 hk (by omega) i6 (off1 k) i l
  have h7 := fun i l => rows_apply arg7 A.r5 k.val 0 hk (by omega) i7 (off1 k) i l
  have h8 := fun i l => rows_apply arg8 A.r6 k.val 0 hk (by omega) i8 (off1 k) i l
  simp only [Nat.zero_add] at h6 h7 h8
  constructor
  · intro i j d; rw [← row_at q k.val hk]; exact (h6 i _).trans (R.cos _ j d)
  · intro i j d h; rw [← row_at q k.val hk]; exact (h7 i _).trans (R.sinLo _ j d h)
  · intro i j d h; exact (h7 i _).trans (R.zeroLo _ j d h)
  · intro i j d h; exact (h8 i _).trans (R.zeroHi _ j d h)
  · intro i j d h; rw [← row_at q k.val hk]; exact (h8 i _).trans (R.sinHi _ j d h)

theorem loads (R : Ready T P w q x4 x5 x6 x7 x8 x9 x10 x11 y) (k : Fin k0_t1_loop.trips) (hk : k.val < 4)
    (A : Reads arg6 arg7 arg8 arg9 arg10 arg11 arg12 arg13 arg21 X_arg6 X_arg7 X_arg8 X_arg9 X_arg10 X_arg11 X_arg12 X_arg13 X_arg21 x4 x5 x6 x7 x8 x9 x10 x11 y) (p : Fin 2)
    {ou ow ov : Fin 2 → ℕ} (iu : ∀ a, ou a + S128x128.size a ≤ S512x2816.size a) (iw : ∀ a, ow a + S128x128.size a ≤ S512x2816.size a)
    (iv : ∀ a, ov a + S128x256.size a ≤ S512x2816.size a) (hu : ou = ![128 * k.val, 128 * p.val]) (hw : ow = ![128 * k.val, 256 + 128 * p.val])
    (hv : ov = ![128 * k.val, 512 + 256 * p.val])
    (i9 : ∀ a, (![p.val, 0, 0] : Fin 3 → ℕ) a + S1x128x256.size a ≤ S2x128x256.size a) (i10 : ∀ a, (![p.val, 0, 0] : Fin 3 → ℕ) a + S1x128x128.size a ≤ S2x128x128.size a)
    (i11 : ∀ a, (![p.val, 0, 0] : Fin 3 → ℕ) a + S1x128x128.size a ≤ S2x128x128.size a) (i12 : ∀ a, (![p.val, 0, 0] : Fin 3 → ℕ) a + S1x1x256.size a ≤ S2x1x256.size a) :
    Loads T P (4 * q + k.val) p (View.readAt (Elt Ideal) arg21.view (Rect.unit (s := S512x2816) ou S128x128.size iu).toLoadRect X_arg21)
      (View.readAt (Elt Ideal) arg21.view (Rect.unit (s := S512x2816) ow S128x128.size iw).toLoadRect X_arg21)
      (View.readAt (Elt Ideal) arg21.view (Rect.unit (s := S512x2816) ov S128x256.size iv).toLoadRect X_arg21)
      (View.readAt (Elt Ideal) arg9.view (Rect.unit (s := S2x128x256) ![p.val, 0, 0] S1x128x256.size i9).toLoadRect X_arg9)
      (View.readAt (Elt Ideal) arg10.view (Rect.unit (s := S2x128x128) ![p.val, 0, 0] S1x128x128.size i10).toLoadRect X_arg10)
      (View.readAt (Elt Ideal) arg11.view (Rect.unit (s := S2x128x128) ![p.val, 0, 0] S1x128x128.size i11).toLoadRect X_arg11)
      (View.readAt (Elt Ideal) arg12.view (Rect.unit (s := S2x1x256) ![p.val, 0, 0] S1x1x256.size i12).toLoadRect X_arg12) := by
  constructor
  · intro i l; rw [← row_at q k.val hk]
    exact (rows_apply arg21 A.ry k.val (128 * p.val) hk (by omega) iu hu i l).trans (R.rows _ _)
  · intro i l; rw [← row_at q k.val hk]
    exact (rows_apply arg21 A.ry k.val (256 + 128 * p.val) hk (by omega) iw hw i l).trans ((R.rows _ _).trans (congrArg (P _) (Fin.ext (Nat.add_assoc _ _ _))))
  · intro i l; rw [← row_at q k.val hk]
    exact (rows_apply arg21 A.ry k.val (512 + 256 * p.val) hk (by omega) iv hv i l).trans ((R.rows _ _).trans (congrArg (P _) (Fin.ext (Nat.add_assoc _ _ _))))
  · intro j i i'; exact (plane_apply arg9 A.r7 p i9 i _).trans (R.dec p j i i')
  · intro j i d; exact (plane_apply arg10 A.r8 p i10 i _).trans (R.xi p j i d)
  · intro j i d; exact (plane_apply arg11 A.r9 p i11 i _).trans (R.zeta p j i d)
  · intro j e; exact (plane_apply arg12 A.r10 p i12 0 _).trans (R.cd p j e)

theorem holds {f : BufTy.Contents (Elt Ideal) arg23.view.ty} {n : ℕ} (H : Carried T P n (arg23.view.read (Elt Ideal) f)) (p : Fin 2)
    (i23 : ∀ a, (![p.val, 0, 0] : Fin 3 → ℕ) a + S1x128x256.size a ≤ S2x128x256.size a) :
    Holds T P n p (View.readAt (Elt Ideal) arg23.view (Rect.unit (s := S2x128x256) ![p.val, 0, 0] S1x128x256.size i23).toLoadRect f) :=
  fun j d e => (plane_apply arg23 rfl p i23 _ _).trans (H p j d e)

theorem trip_state (R : Ready T P w q x4 x5 x6 x7 x8 x9 x10 x11 y) (k : Fin k0_t1_loop.trips) (hk : k.val < 4)
    (A : Reads arg6 arg7 arg8 arg9 arg10 arg11 arg12 arg13 arg21 X_arg6 X_arg7 X_arg8 X_arg9 X_arg10 X_arg11 X_arg12 X_arg13 X_arg21 x4 x5 x6 x7 x8 x9 x10 x11 y)
    (f22 : BufTy.Contents (Elt Ideal) arg22.view.ty) (f23 : BufTy.Contents (Elt Ideal) arg23.view.ty) (H : Carried T P (4 * q + k.val) (arg23.view.read (Elt Ideal) f23)) :
    Carried T P (4 * q + k.val + 1) (arg23.view.read (Elt Ideal) (arg23.view.writes (Elt Ideal) f23
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v28 c0 X_arg6 X_arg7 X_arg8 X_arg9 X_arg10 X_arg11 X_arg12 X_arg13 X_arg21 k f22 f23).2)) := by
  unfold tripL_k0_t1 trip_k0_t1
  dsimp only
  intro p j d e
  have ha := angles (arg9 := arg9) R k hk A
  match p with
  | 1 =>
    rw [View.read_writes_cons_unit_of_mem _ _ _ _ _ _ (ix3 0 (lane j d) (vcol j e)) rfl (fun a => by fin_cases a <;> simp)]
    exact state_apply (ha _ _ _) (loads R k hk A 1 (k0_off9_inb k) (k0_off10_inb k) (k0_off11_inb k) (off9 k) (off10 k) (off11 k) inb_S2x128x256_S1x128x256_1_0_0 inb_S2x128x128_S1x128x128_1_0_0 inb_S2x128x128_S1x128x128_1_0_0 inb_S2x1x256_S1x1x256_1_0_0) (holds H 1 inb_S2x128x256_S1x128x256_1_0_0) j d e
  | 0 =>
    rw [View.read_writes_cons_unit_of_not_mem _ _ _ _ _ _ rfl 0 (Or.inl (by simp)),
      View.read_writes_cons_unit_of_mem _ _ _ _ _ _ (ix3 0 (lane j d) (vcol j e)) rfl (fun a => by fin_cases a <;> simp)]
    exact state_apply (ha _ _ _) (loads R k hk A 0 (k0_off2_inb k) (k0_off3_inb k) (k0_off4_inb k) (off2 k) (off3 k) (off4 k) inb_S2x128x256_S1x128x256_0_0_0 inb_S2x128x128_S1x128x128_0_0_0 inb_S2x128x128_S1x128x128_0_0_0 inb_S2x1x256_S1x1x256_0_0_0) (holds H 0 inb_S2x128x256_S1x128x256_0_0_0) j d e

/-- What a trip stores into the mixed rows, read at an index: head `h`'s block of columns of the chunk's rows. -/
theorem trip_block (v28h0 : ∀ i d, v28 (ix2 i (lane 0 d)) = 1#1) (v28h1 : ∀ i d, v28 (ix2 i (lane 1 d)) = 0#1)
    (R : Ready T P w q x4 x5 x6 x7 x8 x9 x10 x11 y) (k : Fin k0_t1_loop.trips) (hk : k.val < 4)
    (A : Reads arg6 arg7 arg8 arg9 arg10 arg11 arg12 arg13 arg21 X_arg6 X_arg7 X_arg8 X_arg9 X_arg10 X_arg11 X_arg12 X_arg13 X_arg21 x4 x5 x6 x7 x8 x9 x10 x11 y)
    (f22 : BufTy.Contents (Elt Ideal) arg22.view.ty) (f23 : BufTy.Contents (Elt Ideal) arg23.view.ty) (H : Carried T P (4 * q + k.val) (arg23.view.read (Elt Ideal) f23))
    (r : Fin 128) (h : Fin 4) (e : Fin 128) :
    arg22.view.read (Elt Ideal) (arg22.view.writes (Elt Ideal) f22 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v28 c0 X_arg6 X_arg7 X_arg8 X_arg9 X_arg10 X_arg11 X_arg12 X_arg13 X_arg21 k f22 f23).1)
      (ix2 (at128 k.val hk r) ⟨128 * h.val + e.val, by omega⟩) = mixed T P w (4 * q + k.val) r h e := by
  unfold tripL_k0_t1 trip_k0_t1
  dsimp only
  have ha := angles (arg9 := arg9) R k hk A
  have l0 := loads R k hk A 0 (k0_off2_inb k) (k0_off3_inb k) (k0_off4_inb k) (off2 k) (off3 k) (off4 k) inb_S2x128x256_S1x128x256_0_0_0 inb_S2x128x128_S1x128x128_0_0_0 inb_S2x128x128_S1x128x128_0_0_0 inb_S2x1x256_S1x1x256_0_0_0
  have l1 := loads R k hk A 1 (k0_off9_inb k) (k0_off10_inb k) (k0_off11_inb k) (off9 k) (off10 k) (off11 k) inb_S2x128x256_S1x128x256_1_0_0 inb_S2x128x128_S1x128x128_1_0_0 inb_S2x128x128_S1x128x128_1_0_0 inb_S2x1x256_S1x1x256_1_0_0
  have hg : ∀ {og : Fin 2 → ℕ} (ig : ∀ a, og a + S128x128.size a ≤ S512x2816.size a) (o : ℕ) (ho : o + 128 ≤ 512), og = ![128 * k.val, 1024 + o] → ∀ l : Fin 128,
      View.readAt (Elt Ideal) arg21.view (Rect.unit (s := S512x2816) og S128x128.size ig).toLoadRect X_arg21 (ix2 r l) = P (tok (4 * q + k.val) r) ⟨1024 + (o + l.val), by omega⟩ := by
    intro og ig o ho hog l
    rw [← row_at q k.val hk]
    exact (rows_apply arg21 A.ry k.val (1024 + o) hk (by omega) ig hog r l).trans ((R.rows _ _).trans (congrArg (P _) (Fin.ext (Nat.add_assoc _ _ _))))
  have hw : ∀ (o : ℕ) (iw : ∀ a, (![0, o] : Fin 2 → ℕ) a + S1x128.size a ≤ S1x512.size a) (ho : o + 128 ≤ 512) (l : Fin 128),
      View.readAt (Elt Ideal) arg13.view (Rect.unit (s := S1x512) ![0, o] S1x128.size iw).toLoadRect X_arg13 (ix2 0 l) = w ⟨o + l.val, by omega⟩ := by
    intro o iw ho l
    exact (load_apply arg13 A.r11 iw rfl (ix2 0 l) (ix2 0 ⟨o + l.val, by omega⟩) (fun a => by fin_cases a <;> simp)).trans (R.weight _)
  unfold mixed
  match h with
  | 3 =>
    rw [View.read_writes_cons_unit_of_mem _ _ _ _ _ _ (ix2 r e) (off15 k) (fun a => by fin_cases a <;> simp [at128])]
    refine (pay18_apply _ _ _ r e).trans ?_
    rw [hg _ 384 (by omega) (off14 k), hw 384 _ (by omega)]
    exact congrArg₂ (· * ·) (congrArg₂ (· * ·) (congrArg (fun o => grouped o e) (funext fun e => out1_apply v28h0 v28h1 (ha _ _ _) l1 (holds H 1 inb_S2x128x256_S1x128x256_1_0_0) r e)) rfl) rfl
  | 2 =>
    rw [View.read_writes_cons_unit_of_not_mem _ _ _ _ _ _ (off15 k) 1 (Or.inl (by simp; omega)),
      View.read_writes_cons_unit_of_mem _ _ _ _ _ _ (ix2 r e) (off13 k) (fun a => by fin_cases a <;> simp [at128])]
    refine (pay18_apply _ _ _ r e).trans ?_
    rw [hg _ 256 (by omega) (off12 k), hw 256 _ (by omega)]
    exact congrArg₂ (· * ·) (congrArg₂ (· * ·) (congrArg (fun o => grouped o e) (funext fun e => out0_apply v28h0 v28h1 (ha _ _ _) l1 (holds H 1 inb_S2x128x256_S1x128x256_1_0_0) r e)) rfl) rfl
  | 1 =>
    rw [View.read_writes_cons_unit_of_not_mem _ _ _ _ _ _ (off15 k) 1 (Or.inl (by simp; omega)),
      View.read_writes_cons_unit_of_not_mem _ _ _ _ _ _ (off13 k) 1 (Or.inl (by simp; omega)),
      View.read_writes_cons_unit_of_mem _ _ _ _ _ _ (ix2 r e) (off8 k) (fun a => by fin_cases a <;> simp [at128])]
    refine (pay18_apply _ _ _ r e).trans ?_
    rw [hg _ 128 (by omega) (off7 k), hw 128 _ (by omega)]
    exact congrArg₂ (· * ·) (congrArg₂ (· * ·) (congrArg (fun o => grouped o e) (funext fun e => out1_apply v28h0 v28h1 (ha _ _ _) l0 (holds H 0 inb_S2x128x256_S1x128x256_0_0_0) r e)) rfl) rfl
  | 0 =>
    rw [View.read_writes_cons_unit_of_not_mem _ _ _ _ _ _ (off15 k) 1 (Or.inl (by simp; omega)),
      View.read_writes_cons_unit_of_not_mem _ _ _ _ _ _ (off13 k) 1 (Or.inl (by simp; omega)),
      View.read_writes_cons_unit_of_not_mem _ _ _ _ _ _ (off8 k) 1 (Or.inl (by simp)),
      View.read_writes_cons_unit_of_mem _ _ _ _ _ _ (ix2 r e) (off6 k) (fun a => by fin_cases a <;> simp [at128])]
    refine (pay18_apply _ _ _ r e).trans ?_
    rw [hg _ 0 (by omega) (off5 k), hw 0 _ (by omega)]
    exact congrArg₂ (· * ·) (congrArg₂ (· * ·) (congrArg (fun o => grouped o e) (funext fun e => out0_apply v28h0 v28h1 (ha _ _ _) l0 (holds H 0 inb_S2x128x256_S1x128x256_0_0_0) r e)) rfl) rfl

/-- A trip stores nothing outside its chunk's rows and the retention's columns. -/
theorem trip_rest (k : Fin k0_t1_loop.trips) (f22 : BufTy.Contents (Elt Ideal) arg22.view.ty) (f23 : BufTy.Contents (Elt Ideal) arg23.view.ty)
    (r : Fin 512) (j : Fin 1024) (hr : r.val < 128 * k.val ∨ 512 ≤ j.val) :
    arg22.view.read (Elt Ideal) (arg22.view.writes (Elt Ideal) f22 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v28 c0 X_arg6 X_arg7 X_arg8 X_arg9 X_arg10 X_arg11 X_arg12 X_arg13 X_arg21 k f22 f23).1) (ix2 r j)
      = arg22.view.read (Elt Ideal) f22 (ix2 r j) := by
  unfold tripL_k0_t1 trip_k0_t1
  dsimp only
  rcases hr with hr | hr
  · rw [View.read_writes_cons_unit_of_not_mem _ _ _ _ _ _ (off15 k) 0 (Or.inl hr), View.read_writes_cons_unit_of_not_mem _ _ _ _ _ _ (off13 k) 0 (Or.inl hr),
      View.read_writes_cons_unit_of_not_mem _ _ _ _ _ _ (off8 k) 0 (Or.inl hr), View.read_writes_cons_unit_of_not_mem _ _ _ _ _ _ (off6 k) 0 (Or.inl hr), View.writes_nil]
  · rw [View.read_writes_cons_unit_of_not_mem _ _ _ _ _ _ (off15 k) 1 (Or.inr hr),
      View.read_writes_cons_unit_of_not_mem _ _ _ _ _ _ (off13 k) 1 (Or.inr (by show 256 + 128 ≤ j.val; omega)),
      View.read_writes_cons_unit_of_not_mem _ _ _ _ _ _ (off8 k) 1 (Or.inr (by show 128 + 128 ≤ j.val; omega)),
      View.read_writes_cons_unit_of_not_mem _ _ _ _ _ _ (off6 k) 1 (Or.inr (by show 0 + 128 ≤ j.val; omega)), View.writes_nil]

/-- What the loop leaves after `k` trips: the state before the chunk it comes to, and the mixed rows of the chunks behind it. -/
theorem loop (v28h0 : ∀ i d, v28 (ix2 i (lane 0 d)) = 1#1) (v28h1 : ∀ i d, v28 (ix2 i (lane 1 d)) = 0#1)
    (R : Ready T P w q x4 x5 x6 x7 x8 x9 x10 x11 y)
    (A : Reads arg6 arg7 arg8 arg9 arg10 arg11 arg12 arg13 arg21 X_arg6 X_arg7 X_arg8 X_arg9 X_arg10 X_arg11 X_arg12 X_arg13 X_arg21 x4 x5 x6 x7 x8 x9 x10 x11 y)
    (g22 : BufTy.Contents (Elt Ideal) arg22.view.ty) (g23 : BufTy.Contents (Elt Ideal) arg23.view.ty) (H : Carried T P (4 * q) (arg23.view.read (Elt Ideal) g23))
    (Z : ∀ r (j : Fin 1024), 512 ≤ j.val → arg22.view.read (Elt Ideal) g22 (ix2 r j) = 0) (k : ℕ) (hk : k ≤ 4) :
    Carried T P (4 * q + k) (arg23.view.read (Elt Ideal) (arg23.view.writes (Elt Ideal) g23 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v28 c0 X_arg6 X_arg7 X_arg8 X_arg9 X_arg10 X_arg11 X_arg12 X_arg13 X_arg21 g22 g23 k).2)) ∧
    Mixed T P w q k (arg22.view.read (Elt Ideal) (arg22.view.writes (Elt Ideal) g22 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v28 c0 X_arg6 X_arg7 X_arg8 X_arg9 X_arg10 X_arg11 X_arg12 X_arg13 X_arg21 g22 g23 k).1)) := by
  induction k with
  | zero => exact ⟨H, fun k' _ h => absurd h (Nat.not_lt_zero _), Z⟩
  | succ k ih =>
    obtain ⟨hc, hm⟩ := ih (by omega)
    have hk' : k < 4 := by omega
    have ht : k < k0_t1_loop.trips := hk'
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v28 c0 X_arg6 X_arg7 X_arg8 X_arg9 X_arg10 X_arg11 X_arg12 X_arg13 X_arg21 g22 g23 ⟨k, ht⟩
    dsimp only at hs
    rw [hs]
    dsimp only
    rw [View.writes_append, View.writes_append]
    refine ⟨trip_state R ⟨k, ht⟩ hk' A _ _ hc, ?_, ?_⟩
    · intro k' hk4 hlt r h e
      rcases Nat.lt_succ_iff_lt_or_eq.mp hlt with hlt | rfl
      · exact (trip_rest ⟨k, ht⟩ _ _ _ _ (Or.inl (by show 128 * k' + r.val < 128 * k; omega))).trans (hm.done k' hk4 hlt r h e)
      · exact trip_block v28h0 v28h1 R ⟨k', ht⟩ hk' A _ _ hc r h e
    · intro r j hj
      exact (trip_rest ⟨k, ht⟩ _ _ _ _ (Or.inr hj)).trans (hm.zero r j hj)

end Cert.Layer.Retention

end
-- ==== Proof.RetentionPoint.lean ====
/- One grid point of the retention kernel: the block it writes, and the state it hands on. -/
module

public import proofs.«01_k».proof.Defs
public import proofs.«01_k».proof.Proof.Gen.RetentionIdeal.Frame
public import proofs.«01_k».proof.Proof.RetentionLoop
public import proofs.«01_k».proof.Proof.Layer

@[expose] public section

set_option maxRecDepth 16384

noncomputable section

namespace Cert.Layer.Retention

open Cert.RetentionIdeal Cert.RetentionIdeal.Gen Idealize.ShloMosaic Idealize.ShloMosaic.TcCoe Idealize.SL.Sem

variable {T : Tables} {P : Fin 2048 → Fin 2816 → EReal} {w : Fin 512 → EReal} {q : ℕ} {x4 x5 x6 : Vec Ideal S512x128 .f32}
  {x7 : Vec Ideal S2x128x256 .f32} {x8 x9 : Vec Ideal S2x128x128 .f32} {x10 : Vec Ideal S2x1x256 .f32} {x11 : Vec Ideal S1x512 .f32}
  {c : Dev nD} {i : grid0.Coords}
  {arg2 : Memref sig .tc .vmem S1x512x1024 .f32} {harg2 : arg2.IsWhole}
  {arg3 : Memref sig .tc .vmem S1x1024 .f32} {harg3 : arg3.IsWhole}
  {arg4 : Memref sig .tc .vmem S1024x2816 .bf16} {harg4 : arg4.IsWhole}
  {arg5 : Memref sig .tc .vmem S1024x1024 .bf16} {harg5 : arg5.IsWhole}
  {arg6 : Memref sig .tc .vmem S512x128 .f32} {harg6 : arg6.IsWhole}
  {arg7 : Memref sig .tc .vmem S512x128 .f32} {harg7 : arg7.IsWhole}
  {arg8 : Memref sig .tc .vmem S512x128 .f32} {harg8 : arg8.IsWhole}
  {arg9 : Memref sig .tc .vmem S2x128x256 .f32} {harg9 : arg9.IsWhole}
  {arg10 : Memref sig .tc .vmem S2x128x128 .f32} {harg10 : arg10.IsWhole}
  {arg11 : Memref sig .tc .vmem S2x128x128 .f32} {harg11 : arg11.IsWhole}
  {arg12 : Memref sig .tc .vmem S2x1x256 .f32} {harg12 : arg12.IsWhole}
  {arg13 : Memref sig .tc .vmem S1x512 .f32} {harg13 : arg13.IsWhole}
  {arg14 : Memref sig .tc .vmem S1x512 .f32} {harg14 : arg14.IsWhole}
  {arg15 : Memref sig .tc .vmem S1x128 .f32} {harg15 : arg15.IsWhole}
  {arg16 : Memref sig .tc .vmem S256x256 .bf16} {harg16 : arg16.IsWhole}
  {arg17 : Memref sig .tc .vmem S128x128 .i32} {harg17 : arg17.IsWhole}
  {arg18 : Memref sig .tc .smem S32x8 .f32} {harg18 : arg18.IsWhole}
  {arg19 : Memref sig .tc .smem S8 .f32} {harg19 : arg19.IsWhole}
  {arg20 : Memref sig .tc .vmem S1x512x1024 .f32} {harg20 : arg20.IsWhole}
  {arg21 : Memref sig .tc .vmem S512x2816 .f32} {harg21 : arg21.IsWhole}
  {arg22 : Memref sig .tc .vmem S512x1024 .bf16} {harg22 : arg22.IsWhole}
  {arg23 : Memref sig .tc .vmem S2x128x256 .f32} {harg23 : arg23.IsWhole}
  {arg24 : Memref sig .tc .vmem S2x640x128 .bf16} {harg24 : arg24.IsWhole}
  {arg25 : Memref sig .tc .vmem S2x2x640x128 .bf16} {harg25 : arg25.IsWhole}
  {arg26 : Memref sig .tc .vmem S8x128x128 .f32} {harg26 : arg26.IsWhole}
  {x0 : Vec Ideal S1x512x1024 .f32} {x1 : Vec Ideal S1x1024 .f32} {x2 : Vec Ideal S1024x2816 .bf16} {x3 : Vec Ideal S1024x1024 .bf16}
  {x12 : Vec Ideal S1x512 .f32} {x13 : Vec Ideal S1x128 .f32} {x14 : Vec Ideal S256x256 .bf16} {x15 : Vec Ideal S128x128 .i32} {x16 : Vec Ideal S32x8 .f32} {x17 : Vec Ideal S8 .f32}
  {xs2 : Vec Ideal S2x128x256 .f32}

theorem hz2 : (![0, 0] : Fin 2 → ℕ) = fun _ => 0 := by decide
theorem hz3 : (![0, 0, 0] : Fin 3 → ℕ) = fun _ => 0 := by decide

theorem pay38_apply (x0 : Vec Ideal S1x512x1024 .f32) (x1 : Vec Ideal S1x1024 .f32) (x2 : Vec Ideal S1024x2816 .bf16) (r : Fin 512) (e : Fin 2816) :
    k0_pay38 x0 x1 x2 (ix2 r e) = proj (fun k => x0 (ix3 0 r k)) (fun k => x1 (ix2 0 k)) (fun k => x2 (ix2 k e)) := by
  pointwise [k0_pay38]
  rfl

theorem pay37_apply (p : Fin 2) (l : Fin 128) (e : Fin 256) : k0_pay37 (F := Ideal) (ix3 p l e) = 0 := by
  pointwise [k0_pay37]

theorem pay40_apply (r : Fin 512) (e : Fin 1024) : k0_pay40 (F := Ideal) (ix2 r e) = 0 := by
  pointwise [k0_pay40]

theorem pay39_first (i : Fin 128) (d : Fin 64) : k0_pay39 (ix2 i (lane 0 d)) = 1#1 := by
  pointwise [k0_pay39]
  revert d
  decide +kernel

theorem pay39_second (i : Fin 128) (d : Fin 64) : k0_pay39 (ix2 i (lane 1 d)) = 0#1 := by
  pointwise [k0_pay39]
  revert d
  decide +kernel

/-- A row of the block the point writes: the layer's input and the mixed row through the output projection. -/
def rowOut (T : Tables) (P : Fin 2048 → Fin 2816 → EReal) (w : Fin 512 → EReal) (q : ℕ) (x0 : Vec Ideal S1x512x1024 .f32) (x3 : Vec Ideal S1024x1024 .bf16)
    (r : Fin 512) (e : Fin 1024) : EReal :=
  x0 (ix3 0 r e) + ∑ j : Fin 512, mixed T P w (4 * q + r.val / 128) ⟨r.val % 128, by omega⟩ ⟨j.val / 128, by omega⟩ ⟨j.val % 128, by omega⟩
    * x3 (ix2 ⟨j.val, by omega⟩ e)

theorem pay2_apply (x0 : Vec Ideal S1x512x1024 .f32) (x3 : Vec Ideal S1024x1024 .bf16) {x : Vec Ideal S512x1024 .bf16} (M : Mixed T P w q 4 x) (r : Fin 512) (e : Fin 1024) :
    k0_pay2 x0 x x3 (ix3 0 r e) = rowOut T P w q x0 x3 r e := by
  pointwise [k0_pay2]
  unfold rowOut
  congr 1
  have hz : ∀ j : Fin 512, x (ix2 r (Fin.natAdd 512 j)) * x3 (ix2 (Fin.natAdd 512 j) e) = 0 := fun j => by
    rw [M.zero r _ (Nat.le_add_right _ _), zero_mul]
  refine (Fin.sum_univ_add (a := 512) (b := 512) _).trans ?_
  rw [Finset.sum_congr rfl (fun j _ => hz j), Finset.sum_const_zero, add_zero]
  refine Finset.sum_congr rfl fun j _ => ?_
  have hd := M.done (r.val / 128) (by omega) (by omega) ⟨r.val % 128, by omega⟩ ⟨j.val / 128, by omega⟩ ⟨j.val % 128, by omega⟩
  rw [← hd]
  refine congrArg₂ (fun a b => x (ix2 a b) * x3 (ix2 (Fin.castAdd 512 j) e)) (Fin.ext ?_) (Fin.ext ?_)
  · show r.val = 128 * (r.val / 128) + r.val % 128; omega
  · show j.val = 128 * (j.val / 128) + j.val % 128; omega

theorem reads : Reads arg6 arg7 arg8 arg9 arg10 arg11 arg12 arg13 arg21 (harg6.unread x4) (harg7.unread x5) (harg8.unread x6) (harg9.unread x7) (harg10.unread x8)
    (harg11.unread x9) (harg12.unread x10) (harg13.unread x11) (arg21.view.writes (Elt Ideal) arg21.view.junk (kernelRun0_A.sl.HS0_1 (F := Ideal) c arg2 harg2 arg3 harg3 arg4 harg4 x0 x1 x2))
    x4 x5 x6 x7 x8 x9 x10 x11 (k0_pay38 x0 x1 x2) := by
  refine ⟨Memref.IsWhole.read_unread _ _, Memref.IsWhole.read_unread _ _, Memref.IsWhole.read_unread _ _, Memref.IsWhole.read_unread _ _, Memref.IsWhole.read_unread _ _,
    Memref.IsWhole.read_unread _ _, Memref.IsWhole.read_unread _ _, Memref.IsWhole.read_unread _ _, ?_⟩
  rw [View.read_writes_junk_eq_canon]
  unfold kernelRun0_A.sl.HS0_1
  rw [View.canon_unit_zero hz2]
  simp only [View.readAt_eq_ld, Memref.IsWhole.read_unread]
  rw [View.ld_unit_zero (S := S1x512x1024) hz3, View.ld_unit_zero (S := S1x1024) hz2, View.ld_unit_zero (S := S1024x2816) hz2]

theorem zeros (r : Fin 512) (j : Fin 1024) : arg22.view.read (Elt Ideal) (arg22.view.writes (Elt Ideal) arg22.view.junk (kernelRun0_A.sl.HS1_1 (F := Ideal))) (ix2 r j) = 0 := by
  rw [View.read_writes_junk_eq_canon]
  unfold kernelRun0_A.sl.HS1_1
  rw [View.canon_unit_zero hz2]
  exact pay40_apply r j

theorem started : Carried T P 0 (arg23.view.read (Elt Ideal) (arg23.view.writes (Elt Ideal) arg23.view.junk (kernelRun0_A.sl.HS2_1 (F := Ideal)))) := by
  rw [View.read_writes_junk_eq_canon]
  unfold kernelRun0_A.sl.HS2_1
  rw [View.canon_unit_zero hz3]
  exact fun p j d e => pay37_apply p _ _

/-- What the whole of a buffer's contents load as. -/
theorem cov_apply {s : Shape} {sp : Space} {e : EltTy} (mr : Memref sig .tc sp s e) (L L' : List (View.Piece (Elt Ideal) s e)) {off : Fin s.rank → ℕ} (h : off = fun _ => 0)
    (inb : ∀ a, off a + s.size a ≤ s.size a) : mr.view.readCov (L ++ L') (Rect.unit off s.size inb).toLoadRect = mr.view.read (Elt Ideal) (mr.view.writes (Elt Ideal) (mr.view.writes (Elt Ideal) mr.view.junk L') L) := by
  unfold View.readCov
  rw [View.readAt_eq_ld, View.ld_unit_zero h, View.writes_append]

/-- A point that starts a batch: its state starts from zero. -/
theorem pointA (hc0 : cond0_0 i) (R : Ready T P w 0 x4 x5 x6 x7 x8 x9 x10 x11 (k0_pay38 x0 x1 x2)) :
    (∀ r e, out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 (ix3 0 r e) = rowOut T P w 0 x0 x3 r e)
      ∧ Carried T P 4 (sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17) := by
  have hl := loop (𝒱 := Variants.none) (c := c) (bd := none) (i := i) (harg2 := harg2) (harg3 := harg3) (harg4 := harg4) (harg5 := harg5) (harg6 := harg6) (harg7 := harg7) (harg8 := harg8)
    (harg9 := harg9) (harg10 := harg10) (harg11 := harg11) (harg12 := harg12) (harg13 := harg13) (harg14 := harg14) (harg15 := harg15) (harg16 := harg16) (harg17 := harg17)
    (harg18 := harg18) (harg19 := harg19) (harg20 := harg20) (harg21 := harg21) (harg22 := harg22) (harg23 := harg23) (harg24 := harg24) (harg25 := harg25) (harg26 := harg26)
    (c0 := 0#32) pay39_first pay39_second R (reads (c := c) (harg2 := harg2) (harg3 := harg3) (harg4 := harg4) (harg6 := harg6) (harg7 := harg7) (harg8 := harg8) (harg9 := harg9) (harg10 := harg10) (harg11 := harg11) (harg12 := harg12) (harg13 := harg13))
    _ _ started (fun r j _ => zeros r j) 4 le_rfl
  constructor
  · intro r e
    unfold out0_A_18 kernelRun0_A
    rw [View.read_writes_junk_eq_canon]
    refine (congrFun (View.canon_unit_zero hz3 _ _) _).trans ?_
    unfold kernelRun0_A.sl.v36
    rw [cov_apply arg22 _ _ hz2]
    simp only [View.readAt_eq_ld, Memref.IsWhole.read_unread]
    rw [View.ld_unit_zero (S := S1x512x1024) hz3, View.ld_unit_zero (S := S1024x1024) hz2]
    exact pay2_apply x0 x3 hl.2 r e
  · unfold sout0_A_2 kernelRun0_A
    rw [View.read_writes_junk_eq_canon, ← View.read_writes_junk_eq_canon arg23.view, View.writes_append]
    exact hl.1

/-- A point that goes on with a batch: its state is what the point before it left. -/
theorem pointB (hc0 : ¬cond0_0 i) (R : Ready T P w q x4 x5 x6 x7 x8 x9 x10 x11 (k0_pay38 x0 x1 x2)) (H : Carried T P (4 * q) xs2) :
    (∀ r e, out0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 xs2 (ix3 0 r e) = rowOut T P w q x0 x3 r e)
      ∧ Carried T P (4 * q + 4) (sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 xs2) := by
  have hl := loop (𝒱 := Variants.none) (c := c) (bd := none) (i := i) (harg2 := harg2) (harg3 := harg3) (harg4 := harg4) (harg5 := harg5) (harg6 := harg6) (harg7 := harg7) (harg8 := harg8)
    (harg9 := harg9) (harg10 := harg10) (harg11 := harg11) (harg12 := harg12) (harg13 := harg13) (harg14 := harg14) (harg15 := harg15) (harg16 := harg16) (harg17 := harg17)
    (harg18 := harg18) (harg19 := harg19) (harg20 := harg20) (harg21 := harg21) (harg22 := harg22) (harg23 := harg23) (harg24 := harg24) (harg25 := harg25) (harg26 := harg26)
    (c0 := 0#32) pay39_first pay39_second R (reads (c := c) (harg2 := harg2) (harg3 := harg3) (harg4 := harg4) (harg6 := harg6) (harg7 := harg7) (harg8 := harg8) (harg9 := harg9) (harg10 := harg10) (harg11 := harg11) (harg12 := harg12) (harg13 := harg13))
    _ (harg23.unread xs2) (by rw [Memref.IsWhole.read_unread]; exact H) (fun r j _ => zeros r j) 4 le_rfl
  constructor
  · intro r e
    unfold out0_B_18 kernelRun0_B
    rw [View.read_writes_junk_eq_canon]
    refine (congrFun (View.canon_unit_zero hz3 _ _) _).trans ?_
    unfold kernelRun0_B.sl.v36
    rw [cov_apply arg22 _ _ hz2]
    simp only [View.readAt_eq_ld, Memref.IsWhole.read_unread]
    rw [View.ld_unit_zero (S := S1x512x1024) hz3, View.ld_unit_zero (S := S1024x1024) hz2]
    exact pay2_apply x0 x3 hl.2 r e
  · intro p j d e
    refine (View.read_writes_apply_eq _ _ arg23.view (harg23.unread xs2) _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 xs2 _)).trans ?_
    exact hl.1 p j d e

end Cert.Layer.Retention

end
-- ==== Proof.RetentionRef.lean ====
/- The retention reference's result as the layer's plain functions of its arguments. -/
module

public import proofs.«01_k».proof.Defs
public import proofs.«01_k».proof.Proof.Gen.RetentionRefIdeal.Run
public import proofs.«01_k».proof.Proof.Gen.RetentionRefIdeal.Read
public import proofs.«01_k».proof.Proof.RetentionSpec

@[expose] public section

set_option maxRecDepth 16384

noncomputable section

namespace Cert.Layer.Retention

open Cert.RetentionRefIdeal Cert.RetentionRefIdeal.Gen Cert.RetentionRefIdeal.Read Idealize.ShloMosaic Idealize.ShloMosaic.TcCoe Idealize.SL.Sem

/-- The tables the reference builds. -/
def T : Tables where
  cos s f := val_main_v35 (F := Ideal) (ix2 s f)
  sin s f := val_main_v37 (F := Ideal) (ix2 s f)
  dec h i j := val_main_v116 (F := Ideal) (ix3 h i j)
  zeta h j := val_main_v129 (F := Ideal) (ix2 h j)
  xi h i := val_main_v243 (F := Ideal) (ix2 h i)
  cd h := val_main_v136 (F := Ideal) (ix1 h)

/-- A batch's projected rows. -/
def P (x0 : Vec Ideal S8x2048x1024 .f32) (x1 : Vec Ideal S1024 .f32) (x2 : Vec Ideal S1024x2816 .f32) (b : Fin 8) (s : Fin 2048) (c : Fin 2816) : EReal :=
  proj (fun k => x0 (ix3 b s k)) (fun k => x1 (ix1 k)) (fun k => x2 (ix2 k c))

theorem v13_apply (x0 x1 x2) (b : Fin 8) (s : Fin 2048) (c : Fin 2816) : val_main_v13 (F := Ideal) x0 x1 x2 (ix3 b s c) = P x0 x1 x2 b s c := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

theorem v51_apply (x0 x1 x2) (b : Fin 8) (s : Fin 2048) (h : Fin 4) (d : Fin 64) :
    val_main_v51 (F := Ideal) x0 x1 x2 (ix4 b s h d) = query T (P x0 x1 x2 b) h s d := by
  have hp := v13_apply x0 x1 x2 b
  unfold val_main_v51 val_main_v45 val_main_v50 val_main_v42 val_main_v44 val_main_v47 val_main_v49 val_main_v39 val_main_v40 val_main_v22 val_main_v14
  generalize val_main_v13 (F := Ideal) x0 x1 x2 = y at hp ⊢
  unfold query rotated T
  pointwise [val_main_v41, val_main_v43, val_main_v46, val_main_v48, val_main_v36, val_main_v38]
  simp only [hp, Nat.mul_comm h.val 64]
  by_cases hd : d.val < 32
  · simp only [dif_pos hd]
  · have h32 : 32 + (d.val - 32) = d.val := by omega
    simp only [dif_neg hd, h32]

theorem v65_eq : val_main_v65 (F := Ideal) = val_main_v35 (F := Ideal) := rfl

theorem v67_eq : val_main_v67 (F := Ideal) = val_main_v37 (F := Ideal) := rfl

theorem v81_apply (x0 x1 x2) (b : Fin 8) (s : Fin 2048) (h : Fin 4) (d : Fin 64) :
    val_main_v81 (F := Ideal) x0 x1 x2 (ix4 b s h d) = key T (P x0 x1 x2 b) h s d := by
  have hp := v13_apply x0 x1 x2 b
  unfold val_main_v81 val_main_v75 val_main_v80 val_main_v72 val_main_v74 val_main_v77 val_main_v79 val_main_v69 val_main_v70 val_main_v52 val_main_v15
  generalize val_main_v13 (F := Ideal) x0 x1 x2 = y at hp ⊢
  unfold key rotated T
  pointwise [val_main_v71, val_main_v73, val_main_v76, val_main_v78, val_main_v66, val_main_v68]
  simp only [v65_eq, v67_eq, hp, Nat.mul_comm h.val 64]
  by_cases hd : d.val < 32
  · simp only [dif_pos hd]
  · have h32 : 32 + (d.val - 32) = d.val := by omega
    simp only [dif_neg hd, h32]

theorem tok_eq (n : Fin 16) (j : Fin 128) (hb : n.val * 128 + j.val < 2048) : (⟨n.val * 128 + j.val, hb⟩ : Fin 2048) = tok n j := by
  refine Fin.ext ?_
  show n.val * 128 + j.val = (128 * n.val + j.val) % 2048
  omega

theorem v86_apply (x0 x1 x2) (b : Fin 8) (h : Fin 4) (n : Fin 16) (j : Fin 128) (d : Fin 64) :
    val_main_v86 (F := Ideal) x0 x1 x2 (ix5 b h n j d) = query T (P x0 x1 x2 b) h (tok n j) d := by
  have hq := v51_apply x0 x1 x2 b
  unfold val_main_v86 val_main_v85
  generalize val_main_v51 (F := Ideal) x0 x1 x2 = y at hq ⊢
  pointwise
  rw [tok_eq, hq]

theorem v88_apply (x0 x1 x2) (b : Fin 8) (h : Fin 4) (n : Fin 16) (j : Fin 128) (d : Fin 64) :
    val_main_v88 (F := Ideal) x0 x1 x2 (ix5 b h n j d) = key T (P x0 x1 x2 b) h (tok n j) d * scale := by
  have hk := v81_apply x0 x1 x2 b
  unfold val_main_v88 val_main_v87 val_main_v84 scale
  generalize val_main_v81 (F := Ideal) x0 x1 x2 = y at hk ⊢
  pointwise [val_main_v83, val_main_cst_6]
  rw [tok_eq, hk]

theorem v90_apply (x0 x1 x2) (b : Fin 8) (h : Fin 4) (n : Fin 16) (j : Fin 128) (e : Fin 128) :
    val_main_v90 (F := Ideal) x0 x1 x2 (ix5 b h n j e) = value (P x0 x1 x2 b) h (tok n j) e := by
  have hp := v13_apply x0 x1 x2 b
  unfold val_main_v90 val_main_v89 val_main_v82 val_main_v16 value
  generalize val_main_v13 (F := Ideal) x0 x1 x2 = y at hp ⊢
  pointwise
  simp only [hp, tok_eq, Nat.mul_comm h.val 128]

end Cert.Layer.Retention

end
-- ==== Proof.RetentionTables.lean ====
/- The kernel's tables, as its program computes them before the call: each is the reference's table of the same name, laid
   out as the call's blocks read it. -/
module

public import proofs.«01_k».proof.Defs
public import proofs.«01_k».proof.Proof.Gen.RetentionIdeal.Value
public import proofs.«01_k».proof.Proof.RetentionRef
public import proofs.«01_k».proof.Proof.RetentionLoop
public import Idealize.ShloMosaic.Lib.StableHlo.ReadAt

@[expose] public section

set_option maxRecDepth 16384

noncomputable section

namespace Cert.Layer.Retention

open Cert.RetentionIdeal Cert.RetentionIdeal.Gen Cert.RetentionIdeal.Value Cert.RetentionRefIdeal.Read Idealize.ShloMosaic Idealize.ShloMosaic.TcCoe Idealize.SL.Sem

variable (m : (ℓ : Loc nD τ sig) → Buf (Elt Ideal) ℓ) (c : Dev nD)

theorem vcol_lt (k : Fin 128) : (vcol 0 k).val < 128 := by show 128 * 0 + k.val < 128; omega
theorem vcol_not_lt (k : Fin 128) : ¬ (vcol 1 k).val < 128 := by show ¬ 128 * 1 + k.val < 128; omega
theorem vcol_zero (k : Fin 128) : (vcol 0 k).val = k.val := by show 128 * 0 + k.val = k.val; omega
theorem vcol_one (k : Fin 128) : (vcol 1 k).val - 128 = k.val := by show 128 * 1 + k.val - 128 = k.val; omega
theorem lane_lt (d : Fin 64) : (lane 0 d).val < 64 := by show 64 * 0 + d.val < 64; omega
theorem lane_not_lt (d : Fin 64) : ¬ (lane 1 d).val < 64 := by show ¬ 64 * 1 + d.val < 64; omega
theorem lane_mod (j : Fin 2) (d : Fin 64) : (lane j d).val % 64 = d.val := by show (64 * j.val + d.val) % 64 = d.val; omega

theorem Vcos (s : Fin 2048) (j : Fin 2) (d : Fin 64) : V m c main_v18 (ix2 s (lane j d)) = T.cos s ⟨d.val % 32, by omega⟩ := by
  unfold V
  after_reads_at
  by_cases hd : (lane j d).val % 64 < 32
  · have e : (lane j d).val % 64 = d.val % 32 := by rw [lane_mod] at hd ⊢; omega
    rw [dif_pos hd]
    after_reads_at
    rw [e]
    rfl
  · have e : (lane j d).val % 64 - 32 = d.val % 32 := by rw [lane_mod] at hd ⊢; omega
    rw [dif_neg hd]
    after_reads_at
    rw [e]
    rfl

theorem VsinLo (s : Fin 2048) (j : Fin 2) (d : Fin 64) (h : d.val < 32) : V m c main_v23 (ix2 s (lane j d)) = -T.sin s ⟨d.val, h⟩ := by
  unfold V
  after_reads_at
  rw [dif_pos (show (lane j d).val % 64 < 32 by rwa [lane_mod])]
  after_reads_at
  rw [lane_mod]
  rfl

theorem VzeroLo (s : Fin 2048) (j : Fin 2) (d : Fin 64) (h : ¬ d.val < 32) : V m c main_v23 (ix2 s (lane j d)) = (0 : EReal) := by
  unfold V
  after_reads_at
  rw [dif_neg (show ¬ (lane j d).val % 64 < 32 by rwa [lane_mod])]
  after_reads_at

theorem VzeroHi (s : Fin 2048) (j : Fin 2) (d : Fin 64) (h : d.val < 32) : V m c main_v27 (ix2 s (lane j d)) = (0 : EReal) := by
  unfold V
  after_reads_at
  rw [dif_pos (show (lane j d).val % 64 < 32 by rwa [lane_mod])]
  after_reads_at

theorem VsinHi (s : Fin 2048) (j : Fin 2) (d : Fin 64) (h : ¬ d.val < 32) : V m c main_v27 (ix2 s (lane j d)) = T.sin s ⟨d.val - 32, by omega⟩ := by
  unfold V
  after_reads_at
  rw [dif_neg (show ¬ (lane j d).val % 64 < 32 by rwa [lane_mod])]
  after_reads_at
  rw [lane_mod]
  rfl

/-- The logarithm of a head's base. -/
def logBase (h : Fin 4) : EReal :=
  Ideal.log (1 - Ideal.exp (Ideal.ofBits .f32 0x3F317218#32 * (Ideal.ofBits .f32 0xC0A00000#32 - FloatOps.sitofp (F := Ideal) .f32 (BitVec.ofNat 32 h.val))))

/-- A position in its chunk, as a number. -/
def pos (i : Fin 128) : EReal := FloatOps.sitofp (F := Ideal) .f32 (BitVec.ofNat 32 i.val)

/-- The decay inside a chunk, read to the number it is: a power of the head's base for a key no later than the query. -/
theorem T_dec (h : Fin 4) (i k : Fin 128) : T.dec h i k =
    if (0 : EReal) ≤ pos i - pos k then Ideal.exp (logBase h * max (pos i - pos k) 0) else (constant (F := Ideal) S_ .f32 0x00000000#32) ix0 := by
  show val_main_v116 (F := Ideal) (ix3 h i k) = _
  pointwise [val_main_v91, val_main_v92, val_main_v93, val_main_v94, val_main_v95, val_main_v96, val_main_v97, val_main_v98, val_main_v99, val_main_cst_7, val_main_cst_8, val_main_cst_9, val_main_v100, val_main_v101, val_main_v102, val_main_v103, val_main_v104, val_main_v105, val_main_v106, val_main_v107, val_main_v108, val_main_v109, val_main_v110, val_main_v111, val_main_v112, val_main_v113, val_main_v114, val_main_v115, val_main_v116, val_main_cst_10, val_main_cst_11, val_main_cst_12, val_main_call0_v0, val_main_call0_v1, val_main_call0_v2, pos, logBase]
  refine if_congr Iff.rfl rfl ?_
  show Ideal.ofBits .f32 0x00000000#32 = 0
  exact Ideal.ofBits_zero _

theorem T_xi (h : Fin 4) (i : Fin 128) : T.xi h i = Ideal.exp (logBase h * (pos i + 1)) := by
  show val_main_v243 (F := Ideal) (ix2 h i) = _
  pointwise [val_main_v91, val_main_v92, val_main_v93, val_main_v94, val_main_v95, val_main_v96, val_main_v97, val_main_v98, val_main_v99, val_main_cst_7, val_main_cst_8, val_main_cst_9, val_main_v100, val_main_v236, val_main_v237, val_main_v238, val_main_v239, val_main_v240, val_main_v241, val_main_v242, val_main_v243, val_main_cst_16, pos, logBase]

theorem T_zeta (h : Fin 4) (i : Fin 128) : T.zeta h i = Ideal.exp (logBase h * (Ideal.ofBits .f32 0x42FE0000#32 - pos i)) := by
  show val_main_v129 (F := Ideal) (ix2 h i) = _
  pointwise [val_main_v91, val_main_v92, val_main_v93, val_main_v94, val_main_v95, val_main_v96, val_main_v97, val_main_v98, val_main_v99, val_main_cst_7, val_main_cst_8, val_main_cst_9, val_main_v100, val_main_v122, val_main_v123, val_main_v124, val_main_v125, val_main_v126, val_main_v127, val_main_v128, val_main_v129, val_main_cst_13, pos, logBase]

theorem T_cd (h : Fin 4) : T.cd h = Ideal.exp (logBase h * Ideal.ofBits .f32 0x43000000#32) := by
  show val_main_v136 (F := Ideal) (ix1 h) = _
  pointwise [val_main_v91, val_main_v92, val_main_v93, val_main_v94, val_main_v95, val_main_v96, val_main_v97, val_main_v98, val_main_v99, val_main_cst_7, val_main_cst_8, val_main_cst_9, val_main_v134, val_main_v135, val_main_v136, val_main_cst_14, pos, logBase]

theorem Vdec (p j : Fin 2) (i k : Fin 128) : V m c main_v68 (ix3 p i (vcol j k)) = T.dec (head p j) i k * scale := by
  unfold V
  match p, j with
  | 0, 0 => after_reads_at; rw [dif_pos (vcol_lt k)]; after_reads_at; simp only [vcol_zero]; rw [T_dec]; rfl
  | 0, 1 => after_reads_at; rw [dif_neg (vcol_not_lt k)]; after_reads_at; simp only [vcol_one]; rw [T_dec]; rfl
  | 1, 0 => after_reads_at; rw [dif_pos (vcol_lt k)]; after_reads_at; simp only [vcol_zero]; rw [T_dec]; rfl
  | 1, 1 => after_reads_at; rw [dif_neg (vcol_not_lt k)]; after_reads_at; simp only [vcol_one]; rw [T_dec]; rfl

theorem Vxi (p j : Fin 2) (i : Fin 128) (d : Fin 64) : V m c main_v175 (ix3 p i (lane j d)) = T.xi (head p j) i := by
  unfold V
  match p, j with
  | 0, 0 => after_reads_at; rw [dif_pos (lane_lt d)]; after_reads_at; rw [T_xi]; rfl
  | 0, 1 => after_reads_at; rw [dif_neg (lane_not_lt d)]; after_reads_at; rw [T_xi]; rfl
  | 1, 0 => after_reads_at; rw [dif_pos (lane_lt d)]; after_reads_at; rw [T_xi]; rfl
  | 1, 1 => after_reads_at; rw [dif_neg (lane_not_lt d)]; after_reads_at; rw [T_xi]; rfl

theorem Vzeta (p j : Fin 2) (i : Fin 128) (d : Fin 64) : V m c main_v200 (ix3 p i (lane j d)) = T.zeta (head p j) i * scale := by
  unfold V
  match p, j with
  | 0, 0 => after_reads_at; rw [dif_pos (lane_lt d)]; after_reads_at; rw [T_zeta]; rfl
  | 0, 1 => after_reads_at; rw [dif_neg (lane_not_lt d)]; after_reads_at; rw [T_zeta]; rfl
  | 1, 0 => after_reads_at; rw [dif_pos (lane_lt d)]; after_reads_at; rw [T_zeta]; rfl
  | 1, 1 => after_reads_at; rw [dif_neg (lane_not_lt d)]; after_reads_at; rw [T_zeta]; rfl

theorem Vcd (p j : Fin 2) (k : Fin 128) : V m c main_v106 (ix3 p 0 (vcol j k)) = T.cd (head p j) := by
  unfold V
  match p, j with
  | 0, 0 => after_reads_at; rw [dif_pos (vcol_lt k)]; after_reads_at; rw [T_cd]; rfl
  | 0, 1 => after_reads_at; rw [dif_neg (vcol_not_lt k)]; after_reads_at; rw [T_cd]; rfl
  | 1, 0 => after_reads_at; rw [dif_pos (vcol_lt k)]; after_reads_at; rw [T_cd]; rfl
  | 1, 1 => after_reads_at; rw [dif_neg (vcol_not_lt k)]; after_reads_at; rw [T_cd]; rfl

theorem Vweight (e : Fin 512) : V m c main_v205 (ix2 0 e) = m ((c : Thread nD τ).loc main_arg3) (ix1 e) := by
  unfold V
  after_reads_at

end Cert.Layer.Retention

end
-- ==== Proof.RetentionRef2.lean ====
/- The retention reference's recurrence and its output, as the layer's plain functions of its arguments. -/
module

public import proofs.«01_k».proof.Proof.RetentionRef

@[expose] public section

set_option maxRecDepth 16384

noncomputable section

namespace Cert.Layer.Retention

open Cert.RetentionRefIdeal Cert.RetentionRefIdeal.Gen Cert.RetentionRefIdeal.Read Idealize.ShloMosaic Idealize.ShloMosaic.TcCoe Idealize.SL.Sem

theorem v133_apply (x0 x1 x2) (n : Fin 16) (b : Fin 8) (h : Fin 4) (d : Fin 64) (e : Fin 128) :
    val_main_v133 (F := Ideal) x0 x1 x2 (ix5 n b h d e) = added T (P x0 x1 x2 b) h n d e := by
  have hk := fun j d => v88_apply x0 x1 x2 b h n j d
  have hv := fun j e => v90_apply x0 x1 x2 b h n j e
  unfold val_main_v133 val_main_v132 added
  generalize val_main_v88 (F := Ideal) x0 x1 x2 = y at hk ⊢
  generalize val_main_v90 (F := Ideal) x0 x1 x2 = z at hv ⊢
  pointwise [val_main_v131, val_main_v130]
  simp only [hk, hv]
  rfl

theorem v121_apply (x0 x1 x2) (b : Fin 8) (h : Fin 4) (n : Fin 16) (i : Fin 128) (e : Fin 128) :
    val_main_v121 (F := Ideal) x0 x1 x2 (ix5 b h n i e) = ∑ j, (∑ d, query T (P x0 x1 x2 b) h (tok n i) d * (key T (P x0 x1 x2 b) h (tok n j) d * scale)) * T.dec h i j * value (P x0 x1 x2 b) h (tok n j) e := by
  have hq := fun j d => v86_apply x0 x1 x2 b h n j d
  have hk := fun j d => v88_apply x0 x1 x2 b h n j d
  have hv := fun j e => v90_apply x0 x1 x2 b h n j e
  unfold val_main_v121 val_main_v120 val_main_v117
  generalize val_main_v88 (F := Ideal) x0 x1 x2 = y at hk ⊢
  generalize val_main_v86 (F := Ideal) x0 x1 x2 = u at hq ⊢
  generalize val_main_v90 (F := Ideal) x0 x1 x2 = z at hv ⊢
  pointwise [val_main_v119, val_main_v118]
  simp only [hq, hk, hv]
  rfl

end Cert.Layer.Retention

end
-- ==== Proof.RetentionRef3.lean ====
/- The retention reference's recurrence and its output, as the layer's plain functions of its arguments. -/
module

public import proofs.«01_k».proof.Proof.RetentionRef2

@[expose] public section

set_option maxRecDepth 16384

noncomputable section

namespace Cert.Layer.Retention

open Cert.RetentionRefIdeal Cert.RetentionRefIdeal.Gen Cert.RetentionRefIdeal.Read Idealize.ShloMosaic Idealize.ShloMosaic.TcCoe Idealize.SL.Sem

/-- One step of the recurrence: the state a chunk meets, decayed, and what the chunk adds. -/
theorem step (x0 x1 x2) (b : Fin 8) (h : Fin 4) (n : Fin 16) {y : Vec Ideal S8x4x64x128 .f32} (hs : S16x8x4x64x128.Slices ![n.val, 0, 0, 0, 0] S1x8x4x64x128)
    (hy : ∀ d e, y (ix4 b h d e) = state T (P x0 x1 x2 b) h n d e) (d : Fin 64) (e : Fin 128) :
    (addf (F := Ideal) (φ := .f32) (mulf (F := Ideal) (φ := .f32) (val_main_v139 (F := Ideal)) y)
      (shapeCast S8x4x64x128 (extractStridedSlice S1x8x4x64x128 ![n.val, 0, 0, 0, 0] (val_main_v133 (F := Ideal) x0 x1 x2) hs) shapeCasts_S1x8x4x64x128_S8x4x64x128) : Vec Ideal S8x4x64x128 .f32) (ix4 b h d e)
      = state T (P x0 x1 x2 b) h (n.val + 1) d e := by
  have ha := v133_apply x0 x1 x2 n b h d e
  show _ = T.cd h * state T (P x0 x1 x2 b) h n d e + added T (P x0 x1 x2 b) h n d e
  rw [← ha, ← hy]
  generalize val_main_v133 (F := Ideal) x0 x1 x2 = z
  pointwise [val_main_v139, val_main_v137]
  rfl

/-- The states before the sixteen chunks, as the reference computes them one after another. -/
def states (x0 : Vec Ideal S8x2048x1024 .f32) (x1 : Vec Ideal S1024 .f32) (x2 : Vec Ideal S1024x2816 .f32) : Fin 16 → Vec Ideal S8x4x64x128 .f32 :=
  ![(val_main_v138 (F := Ideal)), (val_main_v143 (F := Ideal) x0 x1 x2), (val_main_v148 (F := Ideal) x0 x1 x2), (val_main_v153 (F := Ideal) x0 x1 x2),
   (val_main_v158 (F := Ideal) x0 x1 x2), (val_main_v163 (F := Ideal) x0 x1 x2), (val_main_v168 (F := Ideal) x0 x1 x2), (val_main_v173 (F := Ideal) x0 x1 x2),
   (val_main_v178 (F := Ideal) x0 x1 x2), (val_main_v183 (F := Ideal) x0 x1 x2), (val_main_v188 (F := Ideal) x0 x1 x2), (val_main_v193 (F := Ideal) x0 x1 x2),
   (val_main_v198 (F := Ideal) x0 x1 x2), (val_main_v203 (F := Ideal) x0 x1 x2), (val_main_v208 (F := Ideal) x0 x1 x2), (val_main_v213 (F := Ideal) x0 x1 x2)]

theorem slices_added (n : Fin 16) : S16x8x4x64x128.Slices ![n.val, 0, 0, 0, 0] S1x8x4x64x128 := by
  fin_cases n <;> decide

theorem states_succ (x0 x1 x2) (n : Fin 15) : states x0 x1 x2 n.succ
    = addf (F := Ideal) (φ := .f32) (mulf (F := Ideal) (φ := .f32) (val_main_v139 (F := Ideal)) (states x0 x1 x2 n.castSucc))
      (shapeCast S8x4x64x128 (extractStridedSlice S1x8x4x64x128 ![n.castSucc.val, 0, 0, 0, 0] (val_main_v133 (F := Ideal) x0 x1 x2) (slices_added n.castSucc)) shapeCasts_S1x8x4x64x128_S8x4x64x128) := by
  fin_cases n <;> rfl

theorem states_apply (x0 x1 x2) (b : Fin 8) (h : Fin 4) (n : Fin 16) :
    ∀ d e, states x0 x1 x2 n (ix4 b h d e) = state T (P x0 x1 x2 b) h n d e := by
  induction n using Fin.induction with
  | zero =>
    intro d e
    show val_main_v138 (F := Ideal) (ix4 b h d e) = 0
    pointwise [val_main_v138, val_main_cst_15]
  | succ n ih =>
    intro d e
    rw [states_succ]
    exact step x0 x1 x2 b h n.castSucc (slices_added n.castSucc) ih d e

/-- Sixteen arrays stacked on a new first axis, read at an index. -/
theorem stack_apply (y : Fin 16 → Vec Ideal S8x4x64x128 .f32)
    (hc : Shape.Concatenates ((List.ofFn fun n : Fin 16 => (⟨S1x8x4x64x128, broadcastInDim S1x8x4x64x128 ![1, 2, 3, 4] bcast_S8x4x64x128_S1x8x4x64x128_1_2_3_4 (y n)⟩
        : (s : Shape) × (s.Idx → EReal))).map (·.1)) S16x8x4x64x128 0) (n : Fin 16) (b : Fin 8) (h : Fin 4) (d : Fin 64) (e : Fin 128) :
    concatenate S16x8x4x64x128 0 (List.ofFn fun n : Fin 16 => (⟨S1x8x4x64x128, broadcastInDim S1x8x4x64x128 ![1, 2, 3, 4] bcast_S8x4x64x128_S1x8x4x64x128_1_2_3_4 (y n)⟩
        : (s : Shape) × (s.Idx → EReal))) hc (ix5 n b h d e) = y n (ix4 b h d e) := by
  refine (concatenate_ofFn_unit_apply (s₁ := S1x8x4x64x128) _ _ hc rfl rfl _ n rfl (ix5 0 b h d e) (fun a ha => ?_)).trans ?_
  · match a, ha with
    | ⟨0, _⟩, ha => exact absurd rfl ha
    | ⟨1, _⟩, _ => rfl
    | ⟨2, _⟩, _ => rfl
    | ⟨3, _⟩, _ => rfl
    | ⟨4, _⟩, _ => rfl
  · generalize y n = z
    pointwise []

theorem v235_eq (x0 x1 x2) (n : Fin 16) (b : Fin 8) (h : Fin 4) (d : Fin 64) (e : Fin 128) :
    val_main_v235 (F := Ideal) x0 x1 x2 (ix5 n b h d e) = states x0 x1 x2 n (ix4 b h d e) :=
  stack_apply (states x0 x1 x2) concatenates_S1x8x4x64x128_S1x8x4x64x128_S1x8x4x64x128_S1x8x4x64x128_S1x8x4x64x128_S1x8x4x64x128_S1x8x4x64x128_S1x8x4x64x128_S1x8x4x64x128_S1x8x4x64x128_S1x8x4x64x128_S1x8x4x64x128_S1x8x4x64x128_S1x8x4x64x128_S1x8x4x64x128_S1x8x4x64x128_S16x8x4x64x128_d0 n b h d e

end Cert.Layer.Retention

end
-- ==== Proof.RetentionRefHeads.lean ====
/- The retention reference's outputs of the heads: what a chunk's own keys give and what the state gives. -/
module

public import proofs.«01_k».proof.Proof.RetentionRef3

@[expose] public section

set_option maxRecDepth 16384

noncomputable section

namespace Cert.Layer.Retention

open Cert.RetentionRefIdeal Cert.RetentionRefIdeal.Gen Cert.RetentionRefIdeal.Read Idealize.ShloMosaic Idealize.ShloMosaic.TcCoe Idealize.SL.Sem

theorem v246_apply (x0 x1 x2) (b : Fin 8) (h : Fin 4) (n : Fin 16) (i : Fin 128) (d : Fin 64) :
    val_main_v246 (F := Ideal) x0 x1 x2 (ix5 b h n i d) = query T (P x0 x1 x2 b) h (tok n i) d * T.xi h i := by
  rw [← v86_apply x0 x1 x2 b h n i d]
  unfold val_main_v246
  generalize val_main_v86 (F := Ideal) x0 x1 x2 = u
  pointwise [val_main_v245, val_main_v244]
  rfl

theorem v248_apply (x0 x1 x2) (b : Fin 8) (h : Fin 4) (n : Fin 16) (i : Fin 128) (e : Fin 128) :
    val_main_v248 (F := Ideal) x0 x1 x2 (ix5 b h n i e) = retained T (P x0 x1 x2 b) h n i e := by
  have hs := fun d => (v235_eq x0 x1 x2 n b h d e).trans (states_apply x0 x1 x2 b h n d e)
  show val_main_v121 (F := Ideal) x0 x1 x2 (ix5 b h n i e) + val_main_v247 (F := Ideal) x0 x1 x2 (ix5 b h n i e) = _
  rw [v121_apply, val_main_v247_apply]
  unfold retained
  refine congrArg (_ + ·) (Finset.sum_congr rfl fun d _ => ?_)
  rw [← v246_apply x0 x1 x2 b h n i d, ← hs d]
  refine congrArg₂ (· * ·) (congrArg (val_main_v246 (F := Ideal) x0 x1 x2) (funext fun a => ?_)) (congrArg (val_main_v235 (F := Ideal) x0 x1 x2) (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

theorem v250_apply (x0 x1 x2) (b : Fin 8) (s : Fin 2048) (h : Fin 4) (e : Fin 128) :
    val_main_v250 (F := Ideal) x0 x1 x2 (ix4 b s h e)
      = retained T (P x0 x1 x2 b) h (s.val / 128) ⟨s.val % 128, by omega⟩ e := by
  have hr := v248_apply x0 x1 x2 b h ⟨s.val / 128, by omega⟩ ⟨s.val % 128, by omega⟩ e
  rw [← hr]
  unfold val_main_v250 val_main_v249
  generalize val_main_v248 (F := Ideal) x0 x1 x2 = y
  pointwise []

end Cert.Layer.Retention

end
-- ==== Proof.RetentionRefNorm.lean ====
/- The retention reference's group norm: one element of a head's normalised output row. -/
module

public import proofs.«01_k».proof.Proof.RetentionRef

@[expose] public section

set_option maxRecDepth 16384

noncomputable section

namespace Cert.Layer.Retention

open Cert.RetentionRefIdeal Cert.RetentionRefIdeal.Gen Cert.RetentionRefIdeal.Read Idealize.ShloMosaic Idealize.ShloMosaic.TcCoe Idealize.SL.Sem

/-- A sum along the last axis, read at an index of the sums broadcast back over it. -/
theorem sum_last (y : Vec Ideal S8x2048x4x128 .f32) (z : Vec Ideal S_ .f32) (hz : z (Shape.Idx.first h_S_) = (0 : EReal)) (b : Fin 8) (s : Fin 2048) (h : Fin 4) :
    (Host.reduceAdd (F := Ideal) (φ := .f32) y z reducesTo_S8x2048x4x128_S8x2048x4_d3 h_S_ : Vec Ideal S8x2048x4 .f32) (ix3 b s h) = ∑ j, y (ix4 b s h j) := by
  simp only [Host.reduceAdd, Ideal.hostReduceAdd_def]
  rw [Ideal.hostReduceAdd_single reducesTo_S8x2048x4x128_S8x2048x4_d3 (by decide), hz, zero_add]
  refine Finset.sum_congr rfl fun k _ => ?_
  exact congrArg y (funext fun a => Fin.ext (by match a with | ⟨0, _⟩ => rfl | ⟨1, _⟩ => rfl | ⟨2, _⟩ => rfl | ⟨3, _⟩ => rfl))

theorem v254_apply (x0 x1 x2) (b : Fin 8) (s : Fin 2048) (h : Fin 4) :
    val_main_v254 (F := Ideal) x0 x1 x2 (ix4 b s h 0)
      = Ideal.div (∑ j, val_main_v250 (F := Ideal) x0 x1 x2 (ix4 b s h j)) (Ideal.ofBits .f32 0x43000000#32) := by
  have hm := sum_last (val_main_v250 (F := Ideal) x0 x1 x2) (val_main_cst_17 (F := Ideal)) (Ideal.ofBits_zero .f32) b s h
  rw [← hm]
  unfold val_main_v254 val_main_v252 val_main_v251
  generalize (Host.reduceAdd (F := Ideal) (φ := .f32) (val_main_v250 (F := Ideal) x0 x1 x2) (val_main_cst_17 (F := Ideal)) reducesTo_S8x2048x4x128_S8x2048x4_d3 h_S_ : Vec Ideal S8x2048x4 .f32) = u
  pointwise [val_main_v253, val_main_cst_18]

theorem subf_def (a b : EReal) : FloatOps.subf (F := Ideal) (φ := .f32) a b = a - b := rfl
theorem mulf_def (a b : EReal) : FloatOps.mulf (F := Ideal) (φ := .f32) a b = a * b := rfl
theorem addf_def (a b : EReal) : FloatOps.addf (F := Ideal) (φ := .f32) a b = a + b := rfl

theorem idx255 (b : Fin 8) (s : Fin 2048) (h : Fin 4) (e : Fin 128) : idx_main_v255 (ix4 b s h e) = ix4 b s h 0 :=
  funext fun a => match a with | ⟨0, _⟩ => rfl | ⟨1, _⟩ => rfl | ⟨2, _⟩ => rfl | ⟨3, _⟩ => rfl
theorem idx262 (b : Fin 8) (s : Fin 2048) (h : Fin 4) (e : Fin 128) : idx_main_v262 (ix4 b s h e) = ix4 b s h 0 :=
  funext fun a => match a with | ⟨0, _⟩ => rfl | ⟨1, _⟩ => rfl | ⟨2, _⟩ => rfl | ⟨3, _⟩ => rfl
theorem idx267 (b : Fin 8) (s : Fin 2048) (h : Fin 4) (e : Fin 128) : idx_main_v267 (ix4 b s h e) = ix4 b s h 0 :=
  funext fun a => match a with | ⟨0, _⟩ => rfl | ⟨1, _⟩ => rfl | ⟨2, _⟩ => rfl | ⟨3, _⟩ => rfl
theorem idx259 (b : Fin 8) (s : Fin 2048) (h : Fin 4) : idx_main_v259 (ix4 b s h 0) = ix3 b s h :=
  funext fun a => match a with | ⟨0, _⟩ => rfl | ⟨1, _⟩ => rfl | ⟨2, _⟩ => rfl

/-- The centred row, as the variance takes it. -/
theorem v256_apply (x0 x1 x2) (b : Fin 8) (s : Fin 2048) (h : Fin 4) (e : Fin 128) :
    val_main_v256 (F := Ideal) x0 x1 x2 (ix4 b s h e) = centred (fun e => val_main_v250 (F := Ideal) x0 x1 x2 (ix4 b s h e)) e := by
  rw [val_main_v256_apply, val_main_v255_apply, idx255, v254_apply, subf_def]
  generalize val_main_v250 (F := Ideal) x0 x1 x2 = y
  rfl

/-- The centred row, as the norm takes it. -/
theorem v263_apply (x0 x1 x2) (b : Fin 8) (s : Fin 2048) (h : Fin 4) (e : Fin 128) :
    val_main_v263 (F := Ideal) x0 x1 x2 (ix4 b s h e) = centred (fun e => val_main_v250 (F := Ideal) x0 x1 x2 (ix4 b s h e)) e := by
  rw [val_main_v263_apply, val_main_v262_apply, idx262, v254_apply, subf_def]
  generalize val_main_v250 (F := Ideal) x0 x1 x2 = y
  rfl

theorem idx258 (b : Fin 8) (s : Fin 2048) (h : Fin 4) (j : Fin 128) : idx_main_v258 (ix3 b s h) j = ix4 b s h j :=
  funext fun a => match a with | ⟨0, _⟩ => rfl | ⟨1, _⟩ => rfl | ⟨2, _⟩ => rfl | ⟨3, _⟩ => rfl

/-- The sum of the centred row's squares. -/
theorem v258_apply (x0 x1 x2) (b : Fin 8) (s : Fin 2048) (h : Fin 4) :
    val_main_v258 (F := Ideal) x0 x1 x2 (ix3 b s h) = ∑ j, val_main_v256 (F := Ideal) x0 x1 x2 (ix4 b s h j) * val_main_v256 (F := Ideal) x0 x1 x2 (ix4 b s h j) := by
  rw [val_main_v258_apply, show val_main_cst_19 (F := Ideal) (Shape.Idx.first h_S_) = (0 : EReal) from Ideal.ofBits_zero .f32, zero_add]
  refine Finset.sum_congr rfl fun j _ => ?_
  rw [idx258, val_main_v257_apply, mulf_def]

theorem v260_apply (i) : val_main_v260 (F := Ideal) i = Ideal.ofBits .f32 0x43000000#32 := by
  pointwise [val_main_v260, val_main_cst_20]
theorem v264_apply (i) : val_main_v264 (F := Ideal) i = Ideal.ofBits .f32 0x3727C5AC#32 := by
  pointwise [val_main_v264, val_main_cst_21]
theorem divf_def (a b : EReal) : FloatOps.hostDivf (F := Ideal) (φ := .f32) a b = Ideal.div a b := rfl
theorem rsqrt_def (a : EReal) : FloatOps.hostUnary (F := Ideal) (φ := .f32) .rsqrt a = Ideal.rsqrt a := rfl

theorem v266_apply (x0 x1 x2) (b : Fin 8) (s : Fin 2048) (h : Fin 4) :
    val_main_v266 (F := Ideal) x0 x1 x2 (ix4 b s h 0)
      = Ideal.rsqrt (Ideal.div (∑ j, val_main_v256 (F := Ideal) x0 x1 x2 (ix4 b s h j) * val_main_v256 (F := Ideal) x0 x1 x2 (ix4 b s h j)) (Ideal.ofBits .f32 0x43000000#32)
        + Ideal.ofBits .f32 0x3727C5AC#32) := by
  rw [val_main_v266_apply, val_main_v265_apply, val_main_v261_apply, val_main_v259_apply, idx259, v258_apply, v260_apply, v264_apply, divf_def, addf_def, rsqrt_def]

theorem v268_apply (x0 x1 x2) (b : Fin 8) (s : Fin 2048) (h : Fin 4) (e : Fin 128) :
    val_main_v268 (F := Ideal) x0 x1 x2 (ix4 b s h e)
      = grouped (fun e => val_main_v250 (F := Ideal) x0 x1 x2 (ix4 b s h e)) e := by
  rw [val_main_v268_apply, v263_apply, val_main_v267_apply, idx267, v266_apply, mulf_def]
  simp only [v256_apply]
  generalize (fun e => val_main_v250 (F := Ideal) x0 x1 x2 (ix4 b s h e)) = o
  rfl

end Cert.Layer.Retention

end
-- ==== Proof.RetentionRefOut.lean ====
/- The retention reference's output rows: the gate and the output projection. -/
module

public import proofs.«01_k».proof.Proof.RetentionRefHeads
public import proofs.«01_k».proof.Proof.RetentionRefNorm

@[expose] public section

set_option maxRecDepth 16384

noncomputable section

namespace Cert.Layer.Retention

open Cert.RetentionRefIdeal Cert.RetentionRefIdeal.Gen Cert.RetentionRefIdeal.Read Idealize.ShloMosaic Idealize.ShloMosaic.TcCoe Idealize.SL.Sem

theorem v269_apply (x0 x1 x2) (b : Fin 8) (s : Fin 2048) (j : Fin 512) :
    val_main_v269 (F := Ideal) x0 x1 x2 (ix3 b s j)
      = val_main_v268 (F := Ideal) x0 x1 x2 (ix4 b s ⟨j.val / 128, by omega⟩ ⟨j.val % 128, by omega⟩) := by
  unfold val_main_v269
  generalize val_main_v268 (F := Ideal) x0 x1 x2 = y
  pointwise []

theorem v271_apply (x3) (b : Fin 8) (s : Fin 2048) (j : Fin 512) : val_main_v271 (F := Ideal) x3 (ix3 b s j) = x3 (ix1 j) := by
  pointwise [val_main_v271, val_main_v270]

theorem v17_apply (x0 x1 x2) (b : Fin 8) (s : Fin 2048) (j : Fin 512) :
    val_main_v17 (F := Ideal) x0 x1 x2 (ix3 b s j) = val_main_v13 (F := Ideal) x0 x1 x2 (ix3 b s ⟨1024 + j.val, by omega⟩) := by
  unfold val_main_v17
  generalize val_main_v13 (F := Ideal) x0 x1 x2 = z
  pointwise []

theorem v273_apply (x0 x1 x2) (i) : val_main_v273 (F := Ideal) x0 x1 x2 i = silu (val_main_v17 (F := Ideal) x0 x1 x2 i) := by
  rw [val_main_v273_apply, val_main_call1_v5_apply, val_main_call1_v3_apply, val_main_call1_v1_apply, val_main_call1_v0_apply]
  generalize val_main_v17 (F := Ideal) x0 x1 x2 i = z
  pointwise [val_main_call1_v2, val_main_call1_v4, val_main_call1_cst, val_main_call1_cst_0]
  rfl

theorem v274_apply (x0 x1 x2 x3) (b : Fin 8) (s : Fin 2048) (j : Fin 512) :
    val_main_v274 (F := Ideal) x0 x1 x2 x3 (ix3 b s j)
      = mixed T (P x0 x1 x2 b) (fun e => x3 (ix1 e)) (s.val / 128) ⟨s.val % 128, by omega⟩ ⟨j.val / 128, by omega⟩ ⟨j.val % 128, by omega⟩ := by
  have hs : tok (s.val / 128) ⟨s.val % 128, by omega⟩ = s := Fin.ext (show (128 * (s.val / 128) + s.val % 128) % 2048 = s.val by omega)
  have hj : 128 * (j.val / 128) + j.val % 128 = j.val := by omega
  rw [val_main_v274_apply, val_main_v272_apply, v269_apply, v271_apply, v273_apply, v17_apply, v268_apply, v13_apply, mulf_def, mulf_def]
  simp only [v250_apply]
  generalize P x0 x1 x2 b = p
  unfold mixed
  rw [hs]
  simp only [hj]

/-- The output row: the row and its mixed row's output projection. -/
def outRow (x0 : Vec Ideal S8x2048x1024 .f32) (x1 : Vec Ideal S1024 .f32) (x2 : Vec Ideal S1024x2816 .f32) (x3 : Vec Ideal S512 .f32) (x8 : Vec Ideal S1024x1024 .f32)
    (b : Fin 8) (s : Fin 2048) (e : Fin 1024) : EReal :=
  x0 (ix3 b s e) + ∑ j : Fin 512, mixed T (P x0 x1 x2 b) (fun e => x3 (ix1 e)) (s.val / 128) ⟨s.val % 128, by omega⟩ ⟨j.val / 128, by omega⟩ ⟨j.val % 128, by omega⟩
    * x8 (ix2 ⟨j.val, by omega⟩ e)

theorem v277_apply (x0 x1 x2 x3 x8) (b : Fin 8) (s : Fin 2048) (e : Fin 1024) :
    val_main_v277 (F := Ideal) x0 x1 x2 x3 x8 (ix3 b s e)
      = outRow x0 x1 x2 x3 x8 b s e := by
  have hm := fun j => v274_apply x0 x1 x2 x3 b s j
  unfold val_main_v277 val_main_v276 outRow
  generalize val_main_v274 (F := Ideal) x0 x1 x2 x3 = y at hm ⊢
  pointwise [val_main_v275]
  simp only [hm]

end Cert.Layer.Retention

end
-- ==== Proof.RetentionBlocks.lean ====
/- The retention slice's result as one function of the arguments (`G`), and what the blocks of a point are: the rows and
   tables its chunks need (`ready`). -/
module

public import proofs.«01_k».proof.Defs
public import proofs.«01_k».proof.Proof.Gen.RetentionIdeal.Value
public import proofs.«01_k».proof.Proof.Gen.RetentionRefIdeal.Run
public import proofs.«01_k».proof.Proof.RetentionPoint
public import proofs.«01_k».proof.Proof.RetentionTables
public import proofs.«01_k».proof.Proof.RetentionRefOut

@[expose] public section

set_option maxRecDepth 16384

noncomputable section

namespace Cert.Layer.Retention

open Cert.RetentionIdeal Cert.RetentionIdeal.Gen Cert.RetentionIdeal.Value Idealize.ShloMosaic Idealize.ShloMosaic.TcCoe Idealize.SL.Sem

variable (m : (ℓ : Loc nD τ sig) → Buf (Elt Ideal) ℓ) (ρ : Dev nD → PrngReg) (c : Dev nD)

/-- The result array as one function of the argument arrays. -/
def G (a0 : Vec Ideal S8x2048x1024 .f32) (a1 : Vec Ideal S1024 .f32) (a2 : Vec Ideal S1024x2816 .f32) (a3 : Vec Ideal S512 .f32) (a8 : Vec Ideal S1024x1024 .f32) :
    Vec Ideal S8x2048x1024 .f32 := fun i => outRow a0 a1 a2 a3 a8 (i 0) (i 1) (i 2)

/-! ## The windows -/

theorem V1 (k : Fin 1024) : V m c main_v202 (ix2 0 k) = m ((c : Thread nD τ).loc main_arg1) (ix1 k) := by
  unfold V
  after_reads_at

theorem V2 (k : Fin 1024) (e : Fin 2816) : V m c main_v203 (ix2 k e) = m ((c : Thread nD τ).loc main_arg2) (ix2 k e) := by
  unfold V
  after_reads_at

theorem V3 (k e : Fin 1024) : V m c main_v204 (ix2 k e) = m ((c : Thread nD τ).loc main_arg8) (ix2 k e) := by
  unfold V
  after_reads_at

/-- The block indices at a point: the point's batch and tile for the rows, zero for the weights. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx18 : ∀ t : Fin cfg0.N, win0_18.index t (0 : Fin 3) = t.val / 4 ∧ win0_18.index t (1 : Fin 3) = t.val % 4 ∧ win0_18.index t (2 : Fin 3) = 0 :=
  (by decide +kernel : ∀ t : Fin grid0.N, _)
theorem idx4 : ∀ t : Fin cfg0.N, win0_4.index t (0 : Fin 2) = t.val % 4 ∧ win0_4.index t (1 : Fin 2) = 0 := (by decide +kernel : ∀ t : Fin grid0.N, _)
theorem idx5 : ∀ t : Fin cfg0.N, win0_5.index t (0 : Fin 2) = t.val % 4 ∧ win0_5.index t (1 : Fin 2) = 0 := (by decide +kernel : ∀ t : Fin grid0.N, _)
theorem idx6 : ∀ t : Fin cfg0.N, win0_6.index t (0 : Fin 2) = t.val % 4 ∧ win0_6.index t (1 : Fin 2) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 2) = 0 ∧ win0_11.index t (1 : Fin 2) = 0 := (by decide +kernel : ∀ t : Fin grid0.N, _)

theorem iblk0_apply (t : Fin cfg0.N) (r : Fin 512) (k : Fin 1024) :
    iblk m c 0 t (ix3 0 r k) = m ((c : Thread nD τ).loc main_arg0) (ix3 (bat t) (row (t.val % 4) r) k) := by
  rw [← V_main_arg0 m c]
  obtain ⟨e0, e1, e2⟩ := idx0 t
  show V m c main_arg0 (((cfg0.win 0).blk t).view.emb (ix3 0 r k)) = _
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = (512 * (t.val % 4) + r.val) % 2048; omega
  | ⟨2, _⟩ => show win0_0.index t (2 : Fin 3) * 1024 + 1 * k.val = k.val; omega

theorem iblk1_apply (t : Fin cfg0.N) (k : Fin 1024) : iblk m c 1 t (ix2 0 k) = m ((c : Thread nD τ).loc main_arg1) (ix1 k) := by
  rw [← V1 m c]
  obtain ⟨e0, e1⟩ := idx1 t
  show V m c main_v202 (((cfg0.win 1).blk t).view.emb (ix2 0 k)) = _
  congr 1; funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem iblk2_apply (t : Fin cfg0.N) (k : Fin 1024) (e : Fin 2816) : iblk m c 2 t (ix2 k e) = m ((c : Thread nD τ).loc main_arg2) (ix2 k e) := by
  rw [← V2 m c]
  obtain ⟨e0, e1⟩ := idx2 t
  show V m c main_v203 (((cfg0.win 2).blk t).view.emb (ix2 k e)) = _
  congr 1; funext a; apply Fin.ext
  match a with
  | ⟨0, _⟩ => show win0_2.index t (0 : Fin 2) * 1024 + 1 * k.val = k.val; omega
  | ⟨1, _⟩ => show win0_2.index t (1 : Fin 2) * 2816 + 1 * e.val = e.val; omega

theorem iblk3_apply (t : Fin cfg0.N) (k e : Fin 1024) : iblk m c 3 t (ix2 k e) = m ((c : Thread nD τ).loc main_arg8) (ix2 k e) := by
  rw [← V3 m c]
  obtain ⟨e0, e1⟩ := idx3 t
  show V m c main_v204 (((cfg0.win 3).blk t).view.emb (ix2 k e)) = _
  congr 1; funext a; apply Fin.ext
  match a with
  | ⟨0, _⟩ => show win0_3.index t (0 : Fin 2) * 1024 + 1 * k.val = k.val; omega
  | ⟨1, _⟩ => show win0_3.index t (1 : Fin 2) * 1024 + 1 * e.val = e.val; omega

theorem emb18 (t : Fin cfg0.N) (r : Fin 512) (e : Fin 1024) :
    ((cfg0.win 18).blk t).view.emb (ix3 0 r e) = ix3 (bat t) (row (t.val % 4) r) e := by
  obtain ⟨e0, e1, e2⟩ := idx18 t
  funext a; apply Fin.ext
  match a with
  | ⟨0, _⟩ => show win0_18.index t (0 : Fin 3) * 1 + 1 * 0 = t.val / 4; omega
  | ⟨1, _⟩ => show win0_18.index t (1 : Fin 3) * 512 + 1 * r.val = (512 * (t.val % 4) + r.val) % 2048; omega
  | ⟨2, _⟩ => show win0_18.index t (2 : Fin 3) * 1024 + 1 * e.val = e.val; omega

theorem iblk4_apply (t : Fin cfg0.N) (r : Fin 512) (l : Fin 128) : iblk m c 4 t (ix2 r l) = V m c main_v18 (ix2 (row (t.val % 4) r) l) := by
  obtain ⟨e0, e1⟩ := idx4 t
  show V m c main_v18 (((cfg0.win 4).blk t).view.emb (ix2 r l)) = _
  congr 1; funext a; apply Fin.ext
  match a with
  | ⟨0, _⟩ => show win0_4.index t (0 : Fin 2) * 512 + 1 * r.val = (512 * (t.val % 4) + r.val) % 2048; omega
  | ⟨1, _⟩ => show win0_4.index t (1 : Fin 2) * 128 + 1 * l.val = l.val; omega

theorem iblk5_apply (t : Fin cfg0.N) (r : Fin 512) (l : Fin 128) : iblk m c 5 t (ix2 r l) = V m c main_v23 (ix2 (row (t.val % 4) r) l) := by
  obtain ⟨e0, e1⟩ := idx5 t
  show V m c main_v23 (((cfg0.win 5).blk t).view.emb (ix2 r l)) = _
  congr 1; funext a; apply Fin.ext
  match a with
  | ⟨0, _⟩ => show win0_5.index t (0 : Fin 2) * 512 + 1 * r.val = (512 * (t.val % 4) + r.val) % 2048; omega
  | ⟨1, _⟩ => show win0_5.index t (1 : Fin 2) * 128 + 1 * l.val = l.val; omega

theorem iblk6_apply (t : Fin cfg0.N) (r : Fin 512) (l : Fin 128) : iblk m c 6 t (ix2 r l) = V m c main_v27 (ix2 (row (t.val % 4) r) l) := by
  obtain ⟨e0, e1⟩ := idx6 t
  show V m c main_v27 (((cfg0.win 6).blk t).view.emb (ix2 r l)) = _
  congr 1; funext a; apply Fin.ext
  match a with
  | ⟨0, _⟩ => show win0_6.index t (0 : Fin 2) * 512 + 1 * r.val = (512 * (t.val % 4) + r.val) % 2048; omega
  | ⟨1, _⟩ => show win0_6.index t (1 : Fin 2) * 128 + 1 * l.val = l.val; omega

theorem iblk7_apply (t : Fin cfg0.N) (p : Fin 2) (i : Fin 128) (l : Fin 256) : iblk m c 7 t (ix3 p i l) = V m c main_v68 (ix3 p i l) := by
  obtain ⟨e0, e1, e2⟩ := idx7 t
  show V m c main_v68 (((cfg0.win 7).blk t).view.emb (ix3 p i l)) = _
  congr 1; funext a; apply Fin.ext
  match a with
  | ⟨0, _⟩ => show win0_7.index t (0 : Fin 3) * 2 + 1 * p.val = p.val; omega
  | ⟨1, _⟩ => show win0_7.index t (1 : Fin 3) * 128 + 1 * i.val = i.val; omega
  | ⟨2, _⟩ => show win0_7.index t (2 : Fin 3) * 256 + 1 * l.val = l.val; omega

theorem iblk8_apply (t : Fin cfg0.N) (p : Fin 2) (i : Fin 128) (l : Fin 128) : iblk m c 8 t (ix3 p i l) = V m c main_v175 (ix3 p i l) := by
  obtain ⟨e0, e1, e2⟩ := idx8 t
  show V m c main_v175 (((cfg0.win 8).blk t).view.emb (ix3 p i l)) = _
  congr 1; funext a; apply Fin.ext
  match a with
  | ⟨0, _⟩ => show win0_8.index t (0 : Fin 3) * 2 + 1 * p.val = p.val; omega
  | ⟨1, _⟩ => show win0_8.index t (1 : Fin 3) * 128 + 1 * i.val = i.val; omega
  | ⟨2, _⟩ => show win0_8.index t (2 : Fin 3) * 128 + 1 * l.val = l.val; omega

theorem iblk9_apply (t : Fin cfg0.N) (p : Fin 2) (i : Fin 128) (l : Fin 128) : iblk m c 9 t (ix3 p i l) = V m c main_v200 (ix3 p i l) := by
  obtain ⟨e0, e1, e2⟩ := idx9 t
  show V m c main_v200 (((cfg0.win 9).blk t).view.emb (ix3 p i l)) = _
  congr 1; funext a; apply Fin.ext
  match a with
  | ⟨0, _⟩ => show win0_9.index t (0 : Fin 3) * 2 + 1 * p.val = p.val; omega
  | ⟨1, _⟩ => show win0_9.index t (1 : Fin 3) * 128 + 1 * i.val = i.val; omega
  | ⟨2, _⟩ => show win0_9.index t (2 : Fin 3) * 128 + 1 * l.val = l.val; omega

theorem iblk10_apply (t : Fin cfg0.N) (p : Fin 2) (i : Fin 1) (l : Fin 256) : iblk m c 10 t (ix3 p i l) = V m c main_v106 (ix3 p i l) := by
  obtain ⟨e0, e1, e2⟩ := idx10 t
  show V m c main_v106 (((cfg0.win 10).blk t).view.emb (ix3 p i l)) = _
  congr 1; funext a; apply Fin.ext
  match a with
  | ⟨0, _⟩ => show win0_10.index t (0 : Fin 3) * 2 + 1 * p.val = p.val; omega
  | ⟨1, _⟩ => show win0_10.index t (1 : Fin 3) * 1 + 1 * i.val = i.val; omega
  | ⟨2, _⟩ => show win0_10.index t (2 : Fin 3) * 256 + 1 * l.val = l.val; omega

theorem iblk11_apply (t : Fin cfg0.N) (e : Fin 512) : iblk m c 11 t (ix2 0 e) = m ((c : Thread nD τ).loc main_arg3) (ix1 e) := by
  rw [← Vweight m c]
  obtain ⟨e0, e1⟩ := idx11 t
  show V m c main_v205 (((cfg0.win 11).blk t).view.emb (ix2 0 e)) = _
  congr 1; funext a; apply Fin.ext
  match a with
  | ⟨0, _⟩ => show win0_11.index t (0 : Fin 2) * 1 + 1 * 0 = 0; omega
  | ⟨1, _⟩ => show win0_11.index t (1 : Fin 2) * 512 + 1 * e.val = e.val; omega

/-! ## The points -/

/-- A batch's projected rows, and the norm's weight, of the arguments as launched. -/
abbrev rowsOf (b : Fin 8) : Fin 2048 → Fin 2816 → EReal :=
  P (m ((c : Thread nD τ).loc main_arg0)) (m ((c : Thread nD τ).loc main_arg1)) (m ((c : Thread nD τ).loc main_arg2)) b
abbrev weightOf : Fin 512 → EReal := fun e => m ((c : Thread nD τ).loc main_arg3) (ix1 e)

/-- A point's blocks are the tables and projected rows its chunks need. -/
theorem ready (t : Fin cfg0.N) : Ready T (rowsOf m c (bat t)) (weightOf m c) (t.val % 4) (iblk m c 4 t) (iblk m c 5 t) (iblk m c 6 t) (iblk m c 7 t) (iblk m c 8 t)
    (iblk m c 9 t) (iblk m c 10 t) (iblk m c 11 t) (k0_pay38 (iblk m c 0 t) (iblk m c 1 t) (iblk m c 2 t)) where
  cos r j d := (iblk4_apply m c t r _).trans (Vcos m c _ j d)
  sinLo r j d h := (iblk5_apply m c t r _).trans (VsinLo m c _ j d h)
  zeroLo r j d h := (iblk5_apply m c t r _).trans (VzeroLo m c _ j d h)
  zeroHi r j d h := (iblk6_apply m c t r _).trans (VzeroHi m c _ j d h)
  sinHi r j d h := (iblk6_apply m c t r _).trans (VsinHi m c _ j d h)
  dec p j i k := (iblk7_apply m c t p i _).trans (Vdec m c p j i k)
  xi p j i d := (iblk8_apply m c t p i _).trans (Vxi m c p j i d)
  zeta p j i d := (iblk9_apply m c t p i _).trans (Vzeta m c p j i d)
  cd p j e := (iblk10_apply m c t p 0 _).trans (Vcd m c p j e)
  weight e := iblk11_apply m c t e
  rows r k := by
    rw [pay38_apply]
    simp only [iblk0_apply, iblk1_apply, iblk2_apply]
    rfl

end Cert.Layer.Retention

end
-- ==== Proof.RetentionValue.lean ====
/- The retention slice: its result array is `G` of the arguments (`final`), the reference's result is the same function, and
   so the claim. Going through the points of a batch, each finds the state the point before left (`point`). -/
module

public import proofs.«01_k».proof.Proof.RetentionBlocks

@[expose] public section

set_option maxRecDepth 16384

noncomputable section

namespace Cert.Layer.Retention

open Cert.RetentionIdeal Cert.RetentionIdeal.Gen Cert.RetentionIdeal.Value Idealize.ShloMosaic Idealize.ShloMosaic.TcCoe Idealize.SL.Sem

variable (m : (ℓ : Loc nD τ sig) → Buf (Elt Ideal) ℓ) (ρ : Dev nD → PrngReg) (c : Dev nD)

/-- What a point leaves: its rows of the result, and the state before the next point's first chunk. -/
def Leaves (t : Fin cfg0.N) (o : Vec Ideal S1x512x1024 .f32 × Vec Ideal S2x128x256 .f32) : Prop :=
  (∀ r e, o.1 (ix3 0 r e) = rowOut T (rowsOf m c (bat t)) (weightOf m c) (t.val % 4) (iblk m c 0 t) (iblk m c 3 t) r e)
    ∧ Carried T (rowsOf m c (bat t)) (4 * (t.val % 4) + 4) o.2

theorem leavesA (t : Fin cfg0.N) (h0 : t.val % 4 = 0) : Leaves m c t (outsAt0 m c t.val t.isLt) := by
  have R := ready m c t
  unfold Leaves
  rw [h0] at R ⊢
  rw [outsAt0_A m c t h0]
  dsimp only
  refine pointA _ R

theorem leavesB (t : Fin cfg0.N) (h0 : ¬ t.val % 4 = 0)
    (H : Carried T (rowsOf m c (bat t)) (4 * (t.val % 4)) (outsAt0 m c (t.val - 1) (Nat.lt_of_le_of_lt (Nat.sub_le _ _) t.isLt)).2) :
    Leaves m c t (outsAt0 m c t.val t.isLt) := by
  unfold Leaves
  rw [outsAt0_B m c t h0]
  dsimp only
  refine pointB _ (ready m c t) H

/-- Within a batch, the state a point leaves is the one the next point's first chunk takes. -/
theorem next (n : ℕ) (hn : n + 1 < 32) (h0 : ¬ (n + 1) % 4 = 0) {s : Vec Ideal S2x128x256 .f32}
    (H : Carried T (rowsOf m c (bat ⟨n, Nat.lt_of_succ_lt hn⟩)) (4 * (n % 4) + 4) s) : Carried T (rowsOf m c (bat ⟨n + 1, hn⟩)) (4 * ((n + 1) % 4)) s := by
  have e1 : bat ⟨n + 1, hn⟩ = bat ⟨n, Nat.lt_of_succ_lt hn⟩ := Fin.ext (show (n + 1) / 4 = n / 4 by omega)
  have e2 : 4 * ((n + 1) % 4) = 4 * (n % 4) + 4 := by omega
  rw [e1, e2]
  exact H

theorem point : ∀ (n : ℕ) (hn : n < cfg0.N), Leaves m c ⟨n, hn⟩ (outsAt0 m c n hn) := by
  intro n
  induction n with
  | zero => exact fun hn => leavesA m c ⟨0, hn⟩ rfl
  | succ n ih =>
    intro hn
    by_cases h0 : (n + 1) % 4 = 0
    · exact leavesA m c ⟨n + 1, hn⟩ h0
    · exact leavesB m c ⟨n + 1, hn⟩ h0 (next m c n hn h0 (ih (Nat.lt_of_succ_lt hn)).2)

/-! ## The result array -/

/-- `G` of the arguments as launched. -/
abbrev res : Vec Ideal S8x2048x1024 .f32 := G (m ((c : Thread nD τ).loc main_arg0)) (m ((c : Thread nD τ).loc main_arg1))
  (m ((c : Thread nD τ).loc main_arg2)) (m ((c : Thread nD τ).loc main_arg3)) (m ((c : Thread nD τ).loc main_arg8))

theorem rowOut_eq (t : Fin cfg0.N) (r : Fin 512) (e : Fin 1024) :
    rowOut T (rowsOf m c (bat t)) (weightOf m c) (t.val % 4) (iblk m c 0 t) (iblk m c 3 t) r e
      = res m c (ix3 (bat t) (row (t.val % 4) r) e) := by
  have ht : t.val < 32 := t.isLt
  have e1 : (row (t.val % 4) r).val / 128 = 4 * (t.val % 4) + r.val / 128 := by show (512 * (t.val % 4) + r.val) % 2048 / 128 = _; omega
  have e2 : (row (t.val % 4) r).val % 128 = r.val % 128 := by show (512 * (t.val % 4) + r.val) % 2048 % 128 = _; omega
  show _ = outRow _ _ _ _ _ (bat t) (row (t.val % 4) r) e
  unfold rowOut outRow
  simp only [iblk0_apply, iblk3_apply, e1, e2]

theorem flushed_eq (t : Fin cfg0.N) : (dats m 0 c).flushed 18 t = ((cfg0.win 18).blk t).view.read (Elt Ideal) (res m c) := by
  rw [flushed18]
  funext j
  obtain ⟨r, e, rfl⟩ := ix3_one (b := 512) (d := 1024) j
  show (outsAt0 m c t.val t.isLt).1 (ix3 0 r e) = res m c (((cfg0.win 18).blk t).view.emb (ix3 0 r e))
  rw [emb18, ← rowOut_eq]
  exact (point m c t.val t.isLt).1 r e

theorem covered (i : S8x2048x1024.Idx) : ∃ t : Fin cfg0.N, (cfg0.win 18).flush t = true ∧ i ∈ ((cfg0.win 18).blk t).view.set := by
  have h0 : (i 0).val < 8 := (i 0).isLt
  have h1 : (i 1).val < 2048 := (i 1).isLt
  let t : Fin cfg0.N := ⟨4 * (i 0).val + (i 1).val / 512, by show _ < 32; omega⟩
  let r : Fin 512 := ⟨(i 1).val % 512, by omega⟩
  let e : Fin 1024 := i 2
  refine ⟨t, flush0_18 _, ?_⟩
  have h := ((cfg0.win 18).blk t).view.emb_mem_set (ix3 0 r e)
  rw [emb18 t r e] at h
  refine Eq.mp (congrArg (· ∈ _) (funext fun a => Fin.ext ?_)) h
  match a with
  | ⟨0, _⟩ => show (4 * (i 0).val + (i 1).val / 512) / 4 = (i 0).val; omega
  | ⟨1, _⟩ => show (512 * ((4 * (i 0).val + (i 1).val / 512) % 4) + (i 1).val % 512) % 2048 = (i 1).val; omega
  | ⟨2, _⟩ => rfl

theorem final : (dats m 0 c).arrAt 18 cfg0.N = res m c :=
  (dats m 0 c).arrAt_eq_of_cover 18 (res m c) (fun t _ => flushed_eq m c t) covered

theorem run : θ_run defs (onTc (τ := τ) (main (F := Ideal))) ⟨m, fun _ => 0, ρ⟩ fun r => ∀ c : Dev nD,
      r.2.mem ((c : Thread nD τ).loc main_v214) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Layer.Retention

/-! ## The reference -/

namespace Cert.Layer.Retention

open Cert.RetentionRefIdeal Cert.RetentionRefIdeal.Gen Cert.RetentionRefIdeal.Read Idealize.ShloMosaic Idealize.ShloMosaic.TcCoe Idealize.SL.Sem

theorem ref_eq (x0 x1 x2 x3 x8) : val_main_v277 (F := Ideal) x0 x1 x2 x3 x8 = G x0 x1 x2 x3 x8 := by
  funext i
  rw [ix3_eta i]
  exact v277_apply x0 x1 x2 x3 x8 (i 0) (i 1) (i 2)

theorem quiescent_reference : Cert.quiescent_RetentionRefIdeal := fun m ρ _ =>
  (θ_run Cert.RetentionRefIdeal.defs _ _).mono (fun r h => ⟨fun c => (h c).2, sem_eq_zero_of_no_sems (by decide) r.2⟩)
    (Cert.RetentionRefIdeal.Value.run (F := Ideal) m ρ)

theorem algebraic : Cert.algebraic_RetentionIdeal_RetentionRefIdeal := by
  intro m ρ m' ρ' _ hagree
  refine ⟨_, run m ρ, (θ_run Cert.RetentionRefIdeal.defs _ _).mono (fun _ h c => ⟨(h c).1.trans ?_, (h c).2⟩)
    (Cert.RetentionRefIdeal.Value.run (F := Ideal) m' ρ')⟩
  obtain ⟨h0, h1, h2, h3, -, -, -, -, h8⟩ := hagree c
  rw [val_main_v277_eq, ref_eq, res, ← h0, ← h1, ← h2, ← h3, ← h8]

end Cert.Layer.Retention

end
-- ==== Proof.lean ====
/-
  The certificate of one decoder layer run as a single grid of a TPU kernel: the frames of the kernel, of its ideal
  reading and of the reference — the arguments end as they began, every semaphore counter at zero — and that the two
  kernels differ in the named mask only; and for four slices of the layer, the retention, the gates, the retention's q, k and v
  and the attention's, the same and that the kernel computes the reference's value.
-/
module

public import proofs.«01_k».proof.Defs
public import proofs.«01_k».proof.Proof.KernelFrame
public import proofs.«01_k».proof.Proof.KernelIdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.RetQkv
public import proofs.«01_k».proof.Proof.Gen.RetQkv.Frame
public import proofs.«01_k».proof.Proof.Gen.RetQkvIdeal
public import proofs.«01_k».proof.Proof.Gen.RetQkvIdeal.Frame
public import proofs.«01_k».proof.Proof.Gen.RetQkvIdeal.Value
public import proofs.«01_k».proof.Proof.Gen.RetQkvRefIdeal
public import proofs.«01_k».proof.Proof.Gen.RetQkvRefIdeal.Run
public import proofs.«01_k».proof.Proof.Gen.RetQkvRefIdeal.Read
public import proofs.«01_k».proof.Proof.Gen.SwaQkv
public import proofs.«01_k».proof.Proof.Gen.SwaQkv.Frame
public import proofs.«01_k».proof.Proof.Gen.SwaQkvIdeal
public import proofs.«01_k».proof.Proof.Gen.SwaQkvIdeal.Frame
public import proofs.«01_k».proof.Proof.Gen.SwaQkvIdeal.Value
public import proofs.«01_k».proof.Proof.Gen.SwaQkvRefIdeal
public import proofs.«01_k».proof.Proof.Gen.SwaQkvRefIdeal.Run
public import proofs.«01_k».proof.Proof.Gen.SwaQkvRefIdeal.Read
public import proofs.«01_k».proof.Proof.Gen.Retention
public import proofs.«01_k».proof.Proof.Gen.Retention.Frame
public import proofs.«01_k».proof.Proof.Gen.RetentionIdeal
public import proofs.«01_k».proof.Proof.Gen.RetentionIdeal.Frame
public import proofs.«01_k».proof.Proof.Gen.RetentionIdeal.Value
public import proofs.«01_k».proof.Proof.Gen.RetentionRefIdeal
public import proofs.«01_k».proof.Proof.Gen.RetentionRefIdeal.Run
public import proofs.«01_k».proof.Proof.Gen.RetentionRefIdeal.Read
public import proofs.«01_k».proof.Proof.GatesValue
public import proofs.«01_k».proof.Proof.RetQkvValue
public import proofs.«01_k».proof.Proof.SwaQkvValue
public import proofs.«01_k».proof.Proof.RetentionValue
public import Idealize.ShloMosaic.Adequacy
public import Idealize.ShloMosaic.Init

@[expose] public section

noncomputable section

namespace Cert.Proof

open Idealize.ShloMosaic Idealize.SL.Sem Cert.Kernel

/-- The reference's frame, from its run. -/
theorem quiescent_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask's literal is the named constant −∞. -/
theorem preserves_mask : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts,
  Cert.Gates.Gen.facts, Cert.GatesIdeal.Gen.facts, Cert.GatesRefIdeal.Gen.facts,
  Cert.RetQkv.Gen.facts, Cert.RetQkvIdeal.Gen.facts, Cert.RetQkvRefIdeal.Gen.facts,
  Cert.SwaQkv.Gen.facts, Cert.SwaQkvIdeal.Gen.facts, Cert.SwaQkvRefIdeal.Gen.facts,
  Cert.Retention.Gen.facts, Cert.RetentionIdeal.Gen.facts, Cert.RetentionRefIdeal.Gen.facts,
  fun m ρ _ => Cert.Kernel.Layer.frame m ρ,
  fun m ρ _ => Cert.KernelIdeal.Layer.frame m ρ,
  quiescent_reference,
  fun m ρ _ => Cert.Gates.Gen.frame m ρ, fun m ρ _ => Cert.GatesIdeal.Gen.frame m ρ, Cert.Layer.Gates.quiescent_reference,
  fun m ρ _ => Cert.RetQkv.Gen.frame m ρ, fun m ρ _ => Cert.RetQkvIdeal.Gen.frame m ρ, Cert.Layer.RetQkv.quiescent_reference,
  fun m ρ _ => Cert.SwaQkv.Gen.frame m ρ, fun m ρ _ => Cert.SwaQkvIdeal.Gen.frame m ρ, Cert.Layer.SwaQkv.quiescent_reference,
  fun m ρ _ => Cert.Retention.Gen.frame m ρ, fun m ρ _ => Cert.RetentionIdeal.Gen.frame m ρ, Cert.Layer.Retention.quiescent_reference,
  preserves_mask,
  trivial, Cert.Layer.Gates.algebraic,
  trivial, Cert.Layer.RetQkv.algebraic,
  trivial, Cert.Layer.SwaQkv.algebraic,
  trivial, Cert.Layer.Retention.algebraic⟩

end Cert.Proof

end
